-- ==== Defs.lean ====
def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
      ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)) →
    ∃ (v0 : (c : Dev Cert.BackIdeal.nD) → Buf (Elt Ideal) ((c.tc : Thread Cert.BackIdeal.nD Cert.BackIdeal.τ).loc Cert.BackIdeal.main_v2)) (v1 : (c : Dev Cert.BackIdeal.nD) → Buf (Elt Ideal) ((c.tc : Thread Cert.BackIdeal.nD Cert.BackIdeal.τ).loc Cert.BackIdeal.main_v0_0)) (v2 : (c : Dev Cert.BackIdeal.nD) → Buf (Elt Ideal) ((c.tc : Thread Cert.BackIdeal.nD Cert.BackIdeal.τ).loc Cert.BackIdeal.main_v0_1)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v2) = v0 c
          ∧ r.2.mem ((c.tc : Thread Cert.BackIdeal.nD Cert.BackIdeal.τ).loc Cert.BackIdeal.main_v0_0) = v1 c
          ∧ r.2.mem ((c.tc : Thread Cert.BackIdeal.nD Cert.BackIdeal.τ).loc Cert.BackIdeal.main_v0_1) = v2 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v1_0) = v0 c
          ∧ r.2.mem ((c.tc : Thread Cert.BackRefIdeal.nD Cert.BackRefIdeal.τ).loc Cert.BackRefIdeal.main_v1_1) = v1 c
          ∧ r.2.mem ((c.tc : Thread Cert.BackRefIdeal.nD Cert.BackRefIdeal.τ).loc Cert.BackRefIdeal.main_v1_2) = v2 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2)
          ∧ r.2.mem ((c.tc : Thread Cert.BackRefIdeal.nD Cert.BackRefIdeal.τ).loc Cert.BackRefIdeal.main_arg3) = m' ((c.tc : Thread Cert.BackRefIdeal.nD Cert.BackRefIdeal.τ).loc Cert.BackRefIdeal.main_arg3)
          ∧ r.2.mem ((c.tc : Thread Cert.BackRefIdeal.nD Cert.BackRefIdeal.τ).loc Cert.BackRefIdeal.main_arg4) = m' ((c.tc : Thread Cert.BackRefIdeal.nD Cert.BackRefIdeal.τ).loc Cert.BackRefIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v1) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v1) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Ln_LnIdeal : Prop :=
  IdealRules.named_const.Statement Cert.LnIdeal.κ "inv_width" .f32 0x38AAAAAB#32 ((1 / 12288 : ℝ) : EReal)

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)) →
    ∃ (v0 : (c : Dev Cert.LnIdeal.nD) → Buf (Elt Ideal) ((c.tc : Thread Cert.LnIdeal.nD Cert.LnIdeal.τ).loc Cert.LnIdeal.main_v1_0)) (v1 : (c : Dev Cert.LnIdeal.nD) → Buf (Elt Ideal) ((c.tc : Thread Cert.LnIdeal.nD Cert.LnIdeal.τ).loc Cert.LnIdeal.main_v1_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v1_0) = v0 c
          ∧ r.2.mem ((c.tc : Thread Cert.LnIdeal.nD Cert.LnIdeal.τ).loc Cert.LnIdeal.main_v1_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v1_0) = v0 c
          ∧ r.2.mem ((c.tc : Thread Cert.LnRefIdeal.nD Cert.LnRefIdeal.τ).loc Cert.LnRefIdeal.main_v1_1) = v1 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v8_0)) (v1 : (c : Dev Cert.QkvIdeal.nD) → Buf (Elt Ideal) ((c.tc : Thread Cert.QkvIdeal.nD Cert.QkvIdeal.τ).loc Cert.QkvIdeal.main_v8_1)) (v2 : (c : Dev Cert.QkvIdeal.nD) → Buf (Elt Ideal) ((c.tc : Thread Cert.QkvIdeal.nD Cert.QkvIdeal.τ).loc Cert.QkvIdeal.main_v8_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v8_0) = v0 c
          ∧ r.2.mem ((c.tc : Thread Cert.QkvIdeal.nD Cert.QkvIdeal.τ).loc Cert.QkvIdeal.main_v8_1) = v1 c
          ∧ r.2.mem ((c.tc : Thread Cert.QkvIdeal.nD Cert.QkvIdeal.τ).loc Cert.QkvIdeal.main_v8_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v1_0) = v0 c
          ∧ r.2.mem ((c.tc : Thread Cert.QkvRefIdeal.nD Cert.QkvRefIdeal.τ).loc Cert.QkvRefIdeal.main_v1_1) = v1 c
          ∧ r.2.mem ((c.tc : Thread Cert.QkvRefIdeal.nD Cert.QkvRefIdeal.τ).loc Cert.QkvRefIdeal.main_v1_2) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def Claim : Prop :=
  ∃ (hBack : Cert.Back.Facts) (hBackIdeal : Cert.BackIdeal.Facts) (hBackRefIdeal : Cert.BackRefIdeal.Facts) (hMlp : Cert.Mlp.Facts) (hMlpIdeal : Cert.MlpIdeal.Facts) (hMlpRefIdeal : Cert.MlpRefIdeal.Facts) (hLn : Cert.Ln.Facts) (hLnIdeal : Cert.LnIdeal.Facts) (hLnRefIdeal : Cert.LnRefIdeal.Facts) (hQkv : Cert.Qkv.Facts) (hQkvIdeal : Cert.QkvIdeal.Facts) (hQkvRefIdeal : Cert.QkvRefIdeal.Facts),
    quiescent_Back (hBack := hBack)
    ∧ quiescent_BackIdeal (hBackIdeal := hBackIdeal)
    ∧ quiescent_BackRefIdeal (hBackRefIdeal := hBackRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Ln (hLn := hLn)
    ∧ quiescent_LnIdeal (hLnIdeal := hLnIdeal)
    ∧ quiescent_LnRefIdeal (hLnRefIdeal := hLnRefIdeal)
    ∧ quiescent_Qkv (hQkv := hQkv)
    ∧ quiescent_QkvIdeal (hQkvIdeal := hQkvIdeal)
    ∧ quiescent_QkvRefIdeal (hQkvRefIdeal := hQkvRefIdeal)
    ∧ preserves_Back_BackIdeal
    ∧ algebraic_BackIdeal_BackRefIdeal (hBackIdeal := hBackIdeal) (hBackRefIdeal := hBackRefIdeal)
    ∧ preserves_Mlp_MlpIdeal
    ∧ algebraic_MlpIdeal_MlpRefIdeal (hMlpIdeal := hMlpIdeal) (hMlpRefIdeal := hMlpRefIdeal)
    ∧ preserves_Ln_LnIdeal
    ∧ algebraic_LnIdeal_LnRefIdeal (hLnIdeal := hLnIdeal) (hLnRefIdeal := hLnRefIdeal)
    ∧ preserves_Qkv_QkvIdeal
    ∧ algebraic_QkvIdeal_QkvRefIdeal (hQkvIdeal := hQkvIdeal) (hQkvRefIdeal := hQkvRefIdeal)
-- ==== Back.lean ====
abbrev S10752x3072 : Shape := ⟨2, ![10752, 3072]⟩
abbrev S10752x8448 : Shape := ⟨2, ![10752, 8448]⟩
abbrev S11520x12288 : Shape := ⟨2, ![11520, 12288]⟩
abbrev S12288 : Shape := ⟨1, ![12288]⟩
abbrev S10752x12288 : Shape := ⟨2, ![10752, 12288]⟩
abbrev S10752x11520 : Shape := ⟨2, ![10752, 11520]⟩
abbrev S10752x1 : Shape := ⟨2, ![10752, 1]⟩
abbrev S256x3072 : Shape := ⟨2, ![256, 3072]⟩
abbrev S256x8448 : Shape := ⟨2, ![256, 8448]⟩
abbrev S256x11520 : Shape := ⟨2, ![256, 11520]⟩
abbrev S256x1 : Shape := ⟨2, ![256, 1]⟩
abbrev S32x128 : Shape := ⟨2, ![32, 128]⟩
abbrev S32 : Shape := ⟨1, ![32]⟩
abbrev S32x1 : Shape := ⟨2, ![32, 1]⟩
abbrev S1x12288 : Shape := ⟨2, ![1, 12288]⟩
abbrev S768x11520 : Shape := ⟨2, ![768, 11520]⟩
abbrev S11520x512 : Shape := ⟨2, ![11520, 512]⟩
abbrev S768x1 : Shape := ⟨2, ![768, 1]⟩
abbrev S1x512 : Shape := ⟨2, ![1, 512]⟩
abbrev S768x512 : Shape := ⟨2, ![768, 512]⟩

abbrev nBuf : Space → Nat
  | .hbm => 9
  | .vmem => 20
  | .smem => 0
  | _ => 0

abbrev bufTy : (tb : Table) → Fin (tcTables nBuf tb) → BufTy
  | .hbm, ⟨0, _⟩ => ⟨S10752x3072, .f32⟩
  | .hbm, ⟨1, _⟩ => ⟨S10752x8448, .f32⟩
  | .hbm, ⟨2, _⟩ => ⟨S11520x12288, .fp8e4m3⟩
  | .hbm, ⟨3, _⟩ => ⟨S12288, .f32⟩
  | .hbm, ⟨4, _⟩ => ⟨S10752x12288, .bf16⟩
  | .hbm, ⟨5, _⟩ => ⟨S10752x11520, .fp8e4m3⟩
  | .hbm, ⟨6, _⟩ => ⟨S10752x1, .f32⟩
  | .hbm, ⟨7, _⟩ => ⟨S1x12288, .f32⟩
  | .hbm, ⟨8, _⟩ => ⟨S10752x12288, .bf16⟩
  | .local _ .vmem, ⟨0, _⟩ => ⟨S256x3072, .f32⟩
  | .local _ .vmem, ⟨1, _⟩ => ⟨S256x3072, .f32⟩
  | .local _ .vmem, ⟨2, _⟩ => ⟨S256x8448, .f32⟩
  | .local _ .vmem, ⟨3, _⟩ => ⟨S256x8448, .f32⟩
  | .local _ .vmem, ⟨4, _⟩ => ⟨S256x11520, .fp8e4m3⟩
  | .local _ .vmem, ⟨5, _⟩ => ⟨S256x11520, .fp8e4m3⟩
  | .local _ .vmem, ⟨6, _⟩ => ⟨S256x1, .f32⟩
  | .local _ .vmem, ⟨7, _⟩ => ⟨S256x1, .f32⟩
  | .local _ .vmem, ⟨8, _⟩ => ⟨S768x11520, .fp8e4m3⟩
  | .local _ .vmem, ⟨9, _⟩ => ⟨S768x11520, .fp8e4m3⟩
  | .local _ .vmem, ⟨10, _⟩ => ⟨S11520x512, .fp8e4m3⟩
  | .local _ .vmem, ⟨11, _⟩ => ⟨S11520x512, .fp8e4m3⟩
  | .local _ .vmem, ⟨12, _⟩ => ⟨S768x1, .f32⟩
  | .local _ .vmem, ⟨13, _⟩ => ⟨S768x1, .f32⟩
  | .local _ .vmem, ⟨14, _⟩ => ⟨S1x512, .f32⟩
  | .local _ .vmem, ⟨15, _⟩ => ⟨S1x512, .f32⟩
  | .local _ .vmem, ⟨16, _⟩ => ⟨S768x512, .bf16⟩
  | .local _ .vmem, ⟨17, _⟩ => ⟨S768x512, .bf16⟩
  | .local _ .vmem, ⟨18, _⟩ => ⟨S768x512, .bf16⟩
  | .local _ .vmem, ⟨19, _⟩ => ⟨S768x512, .bf16⟩
  | _, _ => ⟨S10752x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![42], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  v1
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v4 : Index := Scalar.indexCast v2
  let c0 : Index := 0#32
  ![v4.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v8 : Index := Scalar.indexCast v2
  let c128 : Index := 128#32
  ![v8.toNat, 128]
def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v12 : Index := Scalar.indexCast v2
  let c256 : Index := 256#32
  ![v12.toNat, 256]
def k0_off4 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v16 : Index := Scalar.indexCast v2
  let c384 : Index := 384#32
  ![v16.toNat, 384]
def k0_off5 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v20 : Index := Scalar.indexCast v2
  let c512 : Index := 512#32
  ![v20.toNat, 512]
def k0_off6 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v24 : Index := Scalar.indexCast v2
  let c640 : Index := 640#32
  ![v24.toNat, 640]
def k0_off7 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v28 : Index := Scalar.indexCast v2
  let c768 : Index := 768#32
  ![v28.toNat, 768]
def k0_off8 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v32 : Index := Scalar.indexCast v2
  let c896 : Index := 896#32
  ![v32.toNat, 896]
def k0_off9 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v36 : Index := Scalar.indexCast v2
  let c1024 : Index := 1024#32
  ![v36.toNat, 1024]
def k0_off10 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v40 : Index := Scalar.indexCast v2
  let c1152 : Index := 1152#32
  ![v40.toNat, 1152]
def k0_off11 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v44 : Index := Scalar.indexCast v2
  let c1280 : Index := 1280#32
  ![v44.toNat, 1280]
def k0_off12 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v48 : Index := Scalar.indexCast v2
  let c1408 : Index := 1408#32
  ![v48.toNat, 1408]
def k0_off13 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v52 : Index := Scalar.indexCast v2
  let c1536 : Index := 1536#32
  ![v52.toNat, 1536]
def k0_off14 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v56 : Index := Scalar.indexCast v2
  let c1664 : Index := 1664#32
  ![v56.toNat, 1664]
def k0_off15 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v60 : Index := Scalar.indexCast v2
  let c1792 : Index := 1792#32
  ![v60.toNat, 1792]
def k0_off16 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v64 : Index := Scalar.indexCast v2
  let c1920 : Index := 1920#32
  ![v64.toNat, 1920]
def k0_off17 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v68 : Index := Scalar.indexCast v2
  let c2048 : Index := 2048#32
  ![v68.toNat, 2048]
def k0_off18 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v72 : Index := Scalar.indexCast v2
  let c2176 : Index := 2176#32
  ![v72.toNat, 2176]
def k0_off19 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v76 : Index := Scalar.indexCast v2
  let c2304 : Index := 2304#32
  ![v76.toNat, 2304]
def k0_off20 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v80 : Index := Scalar.indexCast v2
  let c2432 : Index := 2432#32
  ![v80.toNat, 2432]
def k0_off21 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v84 : Index := Scalar.indexCast v2
  let c2560 : Index := 2560#32
  ![v84.toNat, 2560]
def k0_off22 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v88 : Index := Scalar.indexCast v2
  let c2688 : Index := 2688#32
  ![v88.toNat, 2688]
def k0_off23 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v92 : Index := Scalar.indexCast v2
  let c2816 : Index := 2816#32
  ![v92.toNat, 2816]
def k0_off24 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v96 : Index := Scalar.indexCast v2
  let c2944 : Index := 2944#32
  ![v96.toNat, 2944]
def k0_off25 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v100 : Index := Scalar.indexCast v2
  let c0_1 : Index := 0#32
  ![v100.toNat, 0]
def k0_off26 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v104 : Index := Scalar.indexCast v2
  let c128_2 : Index := 128#32
  ![v104.toNat, 128]
def k0_off27 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v108 : Index := Scalar.indexCast v2
  let c256_3 : Index := 256#32
  ![v108.toNat, 256]
def k0_off28 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v112 : Index := Scalar.indexCast v2
  let c384_4 : Index := 384#32
  ![v112.toNat, 384]
def k0_off29 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v116 : Index := Scalar.indexCast v2
  let c512_5 : Index := 512#32
  ![v116.toNat, 512]
def k0_off30 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v120 : Index := Scalar.indexCast v2
  let c640_6 : Index := 640#32
  ![v120.toNat, 640]
def k0_off31 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v124 : Index := Scalar.indexCast v2
  let c768_7 : Index := 768#32
  ![v124.toNat, 768]
def k0_off32 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v128 : Index := Scalar.indexCast v2
  let c896_8 : Index := 896#32
  ![v128.toNat, 896]
def k0_off33 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v132 : Index := Scalar.indexCast v2
  let c1024_9 : Index := 1024#32
  ![v132.toNat, 1024]
def k0_off34 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v136 : Index := Scalar.indexCast v2
  let c1152_10 : Index := 1152#32
  ![v136.toNat, 1152]
def k0_off35 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v140 : Index := Scalar.indexCast v2
  let c1280_11 : Index := 1280#32
  ![v140.toNat, 1280]
def k0_off36 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v144 : Index := Scalar.indexCast v2
  let c1408_12 : Index := 1408#32
  ![v144.toNat, 1408]
def k0_off37 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v148 : Index := Scalar.indexCast v2
  let c1536_13 : Index := 1536#32
  ![v148.toNat, 1536]
def k0_off38 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v152 : Index := Scalar.indexCast v2
  let c1664_14 : Index := 1664#32
  ![v152.toNat, 1664]
def k0_off39 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v156 : Index := Scalar.indexCast v2
  let c1792_15 : Index := 1792#32
  ![v156.toNat, 1792]
def k0_off40 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v160 : Index := Scalar.indexCast v2
  let c1920_16 : Index := 1920#32
  ![v160.toNat, 1920]
def k0_off41 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v164 : Index := Scalar.indexCast v2
  let c2048_17 : Index := 2048#32
  ![v164.toNat, 2048]
def k0_off42 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v168 : Index := Scalar.indexCast v2
  let c2176_18 : Index := 2176#32
  ![v168.toNat, 2176]
def k0_off43 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v172 : Index := Scalar.indexCast v2
  let c2304_19 : Index := 2304#32
  ![v172.toNat, 2304]
def k0_off44 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v176 : Index := Scalar.indexCast v2
  let c2432_20 : Index := 2432#32
  ![v176.toNat, 2432]
def k0_off45 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v180 : Index := Scalar.indexCast v2
  let c2560_21 : Index := 2560#32
  ![v180.toNat, 2560]
def k0_off46 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v184 : Index := Scalar.indexCast v2
  let c2688_22 : Index := 2688#32
  ![v184.toNat, 2688]
def k0_off47 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v188 : Index := Scalar.indexCast v2
  let c2816_23 : Index := 2816#32
  ![v188.toNat, 2816]
def k0_off48 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v192 : Index := Scalar.indexCast v2
  let c2944_24 : Index := 2944#32
  ![v192.toNat, 2944]
def k0_off49 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v196 : Index := Scalar.indexCast v2
  let c3072 : Index := 3072#32
  ![v196.toNat, 3072]
def k0_off50 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v200 : Index := Scalar.indexCast v2
  let c3200 : Index := 3200#32
  ![v200.toNat, 3200]
def k0_off51 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v204 : Index := Scalar.indexCast v2
  let c3328 : Index := 3328#32
  ![v204.toNat, 3328]
def k0_off52 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v208 : Index := Scalar.indexCast v2
  let c3456 : Index := 3456#32
  ![v208.toNat, 3456]
def k0_off53 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v212 : Index := Scalar.indexCast v2
  let c3584 : Index := 3584#32
  ![v212.toNat, 3584]
def k0_off54 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v216 : Index := Scalar.indexCast v2
  let c3712 : Index := 3712#32
  ![v216.toNat, 3712]
def k0_off55 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v220 : Index := Scalar.indexCast v2
  let c3840 : Index := 3840#32
  ![v220.toNat, 3840]
def k0_off56 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v224 : Index := Scalar.indexCast v2
  let c3968 : Index := 3968#32
  ![v224.toNat, 3968]
def k0_off57 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v228 : Index := Scalar.indexCast v2
  let c4096 : Index := 4096#32
  ![v228.toNat, 4096]
def k0_off58 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v232 : Index := Scalar.indexCast v2
  let c4224 : Index := 4224#32
  ![v232.toNat, 4224]
def k0_off59 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v236 : Index := Scalar.indexCast v2
  let c4352 : Index := 4352#32
  ![v236.toNat, 4352]
def k0_off60 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v240 : Index := Scalar.indexCast v2
  let c4480 : Index := 4480#32
  ![v240.toNat, 4480]
def k0_off61 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v244 : Index := Scalar.indexCast v2
  let c4608 : Index := 4608#32
  ![v244.toNat, 4608]
def k0_off62 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v248 : Index := Scalar.indexCast v2
  let c4736 : Index := 4736#32
  ![v248.toNat, 4736]
def k0_off63 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v252 : Index := Scalar.indexCast v2
  let c4864 : Index := 4864#32
  ![v252.toNat, 4864]
def k0_off64 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v256 : Index := Scalar.indexCast v2
  let c4992 : Index := 4992#32
  ![v256.toNat, 4992]
def k0_off65 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v260 : Index := Scalar.indexCast v2
  let c5120 : Index := 5120#32
  ![v260.toNat, 5120]
def k0_off66 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v264 : Index := Scalar.indexCast v2
  let c5248 : Index := 5248#32
  ![v264.toNat, 5248]
def k0_off67 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v268 : Index := Scalar.indexCast v2
  let c5376 : Index := 5376#32
  ![v268.toNat, 5376]
def k0_off68 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v272 : Index := Scalar.indexCast v2
  let c5504 : Index := 5504#32
  ![v272.toNat, 5504]
def k0_off69 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v276 : Index := Scalar.indexCast v2
  let c5632 : Index := 5632#32
  ![v276.toNat, 5632]
def k0_off70 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v280 : Index := Scalar.indexCast v2
  let c5760 : Index := 5760#32
  ![v280.toNat, 5760]
def k0_off71 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v284 : Index := Scalar.indexCast v2
  let c5888 : Index := 5888#32
  ![v284.toNat, 5888]
def k0_off72 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v288 : Index := Scalar.indexCast v2
  let c6016 : Index := 6016#32
  ![v288.toNat, 6016]
def k0_off73 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v292 : Index := Scalar.indexCast v2
  let c6144 : Index := 6144#32
  ![v292.toNat, 6144]
def k0_off74 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v296 : Index := Scalar.indexCast v2
  let c6272 : Index := 6272#32
  ![v296.toNat, 6272]
def k0_off75 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v300 : Index := Scalar.indexCast v2
  let c6400 : Index := 6400#32
  ![v300.toNat, 6400]
def k0_off76 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v304 : Index := Scalar.indexCast v2
  let c6528 : Index := 6528#32
  ![v304.toNat, 6528]
def k0_off77 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v308 : Index := Scalar.indexCast v2
  let c6656 : Index := 6656#32
  ![v308.toNat, 6656]
def k0_off78 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v312 : Index := Scalar.indexCast v2
  let c6784 : Index := 6784#32
  ![v312.toNat, 6784]
def k0_off79 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v316 : Index := Scalar.indexCast v2
  let c6912 : Index := 6912#32
  ![v316.toNat, 6912]
def k0_off80 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v320 : Index := Scalar.indexCast v2
  let c7040 : Index := 7040#32
  ![v320.toNat, 7040]
def k0_off81 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v324 : Index := Scalar.indexCast v2
  let c7168 : Index := 7168#32
  ![v324.toNat, 7168]
def k0_off82 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v328 : Index := Scalar.indexCast v2
  let c7296 : Index := 7296#32
  ![v328.toNat, 7296]
def k0_off83 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v332 : Index := Scalar.indexCast v2
  let c7424 : Index := 7424#32
  ![v332.toNat, 7424]
def k0_off84 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v336 : Index := Scalar.indexCast v2
  let c7552 : Index := 7552#32
  ![v336.toNat, 7552]
def k0_off85 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v340 : Index := Scalar.indexCast v2
  let c7680 : Index := 7680#32
  ![v340.toNat, 7680]
def k0_off86 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v344 : Index := Scalar.indexCast v2
  let c7808 : Index := 7808#32
  ![v344.toNat, 7808]
def k0_off87 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v348 : Index := Scalar.indexCast v2
  let c7936 : Index := 7936#32
  ![v348.toNat, 7936]
def k0_off88 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v352 : Index := Scalar.indexCast v2
  let c8064 : Index := 8064#32
  ![v352.toNat, 8064]
def k0_off89 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v356 : Index := Scalar.indexCast v2
  let c8192 : Index := 8192#32
  ![v356.toNat, 8192]
def k0_off90 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v360 : Index := Scalar.indexCast v2
  let c8320 : Index := 8320#32
  ![v360.toNat, 8320]
def k0_off91 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v372 : Index := Scalar.indexCast v2
  let c0_29 : Index := 0#32
  ![v372.toNat, 0]
def k0_off92 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v385 : Index := Scalar.indexCast v2
  let c0_34 : Index := 0#32
  ![v385.toNat, 0]
def k0_off93 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v396 : Index := Scalar.indexCast v2
  let c128_38 : Index := 128#32
  ![v396.toNat, 128]
def k0_off94 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v407 : Index := Scalar.indexCast v2
  let c256_42 : Index := 256#32
  ![v407.toNat, 256]
def k0_off95 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v418 : Index := Scalar.indexCast v2
  let c384_46 : Index := 384#32
  ![v418.toNat, 384]
def k0_off96 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v429 : Index := Scalar.indexCast v2
  let c512_50 : Index := 512#32
  ![v429.toNat, 512]
def k0_off97 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v440 : Index := Scalar.indexCast v2
  let c640_54 : Index := 640#32
  ![v440.toNat, 640]
def k0_off98 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v451 : Index := Scalar.indexCast v2
  let c768_58 : Index := 768#32
  ![v451.toNat, 768]
def k0_off99 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v462 : Index := Scalar.indexCast v2
  let c896_62 : Index := 896#32
  ![v462.toNat, 896]
def k0_off100 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v473 : Index := Scalar.indexCast v2
  let c1024_66 : Index := 1024#32
  ![v473.toNat, 1024]
def k0_off101 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v484 : Index := Scalar.indexCast v2
  let c1152_70 : Index := 1152#32
  ![v484.toNat, 1152]
def k0_off102 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v495 : Index := Scalar.indexCast v2
  let c1280_74 : Index := 1280#32
  ![v495.toNat, 1280]
def k0_off103 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v506 : Index := Scalar.indexCast v2
  let c1408_78 : Index := 1408#32
  ![v506.toNat, 1408]
def k0_off104 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v517 : Index := Scalar.indexCast v2
  let c1536_82 : Index := 1536#32
  ![v517.toNat, 1536]
def k0_off105 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v528 : Index := Scalar.indexCast v2
  let c1664_86 : Index := 1664#32
  ![v528.toNat, 1664]
def k0_off106 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v539 : Index := Scalar.indexCast v2
  let c1792_90 : Index := 1792#32
  ![v539.toNat, 1792]
def k0_off107 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v550 : Index := Scalar.indexCast v2
  let c1920_94 : Index := 1920#32
  ![v550.toNat, 1920]
def k0_off108 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v561 : Index := Scalar.indexCast v2
  let c2048_98 : Index := 2048#32
  ![v561.toNat, 2048]
def k0_off109 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v572 : Index := Scalar.indexCast v2
  let c2176_102 : Index := 2176#32
  ![v572.toNat, 2176]
def k0_off110 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v583 : Index := Scalar.indexCast v2
  let c2304_106 : Index := 2304#32
  ![v583.toNat, 2304]
def k0_off111 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v594 : Index := Scalar.indexCast v2
  let c2432_110 : Index := 2432#32
  ![v594.toNat, 2432]
def k0_off112 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v605 : Index := Scalar.indexCast v2
  let c2560_114 : Index := 2560#32
  ![v605.toNat, 2560]
def k0_off113 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v616 : Index := Scalar.indexCast v2
  let c2688_118 : Index := 2688#32
  ![v616.toNat, 2688]
def k0_off114 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v627 : Index := Scalar.indexCast v2
  let c2816_122 : Index := 2816#32
  ![v627.toNat, 2816]
def k0_off115 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v638 : Index := Scalar.indexCast v2
  let c2944_126 : Index := 2944#32
  ![v638.toNat, 2944]
def k0_off116 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v649 : Index := Scalar.indexCast v2
  let c3072_130 : Index := 3072#32
  ![v649.toNat, 3072]
def k0_off117 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v660 : Index := Scalar.indexCast v2
  let c3200_134 : Index := 3200#32
  ![v660.toNat, 3200]
def k0_off118 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v671 : Index := Scalar.indexCast v2
  let c3328_138 : Index := 3328#32
  ![v671.toNat, 3328]
def k0_off119 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v682 : Index := Scalar.indexCast v2
  let c3456_142 : Index := 3456#32
  ![v682.toNat, 3456]
def k0_off120 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v693 : Index := Scalar.indexCast v2
  let c3584_146 : Index := 3584#32
  ![v693.toNat, 3584]
def k0_off121 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v704 : Index := Scalar.indexCast v2
  let c3712_150 : Index := 3712#32
  ![v704.toNat, 3712]
def k0_off122 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v715 : Index := Scalar.indexCast v2
  let c3840_154 : Index := 3840#32
  ![v715.toNat, 3840]
def k0_off123 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v726 : Index := Scalar.indexCast v2
  let c3968_158 : Index := 3968#32
  ![v726.toNat, 3968]
def k0_off124 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v737 : Index := Scalar.indexCast v2
  let c4096_162 : Index := 4096#32
  ![v737.toNat, 4096]
def k0_off125 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v748 : Index := Scalar.indexCast v2
  let c4224_166 : Index := 4224#32
  ![v748.toNat, 4224]
def k0_off126 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v759 : Index := Scalar.indexCast v2
  let c4352_170 : Index := 4352#32
  ![v759.toNat, 4352]
def k0_off127 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v770 : Index := Scalar.indexCast v2
  let c4480_174 : Index := 4480#32
  ![v770.toNat, 4480]
def k0_off128 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v781 : Index := Scalar.indexCast v2
  let c4608_178 : Index := 4608#32
  ![v781.toNat, 4608]
def k0_off129 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v792 : Index := Scalar.indexCast v2
  let c4736_182 : Index := 4736#32
  ![v792.toNat, 4736]
def k0_off130 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v803 : Index := Scalar.indexCast v2
  let c4864_186 : Index := 4864#32
  ![v803.toNat, 4864]
def k0_off131 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v814 : Index := Scalar.indexCast v2
  let c4992_190 : Index := 4992#32
  ![v814.toNat, 4992]
def k0_off132 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v825 : Index := Scalar.indexCast v2
  let c5120_194 : Index := 5120#32
  ![v825.toNat, 5120]
def k0_off133 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v836 : Index := Scalar.indexCast v2
  let c5248_198 : Index := 5248#32
  ![v836.toNat, 5248]
def k0_off134 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v847 : Index := Scalar.indexCast v2
  let c5376_202 : Index := 5376#32
  ![v847.toNat, 5376]
def k0_off135 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v858 : Index := Scalar.indexCast v2
  let c5504_206 : Index := 5504#32
  ![v858.toNat, 5504]
def k0_off136 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v869 : Index := Scalar.indexCast v2
  let c5632_210 : Index := 5632#32
  ![v869.toNat, 5632]
def k0_off137 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v880 : Index := Scalar.indexCast v2
  let c5760_214 : Index := 5760#32
  ![v880.toNat, 5760]
def k0_off138 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v891 : Index := Scalar.indexCast v2
  let c5888_218 : Index := 5888#32
  ![v891.toNat, 5888]
def k0_off139 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v902 : Index := Scalar.indexCast v2
  let c6016_222 : Index := 6016#32
  ![v902.toNat, 6016]
def k0_off140 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v913 : Index := Scalar.indexCast v2
  let c6144_226 : Index := 6144#32
  ![v913.toNat, 6144]
def k0_off141 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v924 : Index := Scalar.indexCast v2
  let c6272_230 : Index := 6272#32
  ![v924.toNat, 6272]
def k0_off142 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v935 : Index := Scalar.indexCast v2
  let c6400_234 : Index := 6400#32
  ![v935.toNat, 6400]
def k0_off143 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v946 : Index := Scalar.indexCast v2
  let c6528_238 : Index := 6528#32
  ![v946.toNat, 6528]
def k0_off144 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v957 : Index := Scalar.indexCast v2
  let c6656_242 : Index := 6656#32
  ![v957.toNat, 6656]
def k0_off145 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v968 : Index := Scalar.indexCast v2
  let c6784_246 : Index := 6784#32
  ![v968.toNat, 6784]
def k0_off146 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v979 : Index := Scalar.indexCast v2
  let c6912_250 : Index := 6912#32
  ![v979.toNat, 6912]
def k0_off147 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v990 : Index := Scalar.indexCast v2
  let c7040_254 : Index := 7040#32
  ![v990.toNat, 7040]
def k0_off148 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1001 : Index := Scalar.indexCast v2
  let c7168_258 : Index := 7168#32
  ![v1001.toNat, 7168]
def k0_off149 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1012 : Index := Scalar.indexCast v2
  let c7296_262 : Index := 7296#32
  ![v1012.toNat, 7296]
def k0_off150 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1023 : Index := Scalar.indexCast v2
  let c7424_266 : Index := 7424#32
  ![v1023.toNat, 7424]
def k0_off151 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1034 : Index := Scalar.indexCast v2
  let c7552_270 : Index := 7552#32
  ![v1034.toNat, 7552]
def k0_off152 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1045 : Index := Scalar.indexCast v2
  let c7680_274 : Index := 7680#32
  ![v1045.toNat, 7680]
def k0_off153 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1056 : Index := Scalar.indexCast v2
  let c7808_278 : Index := 7808#32
  ![v1056.toNat, 7808]
def k0_off154 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1067 : Index := Scalar.indexCast v2
  let c7936_282 : Index := 7936#32
  ![v1067.toNat, 7936]
def k0_off155 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1078 : Index := Scalar.indexCast v2
  let c8064_286 : Index := 8064#32
  ![v1078.toNat, 8064]
def k0_off156 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1089 : Index := Scalar.indexCast v2
  let c8192_290 : Index := 8192#32
  ![v1089.toNat, 8192]
def k0_off157 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1100 : Index := Scalar.indexCast v2
  let c8320_294 : Index := 8320#32
  ![v1100.toNat, 8320]
def k0_off158 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1111 : Index := Scalar.indexCast v2
  let c8448 : Index := 8448#32
  ![v1111.toNat, 8448]
def k0_off159 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1122 : Index := Scalar.indexCast v2
  let c8576 : Index := 8576#32
  ![v1122.toNat, 8576]
def k0_off160 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1133 : Index := Scalar.indexCast v2
  let c8704 : Index := 8704#32
  ![v1133.toNat, 8704]
def k0_off161 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1144 : Index := Scalar.indexCast v2
  let c8832 : Index := 8832#32
  ![v1144.toNat, 8832]
def k0_off162 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1155 : Index := Scalar.indexCast v2
  let c8960 : Index := 8960#32
  ![v1155.toNat, 8960]
def k0_off163 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1166 : Index := Scalar.indexCast v2
  let c9088 : Index := 9088#32
  ![v1166.toNat, 9088]
def k0_off164 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1177 : Index := Scalar.indexCast v2
  let c9216 : Index := 9216#32
  ![v1177.toNat, 9216]
def k0_off165 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1188 : Index := Scalar.indexCast v2
  let c9344 : Index := 9344#32
  ![v1188.toNat, 9344]
def k0_off166 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1199 : Index := Scalar.indexCast v2
  let c9472 : Index := 9472#32
  ![v1199.toNat, 9472]
def k0_off167 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1210 : Index := Scalar.indexCast v2
  let c9600 : Index := 9600#32
  ![v1210.toNat, 9600]
def k0_off168 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1221 : Index := Scalar.indexCast v2
  let c9728 : Index := 9728#32
  ![v1221.toNat, 9728]
def k0_off169 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1232 : Index := Scalar.indexCast v2
  let c9856 : Index := 9856#32
  ![v1232.toNat, 9856]
def k0_off170 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1243 : Index := Scalar.indexCast v2
  let c9984 : Index := 9984#32
  ![v1243.toNat, 9984]
def k0_off171 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1254 : Index := Scalar.indexCast v2
  let c10112 : Index := 10112#32
  ![v1254.toNat, 10112]
def k0_off172 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1265 : Index := Scalar.indexCast v2
  let c10240 : Index := 10240#32
  ![v1265.toNat, 10240]
def k0_off173 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1276 : Index := Scalar.indexCast v2
  let c10368 : Index := 10368#32
  ![v1276.toNat, 10368]
def k0_off174 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1287 : Index := Scalar.indexCast v2
  let c10496 : Index := 10496#32
  ![v1287.toNat, 10496]
def k0_off175 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1298 : Index := Scalar.indexCast v2
  let c10624 : Index := 10624#32
  ![v1298.toNat, 10624]
def k0_off176 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1309 : Index := Scalar.indexCast v2
  let c10752 : Index := 10752#32
  ![v1309.toNat, 10752]
def k0_off177 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1320 : Index := Scalar.indexCast v2
  let c10880 : Index := 10880#32
  ![v1320.toNat, 10880]
def k0_off178 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1331 : Index := Scalar.indexCast v2
  let c11008 : Index := 11008#32
  ![v1331.toNat, 11008]
def k0_off179 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1342 : Index := Scalar.indexCast v2
  let c11136 : Index := 11136#32
  ![v1342.toNat, 11136]
def k0_off180 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1353 : Index := Scalar.indexCast v2
  let c11264 : Index := 11264#32
  ![v1353.toNat, 11264]
def k0_off181 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1364 : Index := Scalar.indexCast v2
  let c11392 : Index := 11392#32
  ![v1364.toNat, 11392]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x11520 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![14, 24], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S768x11520 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S11520x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S768x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S768x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S768x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== BackRefIdeal.lean ====
abbrev S10752x3072 : Shape := ⟨2, ![10752, 3072]⟩
abbrev S10752x8448 : Shape := ⟨2, ![10752, 8448]⟩
abbrev S11520x12288 : Shape := ⟨2, ![11520, 12288]⟩
abbrev S12288 : Shape := ⟨1, ![12288]⟩
abbrev S10752x12288 : Shape := ⟨2, ![10752, 12288]⟩
abbrev S1x12288 : Shape := ⟨2, ![1, 12288]⟩
abbrev S10752x11520 : Shape := ⟨2, ![10752, 11520]⟩
abbrev S10752x1 : Shape := ⟨2, ![10752, 1]⟩
abbrev S10752 : Shape := ⟨1, ![10752]⟩

abbrev nBuf : Space → Nat
  | .hbm => 9
  | .vmem => 8
  | .smem => 0
  | _ => 0

abbrev bufTy : (tb : Table) → Fin (tcTables nBuf tb) → BufTy
  | .hbm, ⟨0, _⟩ => ⟨S10752x3072, .f32⟩
  | .hbm, ⟨1, _⟩ => ⟨S10752x8448, .f32⟩
  | .hbm, ⟨2, _⟩ => ⟨S11520x12288, .fp8e4m3⟩
  | .hbm, ⟨3, _⟩ => ⟨S12288, .f32⟩
  | .hbm, ⟨4, _⟩ => ⟨S10752x12288, .bf16⟩
  | .hbm, ⟨5, _⟩ => ⟨S1x12288, .f32⟩
  | .hbm, ⟨6, _⟩ => ⟨S10752x12288, .bf16⟩
  | .hbm, ⟨7, _⟩ => ⟨S10752x11520, .fp8e4m3⟩
  | .hbm, ⟨8, _⟩ => ⟨S10752x1, .f32⟩
  | .local _ .vmem, ⟨0, _⟩ => ⟨S10752x3072, .f32⟩
  | .local _ .vmem, ⟨1, _⟩ => ⟨S10752x8448, .f32⟩
  | .local _ .vmem, ⟨2, _⟩ => ⟨S11520x12288, .fp8e4m3⟩
  | .local _ .vmem, ⟨3, _⟩ => ⟨S1x12288, .f32⟩
  | .local _ .vmem, ⟨4, _⟩ => ⟨S10752x12288, .bf16⟩
  | .local _ .vmem, ⟨5, _⟩ => ⟨S10752x12288, .bf16⟩
  | .local _ .vmem, ⟨6, _⟩ => ⟨S10752x11520, .fp8e4m3⟩
  | .local _ .vmem, ⟨7, _⟩ => ⟨S10752x1, .f32⟩
  | _, _ => ⟨S10752x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S10752x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10752x8448 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11520x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10752x12288 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10752x12288 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10752x11520 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10752x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Mlp.lean ====
abbrev S10752x12288 : Shape := ⟨2, ![10752, 12288]⟩
abbrev S12288x20480 : Shape := ⟨2, ![12288, 20480]⟩
abbrev S10752x1 : Shape := ⟨2, ![10752, 1]⟩
abbrev S20480 : Shape := ⟨1, ![20480]⟩
abbrev S1x20480 : Shape := ⟨2, ![1, 20480]⟩
abbrev S10752x8448 : Shape := ⟨2, ![10752, 8448]⟩
abbrev S768x12288 : Shape := ⟨2, ![768, 12288]⟩
abbrev S12288x256 : Shape := ⟨2, ![12288, 256]⟩
abbrev S768x1 : Shape := ⟨2, ![768, 1]⟩
abbrev S1x256 : Shape := ⟨2, ![1, 256]⟩
abbrev S768x256 : Shape := ⟨2, ![768, 256]⟩

abbrev nBuf : Space → Nat
  | .hbm => 6
  | .vmem => 14
  | .smem => 0
  | _ => 0

abbrev bufTy : (tb : Table) → Fin (tcTables nBuf tb) → BufTy
  | .hbm, ⟨0, _⟩ => ⟨S10752x12288, .fp8e4m3⟩
  | .hbm, ⟨1, _⟩ => ⟨S12288x20480, .fp8e4m3⟩
  | .hbm, ⟨2, _⟩ => ⟨S10752x1, .f32⟩
  | .hbm, ⟨3, _⟩ => ⟨S20480, .f32⟩
  | .hbm, ⟨4, _⟩ => ⟨S1x20480, .f32⟩
  | .hbm, ⟨5, _⟩ => ⟨S10752x8448, .f32⟩
  | .local _ .vmem, ⟨0, _⟩ => ⟨S768x12288, .fp8e4m3⟩
  | .local _ .vmem, ⟨1, _⟩ => ⟨S768x12288, .fp8e4m3⟩
  | .local _ .vmem, ⟨2, _⟩ => ⟨S12288x256, .fp8e4m3⟩
  | .local _ .vmem, ⟨3, _⟩ => ⟨S12288x256, .fp8e4m3⟩
  | .local _ .vmem, ⟨4, _⟩ => ⟨S12288x256, .fp8e4m3⟩
  | .local _ .vmem, ⟨5, _⟩ => ⟨S12288x256, .fp8e4m3⟩
  | .local _ .vmem, ⟨6, _⟩ => ⟨S768x1, .f32⟩
  | .local _ .vmem, ⟨7, _⟩ => ⟨S768x1, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S768x256, .f32⟩
  | .local _ .vmem, ⟨13, _⟩ => ⟨S768x256, .f32⟩
  | _, _ => ⟨S10752x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![14, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c47_i32 : BitVec 32 := 47#32
  let v0 : BitVec 32 := Scalar.addi c47_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c47_i32 : BitVec 32 := 47#32
  let v0 : BitVec 32 := Scalar.addi c47_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x12288 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S12288x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S12288x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MlpRefIdeal.lean ====
abbrev S10752x12288 : Shape := ⟨2, ![10752, 12288]⟩
abbrev S12288x20480 : Shape := ⟨2, ![12288, 20480]⟩
abbrev S10752x1 : Shape := ⟨2, ![10752, 1]⟩
abbrev S20480 : Shape := ⟨1, ![20480]⟩
abbrev S1x20480 : Shape := ⟨2, ![1, 20480]⟩
abbrev S10752x8448 : Shape := ⟨2, ![10752, 8448]⟩
abbrev S10752x20480 : Shape := ⟨2, ![10752, 20480]⟩

abbrev nBuf : Space → Nat
  | .hbm => 6
  | .vmem => 5
  | .smem => 0
  | _ => 0

abbrev bufTy : (tb : Table) → Fin (tcTables nBuf tb) → BufTy
  | .hbm, ⟨0, _⟩ => ⟨S10752x12288, .fp8e4m3⟩
  | .hbm, ⟨1, _⟩ => ⟨S12288x20480, .fp8e4m3⟩
  | .hbm, ⟨2, _⟩ => ⟨S10752x1, .f32⟩
  | .hbm, ⟨3, _⟩ => ⟨S20480, .f32⟩
  | .hbm, ⟨4, _⟩ => ⟨S1x20480, .f32⟩
  | .hbm, ⟨5, _⟩ => ⟨S10752x8448, .f32⟩
  | .local _ .vmem, ⟨0, _⟩ => ⟨S10752x12288, .fp8e4m3⟩
  | .local _ .vmem, ⟨1, _⟩ => ⟨S12288x20480, .fp8e4m3⟩
  | .local _ .vmem, ⟨2, _⟩ => ⟨S10752x1, .f32⟩
  | .local _ .vmem, ⟨3, _⟩ => ⟨S1x20480, .f32⟩
  | .local _ .vmem, ⟨4, _⟩ => ⟨S10752x8448, .f32⟩
  | _, _ => ⟨S10752x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S10752x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x20480 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10752x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x20480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10752x8448 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Ln.lean ====
abbrev S10752x12288 : Shape := ⟨2, ![10752, 12288]⟩
abbrev S12288 : Shape := ⟨1, ![12288]⟩
abbrev S1x12288 : Shape := ⟨2, ![1, 12288]⟩
abbrev S10752x1 : Shape := ⟨2, ![10752, 1]⟩
abbrev S256x12288 : Shape := ⟨2, ![256, 12288]⟩
abbrev S256x1 : Shape := ⟨2, ![256, 1]⟩
abbrev S32x128 : Shape := ⟨2, ![32, 128]⟩
abbrev S32 : Shape := ⟨1, ![32]⟩
abbrev S32x1 : Shape := ⟨2, ![32, 1]⟩
abbrev S1x128 : Shape := ⟨2, ![1, 128]⟩

abbrev nBuf : Space → Nat
  | .hbm => 5
  | .vmem => 7
  | .smem => 0
  | _ => 0

abbrev bufTy : (tb : Table) → Fin (tcTables nBuf tb) → BufTy
  | .hbm, ⟨0, _⟩ => ⟨S10752x12288, .bf16⟩
  | .hbm, ⟨1, _⟩ => ⟨S12288, .f32⟩
  | .hbm, ⟨2, _⟩ => ⟨S1x12288, .f32⟩
  | .hbm, ⟨3, _⟩ => ⟨S10752x12288, .fp8e4m3⟩
  | .hbm, ⟨4, _⟩ => ⟨S10752x1, .f32⟩
  | .local _ .vmem, ⟨0, _⟩ => ⟨S256x12288, .bf16⟩
  | .local _ .vmem, ⟨1, _⟩ => ⟨S256x12288, .bf16⟩
  | .local _ .vmem, ⟨2, _⟩ => ⟨S1x12288, .f32⟩
  | .local _ .vmem, ⟨3, _⟩ => ⟨S256x12288, .fp8e4m3⟩
  | .local _ .vmem, ⟨4, _⟩ => ⟨S256x12288, .fp8e4m3⟩
  | .local _ .vmem, ⟨5, _⟩ => ⟨S256x1, .f32⟩
  | .local _ .vmem, ⟨6, _⟩ => ⟨S256x1, .f32⟩
  | _, _ => ⟨S10752x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![42], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  v1
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v4 : Index := Scalar.indexCast v2
  let c0 : Index := 0#32
  ![v4.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v8 : Index := Scalar.indexCast v2
  let c128 : Index := 128#32
  ![v8.toNat, 128]
def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v12 : Index := Scalar.indexCast v2
  let c256 : Index := 256#32
  ![v12.toNat, 256]
def k0_off4 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v16 : Index := Scalar.indexCast v2
  let c384 : Index := 384#32
  ![v16.toNat, 384]
def k0_off5 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v20 : Index := Scalar.indexCast v2
  let c512 : Index := 512#32
  ![v20.toNat, 512]
def k0_off6 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v24 : Index := Scalar.indexCast v2
  let c640 : Index := 640#32
  ![v24.toNat, 640]
def k0_off7 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v28 : Index := Scalar.indexCast v2
  let c768 : Index := 768#32
  ![v28.toNat, 768]
def k0_off8 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v32 : Index := Scalar.indexCast v2
  let c896 : Index := 896#32
  ![v32.toNat, 896]
def k0_off9 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v36 : Index := Scalar.indexCast v2
  let c1024 : Index := 1024#32
  ![v36.toNat, 1024]
def k0_off10 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v40 : Index := Scalar.indexCast v2
  let c1152 : Index := 1152#32
  ![v40.toNat, 1152]
def k0_off11 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v44 : Index := Scalar.indexCast v2
  let c1280 : Index := 1280#32
  ![v44.toNat, 1280]
def k0_off12 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v48 : Index := Scalar.indexCast v2
  let c1408 : Index := 1408#32
  ![v48.toNat, 1408]
def k0_off13 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v52 : Index := Scalar.indexCast v2
  let c1536 : Index := 1536#32
  ![v52.toNat, 1536]
def k0_off14 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v56 : Index := Scalar.indexCast v2
  let c1664 : Index := 1664#32
  ![v56.toNat, 1664]
def k0_off15 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v60 : Index := Scalar.indexCast v2
  let c1792 : Index := 1792#32
  ![v60.toNat, 1792]
def k0_off16 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v64 : Index := Scalar.indexCast v2
  let c1920 : Index := 1920#32
  ![v64.toNat, 1920]
def k0_off17 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v68 : Index := Scalar.indexCast v2
  let c2048 : Index := 2048#32
  ![v68.toNat, 2048]
def k0_off18 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v72 : Index := Scalar.indexCast v2
  let c2176 : Index := 2176#32
  ![v72.toNat, 2176]
def k0_off19 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v76 : Index := Scalar.indexCast v2
  let c2304 : Index := 2304#32
  ![v76.toNat, 2304]
def k0_off20 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v80 : Index := Scalar.indexCast v2
  let c2432 : Index := 2432#32
  ![v80.toNat, 2432]
def k0_off21 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v84 : Index := Scalar.indexCast v2
  let c2560 : Index := 2560#32
  ![v84.toNat, 2560]
def k0_off22 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v88 : Index := Scalar.indexCast v2
  let c2688 : Index := 2688#32
  ![v88.toNat, 2688]
def k0_off23 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v92 : Index := Scalar.indexCast v2
  let c2816 : Index := 2816#32
  ![v92.toNat, 2816]
def k0_off24 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v96 : Index := Scalar.indexCast v2
  let c2944 : Index := 2944#32
  ![v96.toNat, 2944]
def k0_off25 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v100 : Index := Scalar.indexCast v2
  let c3072 : Index := 3072#32
  ![v100.toNat, 3072]
def k0_off26 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v104 : Index := Scalar.indexCast v2
  let c3200 : Index := 3200#32
  ![v104.toNat, 3200]
def k0_off27 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v108 : Index := Scalar.indexCast v2
  let c3328 : Index := 3328#32
  ![v108.toNat, 3328]
def k0_off28 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v112 : Index := Scalar.indexCast v2
  let c3456 : Index := 3456#32
  ![v112.toNat, 3456]
def k0_off29 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v116 : Index := Scalar.indexCast v2
  let c3584 : Index := 3584#32
  ![v116.toNat, 3584]
def k0_off30 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v120 : Index := Scalar.indexCast v2
  let c3712 : Index := 3712#32
  ![v120.toNat, 3712]
def k0_off31 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v124 : Index := Scalar.indexCast v2
  let c3840 : Index := 3840#32
  ![v124.toNat, 3840]
def k0_off32 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v128 : Index := Scalar.indexCast v2
  let c3968 : Index := 3968#32
  ![v128.toNat, 3968]
def k0_off33 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v132 : Index := Scalar.indexCast v2
  let c4096 : Index := 4096#32
  ![v132.toNat, 4096]
def k0_off34 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v136 : Index := Scalar.indexCast v2
  let c4224 : Index := 4224#32
  ![v136.toNat, 4224]
def k0_off35 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v140 : Index := Scalar.indexCast v2
  let c4352 : Index := 4352#32
  ![v140.toNat, 4352]
def k0_off36 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v144 : Index := Scalar.indexCast v2
  let c4480 : Index := 4480#32
  ![v144.toNat, 4480]
def k0_off37 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v148 : Index := Scalar.indexCast v2
  let c4608 : Index := 4608#32
  ![v148.toNat, 4608]
def k0_off38 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v152 : Index := Scalar.indexCast v2
  let c4736 : Index := 4736#32
  ![v152.toNat, 4736]
def k0_off39 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v156 : Index := Scalar.indexCast v2
  let c4864 : Index := 4864#32
  ![v156.toNat, 4864]
def k0_off40 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v160 : Index := Scalar.indexCast v2
  let c4992 : Index := 4992#32
  ![v160.toNat, 4992]
def k0_off41 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v164 : Index := Scalar.indexCast v2
  let c5120 : Index := 5120#32
  ![v164.toNat, 5120]
def k0_off42 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v168 : Index := Scalar.indexCast v2
  let c5248 : Index := 5248#32
  ![v168.toNat, 5248]
def k0_off43 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v172 : Index := Scalar.indexCast v2
  let c5376 : Index := 5376#32
  ![v172.toNat, 5376]
def k0_off44 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v176 : Index := Scalar.indexCast v2
  let c5504 : Index := 5504#32
  ![v176.toNat, 5504]
def k0_off45 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v180 : Index := Scalar.indexCast v2
  let c5632 : Index := 5632#32
  ![v180.toNat, 5632]
def k0_off46 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v184 : Index := Scalar.indexCast v2
  let c5760 : Index := 5760#32
  ![v184.toNat, 5760]
def k0_off47 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v188 : Index := Scalar.indexCast v2
  let c5888 : Index := 5888#32
  ![v188.toNat, 5888]
def k0_off48 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v192 : Index := Scalar.indexCast v2
  let c6016 : Index := 6016#32
  ![v192.toNat, 6016]
def k0_off49 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v196 : Index := Scalar.indexCast v2
  let c6144 : Index := 6144#32
  ![v196.toNat, 6144]
def k0_off50 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v200 : Index := Scalar.indexCast v2
  let c6272 : Index := 6272#32
  ![v200.toNat, 6272]
def k0_off51 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v204 : Index := Scalar.indexCast v2
  let c6400 : Index := 6400#32
  ![v204.toNat, 6400]
def k0_off52 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v208 : Index := Scalar.indexCast v2
  let c6528 : Index := 6528#32
  ![v208.toNat, 6528]
def k0_off53 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v212 : Index := Scalar.indexCast v2
  let c6656 : Index := 6656#32
  ![v212.toNat, 6656]
def k0_off54 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v216 : Index := Scalar.indexCast v2
  let c6784 : Index := 6784#32
  ![v216.toNat, 6784]
def k0_off55 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v220 : Index := Scalar.indexCast v2
  let c6912 : Index := 6912#32
  ![v220.toNat, 6912]
def k0_off56 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v224 : Index := Scalar.indexCast v2
  let c7040 : Index := 7040#32
  ![v224.toNat, 7040]
def k0_off57 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v228 : Index := Scalar.indexCast v2
  let c7168 : Index := 7168#32
  ![v228.toNat, 7168]
def k0_off58 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v232 : Index := Scalar.indexCast v2
  let c7296 : Index := 7296#32
  ![v232.toNat, 7296]
def k0_off59 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v236 : Index := Scalar.indexCast v2
  let c7424 : Index := 7424#32
  ![v236.toNat, 7424]
def k0_off60 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v240 : Index := Scalar.indexCast v2
  let c7552 : Index := 7552#32
  ![v240.toNat, 7552]
def k0_off61 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v244 : Index := Scalar.indexCast v2
  let c7680 : Index := 7680#32
  ![v244.toNat, 7680]
def k0_off62 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v248 : Index := Scalar.indexCast v2
  let c7808 : Index := 7808#32
  ![v248.toNat, 7808]
def k0_off63 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v252 : Index := Scalar.indexCast v2
  let c7936 : Index := 7936#32
  ![v252.toNat, 7936]
def k0_off64 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v256 : Index := Scalar.indexCast v2
  let c8064 : Index := 8064#32
  ![v256.toNat, 8064]
def k0_off65 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v260 : Index := Scalar.indexCast v2
  let c8192 : Index := 8192#32
  ![v260.toNat, 8192]
def k0_off66 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v264 : Index := Scalar.indexCast v2
  let c8320 : Index := 8320#32
  ![v264.toNat, 8320]
def k0_off67 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v268 : Index := Scalar.indexCast v2
  let c8448 : Index := 8448#32
  ![v268.toNat, 8448]
def k0_off68 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v272 : Index := Scalar.indexCast v2
  let c8576 : Index := 8576#32
  ![v272.toNat, 8576]
def k0_off69 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v276 : Index := Scalar.indexCast v2
  let c8704 : Index := 8704#32
  ![v276.toNat, 8704]
def k0_off70 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v280 : Index := Scalar.indexCast v2
  let c8832 : Index := 8832#32
  ![v280.toNat, 8832]
def k0_off71 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v284 : Index := Scalar.indexCast v2
  let c8960 : Index := 8960#32
  ![v284.toNat, 8960]
def k0_off72 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v288 : Index := Scalar.indexCast v2
  let c9088 : Index := 9088#32
  ![v288.toNat, 9088]
def k0_off73 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v292 : Index := Scalar.indexCast v2
  let c9216 : Index := 9216#32
  ![v292.toNat, 9216]
def k0_off74 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v296 : Index := Scalar.indexCast v2
  let c9344 : Index := 9344#32
  ![v296.toNat, 9344]
def k0_off75 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v300 : Index := Scalar.indexCast v2
  let c9472 : Index := 9472#32
  ![v300.toNat, 9472]
def k0_off76 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v304 : Index := Scalar.indexCast v2
  let c9600 : Index := 9600#32
  ![v304.toNat, 9600]
def k0_off77 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v308 : Index := Scalar.indexCast v2
  let c9728 : Index := 9728#32
  ![v308.toNat, 9728]
def k0_off78 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v312 : Index := Scalar.indexCast v2
  let c9856 : Index := 9856#32
  ![v312.toNat, 9856]
def k0_off79 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v316 : Index := Scalar.indexCast v2
  let c9984 : Index := 9984#32
  ![v316.toNat, 9984]
def k0_off80 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v320 : Index := Scalar.indexCast v2
  let c10112 : Index := 10112#32
  ![v320.toNat, 10112]
def k0_off81 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v324 : Index := Scalar.indexCast v2
  let c10240 : Index := 10240#32
  ![v324.toNat, 10240]
def k0_off82 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v328 : Index := Scalar.indexCast v2
  let c10368 : Index := 10368#32
  ![v328.toNat, 10368]
def k0_off83 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v332 : Index := Scalar.indexCast v2
  let c10496 : Index := 10496#32
  ![v332.toNat, 10496]
def k0_off84 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v336 : Index := Scalar.indexCast v2
  let c10624 : Index := 10624#32
  ![v336.toNat, 10624]
def k0_off85 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v340 : Index := Scalar.indexCast v2
  let c10752 : Index := 10752#32
  ![v340.toNat, 10752]
def k0_off86 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v344 : Index := Scalar.indexCast v2
  let c10880 : Index := 10880#32
  ![v344.toNat, 10880]
def k0_off87 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v348 : Index := Scalar.indexCast v2
  let c11008 : Index := 11008#32
  ![v348.toNat, 11008]
def k0_off88 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v352 : Index := Scalar.indexCast v2
  let c11136 : Index := 11136#32
  ![v352.toNat, 11136]
def k0_off89 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v356 : Index := Scalar.indexCast v2
  let c11264 : Index := 11264#32
  ![v356.toNat, 11264]
def k0_off90 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v360 : Index := Scalar.indexCast v2
  let c11392 : Index := 11392#32
  ![v360.toNat, 11392]
def k0_off91 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v364 : Index := Scalar.indexCast v2
  let c11520 : Index := 11520#32
  ![v364.toNat, 11520]
def k0_off92 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v368 : Index := Scalar.indexCast v2
  let c11648 : Index := 11648#32
  ![v368.toNat, 11648]
def k0_off93 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v372 : Index := Scalar.indexCast v2
  let c11776 : Index := 11776#32
  ![v372.toNat, 11776]
def k0_off94 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v376 : Index := Scalar.indexCast v2
  let c11904 : Index := 11904#32
  ![v376.toNat, 11904]
def k0_off95 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v380 : Index := Scalar.indexCast v2
  let c12032 : Index := 12032#32
  ![v380.toNat, 12032]
def k0_off96 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v384 : Index := Scalar.indexCast v2
  let c12160 : Index := 12160#32
  ![v384.toNat, 12160]
def k0_off97 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1661 : Index := Scalar.indexCast v2
  let c0_301 : Index := 0#32
  ![v1661.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x12288 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnIdeal.lean ====
variable {F : FTy → Type} [FloatOps F] [Named F]
def κ : String → Option EReal := fun
  | "inv_width" => some ((1 / 12288 : ℝ) : EReal)
  | _ => none
-- ==== LnRefIdeal.lean ====
abbrev S10752x12288 : Shape := ⟨2, ![10752, 12288]⟩
abbrev S12288 : Shape := ⟨1, ![12288]⟩
abbrev S1x12288 : Shape := ⟨2, ![1, 12288]⟩
abbrev S10752x1 : Shape := ⟨2, ![10752, 1]⟩
abbrev S10752 : Shape := ⟨1, ![10752]⟩

abbrev nBuf : Space → Nat
  | .hbm => 5
  | .vmem => 4
  | .smem => 0
  | _ => 0

abbrev bufTy : (tb : Table) → Fin (tcTables nBuf tb) → BufTy
  | .hbm, ⟨0, _⟩ => ⟨S10752x12288, .bf16⟩
  | .hbm, ⟨1, _⟩ => ⟨S12288, .f32⟩
  | .hbm, ⟨2, _⟩ => ⟨S1x12288, .f32⟩
  | .hbm, ⟨3, _⟩ => ⟨S10752x12288, .fp8e4m3⟩
  | .hbm, ⟨4, _⟩ => ⟨S10752x1, .f32⟩
  | .local _ .vmem, ⟨0, _⟩ => ⟨S10752x12288, .bf16⟩
  | .local _ .vmem, ⟨1, _⟩ => ⟨S1x12288, .f32⟩
  | .local _ .vmem, ⟨2, _⟩ => ⟨S10752x12288, .fp8e4m3⟩
  | .local _ .vmem, ⟨3, _⟩ => ⟨S10752x1, .f32⟩
  | _, _ => ⟨S10752x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S10752x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10752x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10752x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Qkv.lean ====
abbrev S10752x12288 : Shape := ⟨2, ![10752, 12288]⟩
abbrev S12288x20480 : Shape := ⟨2, ![12288, 20480]⟩
abbrev S10752x1 : Shape := ⟨2, ![10752, 1]⟩
abbrev S20480 : Shape := ⟨1, ![20480]⟩
abbrev S10752x64 : Shape := ⟨2, ![10752, 64]⟩
abbrev S2 : Shape := ⟨1, ![2]⟩
abbrev S10752x64x2 : Shape := ⟨3, ![10752, 64, 2]⟩
abbrev S10752x128 : Shape := ⟨2, ![10752, 128]⟩
abbrev S10752x64x1 : Shape := ⟨3, ![10752, 64, 1]⟩
abbrev S1x20480 : Shape := ⟨2, ![1, 20480]⟩
abbrev S10752x3072 : Shape := ⟨2, ![10752, 3072]⟩
abbrev S10752x256 : Shape := ⟨2, ![10752, 256]⟩
abbrev S768x12288 : Shape := ⟨2, ![768, 12288]⟩
abbrev S12288x512 : Shape := ⟨2, ![12288, 512]⟩
abbrev S768x1 : Shape := ⟨2, ![768, 1]⟩
abbrev S1x512 : Shape := ⟨2, ![1, 512]⟩
abbrev S768x128 : Shape := ⟨2, ![768, 128]⟩
abbrev S768x512 : Shape := ⟨2, ![768, 512]⟩
abbrev S768x256 : Shape := ⟨2, ![768, 256]⟩
abbrev S1 : Shape := ⟨1, ![1]⟩

abbrev nBuf : Space → Nat
  | .hbm => 19
  | .vmem => 18
  | .smem => 2
  | _ => 0

abbrev bufTy : (tb : Table) → Fin (tcTables nBuf tb) → BufTy
  | .hbm, ⟨0, _⟩ => ⟨S10752x12288, .fp8e4m3⟩
  | .hbm, ⟨1, _⟩ => ⟨S12288x20480, .fp8e4m3⟩
  | .hbm, ⟨2, _⟩ => ⟨S10752x1, .f32⟩
  | .hbm, ⟨3, _⟩ => ⟨S20480, .f32⟩
  | .hbm, ⟨4, _⟩ => ⟨S10752x64, .f32⟩
  | .hbm, ⟨5, _⟩ => ⟨S10752x64, .f32⟩
  | .hbm, ⟨6, _⟩ => ⟨S2, .f32⟩
  | .hbm, ⟨7, _⟩ => ⟨S2, .f32⟩
  | .hbm, ⟨8, _⟩ => ⟨S10752x64x2, .f32⟩
  | .hbm, ⟨9, _⟩ => ⟨S10752x128, .f32⟩
  | .hbm, ⟨10, _⟩ => ⟨S10752x64, .f32⟩
  | .hbm, ⟨11, _⟩ => ⟨S10752x64x1, .f32⟩
  | .hbm, ⟨12, _⟩ => ⟨S10752x64x1, .f32⟩
  | .hbm, ⟨13, _⟩ => ⟨S10752x64x2, .f32⟩
  | .hbm, ⟨14, _⟩ => ⟨S10752x128, .f32⟩
  | .hbm, ⟨15, _⟩ => ⟨S1x20480, .f32⟩
  | .hbm, ⟨16, _⟩ => ⟨S10752x3072, .bf16⟩
  | .hbm, ⟨17, _⟩ => ⟨S10752x256, .fp8e4m3⟩
  | .hbm, ⟨18, _⟩ => ⟨S10752x256, .fp8e4m3⟩
  | .local _ .vmem, ⟨0, _⟩ => ⟨S768x12288, .fp8e4m3⟩
  | .local _ .vmem, ⟨1, _⟩ => ⟨S768x12288, .fp8e4m3⟩
  | .local _ .vmem, ⟨2, _⟩ => ⟨S12288x512, .fp8e4m3⟩
  | .local _ .vmem, ⟨3, _⟩ => ⟨S12288x512, .fp8e4m3⟩
  | .local _ .vmem, ⟨4, _⟩ => ⟨S768x1, .f32⟩
  | .local _ .vmem, ⟨5, _⟩ => ⟨S768x1, .f32⟩
  | .local _ .vmem, ⟨6, _⟩ => ⟨S1x512, .f32⟩
  | .local _ .vmem, ⟨7, _⟩ => ⟨S1x512, .f32⟩
  | .local _ .vmem, ⟨8, _⟩ => ⟨S768x128, .f32⟩
  | .local _ .vmem, ⟨9, _⟩ => ⟨S768x128, .f32⟩
  | .local _ .vmem, ⟨10, _⟩ => ⟨S768x128, .f32⟩
  | .local _ .vmem, ⟨11, _⟩ => ⟨S768x128, .f32⟩
  | .local _ .vmem, ⟨12, _⟩ => ⟨S768x512, .bf16⟩
  | .local _ .vmem, ⟨13, _⟩ => ⟨S768x512, .bf16⟩
  | .local _ .vmem, ⟨14, _⟩ => ⟨S768x256, .fp8e4m3⟩
  | .local _ .vmem, ⟨15, _⟩ => ⟨S768x256, .fp8e4m3⟩
  | .local _ .vmem, ⟨16, _⟩ => ⟨S768x256, .fp8e4m3⟩
  | .local _ .vmem, ⟨17, _⟩ => ⟨S768x256, .fp8e4m3⟩
  | .local _ .smem, ⟨0, _⟩ => ⟨S2, .f32⟩
  | .local _ .smem, ⟨1, _⟩ => ⟨S2, .f32⟩
  | _, _ => ⟨S10752x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg6_0 : Ref sig .tc := ⟨.smem, 0, rfl⟩
abbrev cc0_stg7_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![14, 7], ![false, false]⟩

def k0_cond1 (i : grid0.Coords) : BitVec 1 :=
  let arg1 : BitVec 32 := BitVec.ofNat 32 (i 1).val
  let c6_i32 : BitVec 32 := 6#32
  let v14 : BitVec 1 := Scalar.cmpi .slt arg1 c6_i32
  let v15 : BitVec 32 := Scalar.extui v14
  let c0_i32 : BitVec 32 := 0#32
  let v16 : BitVec 1 := Scalar.cmpi .ne v15 c0_i32
  v16

def k0_cond2 (i : grid0.Coords) : BitVec 1 :=
  let arg1 : BitVec 32 := BitVec.ofNat 32 (i 1).val
  let c6_i32_11 : BitVec 32 := 6#32
  let v17 : BitVec 1 := Scalar.cmpi .eq arg1 c6_i32_11
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x12288 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S12288x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .smem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S768x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S768x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S768x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== QkvRefIdeal.lean ====
abbrev S10752x12288 : Shape := ⟨2, ![10752, 12288]⟩
abbrev S12288x20480 : Shape := ⟨2, ![12288, 20480]⟩
abbrev S10752x1 : Shape := ⟨2, ![10752, 1]⟩
abbrev S20480 : Shape := ⟨1, ![20480]⟩
abbrev S10752x64 : Shape := ⟨2, ![10752, 64]⟩
abbrev S2 : Shape := ⟨1, ![2]⟩
abbrev S1x20480 : Shape := ⟨2, ![1, 20480]⟩
abbrev S10752x3072 : Shape := ⟨2, ![10752, 3072]⟩
abbrev S10752x256 : Shape := ⟨2, ![10752, 256]⟩
abbrev S10752x20480 : Shape := ⟨2, ![10752, 20480]⟩
abbrev S10752x24x128 : Shape := ⟨3, ![10752, 24, 128]⟩
abbrev S10752x24x64x2 : Shape := ⟨4, ![10752, 24, 64, 2]⟩
abbrev S10752x24x64x1 : Shape := ⟨4, ![10752, 24, 64, 1]⟩
abbrev S10752x24x64 : Shape := ⟨3, ![10752, 24, 64]⟩
abbrev S10752x1x64 : Shape := ⟨3, ![10752, 1, 64]⟩
abbrev S10752x2x128 : Shape := ⟨3, ![10752, 2, 128]⟩
abbrev S10752x2x64x2 : Shape := ⟨4, ![10752, 2, 64, 2]⟩
abbrev S10752x2x64x1 : Shape := ⟨4, ![10752, 2, 64, 1]⟩
abbrev S10752x2x64 : Shape := ⟨3, ![10752, 2, 64]⟩
abbrev S1x2x1 : Shape := ⟨3, ![1, 2, 1]⟩

abbrev nBuf : Space → Nat
  | .hbm => 12
  | .vmem => 11
  | .smem => 0
  | _ => 0

abbrev bufTy : (tb : Table) → Fin (tcTables nBuf tb) → BufTy
  | .hbm, ⟨0, _⟩ => ⟨S10752x12288, .fp8e4m3⟩
  | .hbm, ⟨1, _⟩ => ⟨S12288x20480, .fp8e4m3⟩
  | .hbm, ⟨2, _⟩ => ⟨S10752x1, .f32⟩
  | .hbm, ⟨3, _⟩ => ⟨S20480, .f32⟩
  | .hbm, ⟨4, _⟩ => ⟨S10752x64, .f32⟩
  | .hbm, ⟨5, _⟩ => ⟨S10752x64, .f32⟩
  | .hbm, ⟨6, _⟩ => ⟨S2, .f32⟩
  | .hbm, ⟨7, _⟩ => ⟨S2, .f32⟩
  | .hbm, ⟨8, _⟩ => ⟨S1x20480, .f32⟩
  | .hbm, ⟨9, _⟩ => ⟨S10752x3072, .bf16⟩
  | .hbm, ⟨10, _⟩ => ⟨S10752x256, .fp8e4m3⟩
  | .hbm, ⟨11, _⟩ => ⟨S10752x256, .fp8e4m3⟩
  | .local _ .vmem, ⟨0, _⟩ => ⟨S10752x12288, .fp8e4m3⟩
  | .local _ .vmem, ⟨1, _⟩ => ⟨S12288x20480, .fp8e4m3⟩
  | .local _ .vmem, ⟨2, _⟩ => ⟨S10752x1, .f32⟩
  | .local _ .vmem, ⟨3, _⟩ => ⟨S1x20480, .f32⟩
  | .local _ .vmem, ⟨4, _⟩ => ⟨S10752x64, .f32⟩
  | .local _ .vmem, ⟨5, _⟩ => ⟨S10752x64, .f32⟩
  | .local _ .vmem, ⟨6, _⟩ => ⟨S2, .f32⟩
  | .local _ .vmem, ⟨7, _⟩ => ⟨S2, .f32⟩
  | .local _ .vmem, ⟨8, _⟩ => ⟨S10752x3072, .bf16⟩
  | .local _ .vmem, ⟨9, _⟩ => ⟨S10752x256, .fp8e4m3⟩
  | .local _ .vmem, ⟨10, _⟩ => ⟨S10752x256, .fp8e4m3⟩
  | _, _ => ⟨S10752x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S10752x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x20480 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10752x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x20480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10752x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10752x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10752x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S10752x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S10752x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Project.lean ====
/- A quantised projection at one index, over the extended reals: the product of a row of codes with a column of
   weights, times the row's scale, times the column's scale. Every projection of the kernel and of the references
   has this form, whole arrays in the references and one block in the kernel. -/
module

public import Idealize.ShloMosaic.Lib.MatmulPlain
public import Idealize.ShloMosaic.Lib.ValueIdx
public import Idealize.ShloMosaic.Lib.Pipeline.Value

@[expose] public section

noncomputable section

namespace Cert.Proof

open Idealize.ShloMosaic Idealize.ShloMosaic.ValueIdx

/-- The zero word of `f32` is the extended real zero. -/
theorem ofBits_zero : Ideal.ofBits .f32 0x00000000#32 = 0 := by
  simp [Ideal.ofBits, Ideal.ieee]

/-- The column broadcast of a per-row value. -/
theorem bcast_col {M N : ℕ} {α : Type} (x : (⟨2, ![M, 1]⟩ : Shape).Idx → α)
    (h : (⟨2, ![M, 1]⟩ : Shape).Broadcasts ⟨2, ![M, N]⟩) (r : Fin M) (c : Fin N) :
    broadcastTo ⟨2, ![M, N]⟩ x h (ix2 r c) = x (ix2 r 0) :=
  broadcastTo_apply x h (ix2 r c) (ix2 r 0) fun a => by
    match a with
    | ⟨0, _⟩ =>
      show r.val = if M = 1 then 0 else r.val
      split
      · have := r.isLt; omega
      · rfl
    | ⟨1, _⟩ => rfl

/-- The row broadcast of a per-column value. -/
theorem bcast_row {M N : ℕ} {α : Type} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 0 c) :=
  broadcastTo_apply x h (ix2 r c) (ix2 0 c) fun a => by
    match a with
    | ⟨0, _⟩ => rfl
    | ⟨1, _⟩ =>
      show c.val = if N = 1 then 0 else c.val
      split
      · have := c.isLt; omega
      · rfl

/-- One element of a quantised projection: `∑ k, X r k · W k c`, times the row's scale, times the column's. -/
def proj {M K N : ℕ} (X : (⟨2, ![M, K]⟩ : Shape).Idx → EReal) (W : (⟨2, ![K, N]⟩ : Shape).Idx → EReal)
    (rs : (⟨2, ![M, 1]⟩ : Shape).Idx → EReal) (cs : (⟨2, ![1, N]⟩ : Shape).Idx → EReal) (r : Fin M) (c : Fin N) : EReal :=
  (∑ k : Fin K, X (ix2 r k) * W (ix2 k c)) * rs (ix2 r 0) * cs (ix2 0 c)

/-- A projection's element depends on one row of codes, one column of weights and their two scales only. -/
theorem proj_congr {M M' K N N' : ℕ} {X : (⟨2, ![M, K]⟩ : Shape).Idx → EReal} {X' : (⟨2, ![M', K]⟩ : Shape).Idx → EReal}
    {W : (⟨2, ![K, N]⟩ : Shape).Idx → EReal} {W' : (⟨2, ![K, N']⟩ : Shape).Idx → EReal}
    {rs : (⟨2, ![M, 1]⟩ : Shape).Idx → EReal} {rs' : (⟨2, ![M', 1]⟩ : Shape).Idx → EReal}
    {cs : (⟨2, ![1, N]⟩ : Shape).Idx → EReal} {cs' : (⟨2, ![1, N']⟩ : Shape).Idx → EReal}
    {r : Fin M} {r' : Fin M'} {c : Fin N} {c' : Fin N'}
    (hX : ∀ k, X (ix2 r k) = X' (ix2 r' k)) (hW : ∀ k, W (ix2 k c) = W' (ix2 k c'))
    (hr : rs (ix2 r 0) = rs' (ix2 r' 0)) (hc : cs (ix2 0 c) = cs' (ix2 0 c')) :
    proj X W rs cs r c = proj X' W' rs' cs' r' c' := by
  unfold proj
  rw [hr, hc]
  congr 2
  exact Finset.sum_congr rfl fun k _ => by rw [hX, hW]

/-- The vector operations of a projection, read at an index. -/
theorem proj_apply {M K N : ℕ} {φ₁ φ₂ : FTy} (D : DotDims ⟨2, ![M, K]⟩ ⟨2, ![K, N]⟩ ⟨2, ![M, N]⟩)
    (hD : D = DotDims.plain M K N) (X : FVec Ideal ⟨2, ![M, K]⟩ φ₁) (W : FVec Ideal ⟨2, ![K, N]⟩ φ₂)
    (rs : FVec Ideal ⟨2, ![M, 1]⟩ .f32) (cs : FVec Ideal ⟨2, ![1, N]⟩ .f32)
    (h₁ : (⟨2, ![M, 1]⟩ : Shape).Broadcasts ⟨2, ![M, N]⟩) (h₂ : (⟨2, ![1, N]⟩ : Shape).Broadcasts ⟨2, ![M, N]⟩)
    (r : Fin M) (c : Fin N) :
    mulf (mulf (matmul D none X W (constant (F := Ideal) ⟨2, ![M, N]⟩ .f32 0x00000000#32)) (broadcastTo ⟨2, ![M, N]⟩ rs h₁))
      (broadcastTo ⟨2, ![M, N]⟩ cs h₂) (ix2 r c) = proj X W rs cs r c := by
  subst hD
  rw [mulf_apply, mulf_apply, bcast_col, bcast_row]
  unfold proj
  congr 2
  refine (Ideal.matmul_plain_apply none X W _ r c).trans ?_
  rw [constant_apply, ofBits_zero, zero_add]

end Cert.Proof

end
-- ==== Proof.MlpValue.lean ====
/- What the gated projection leaves in its result array, over the extended reals: at row `r` and column `c` the
   product `g · logistic g · u` of the projections `g` at column `3584 + c` and `u` at column `12032 + c`. -/
module

public import proofs.«01_k».proof.Proof.Project
public import proofs.«01_k».proof.Proof.Gen.MlpIdeal.Value

@[expose] public section

set_option maxRecDepth 16384

noncomputable section

namespace Cert.Proof

open Idealize.ShloMosaic Idealize.ShloMosaic.ValueIdx

/-- The gated product of two projections of the same row, `3584 + c` the gate's column and `12032 + c` the other's. -/
def gated (X : (⟨2, ![10752, 12288]⟩ : Shape).Idx → EReal) (W : (⟨2, ![12288, 20480]⟩ : Shape).Idx → EReal)
    (rs : (⟨2, ![10752, 1]⟩ : Shape).Idx → EReal) (cs : (⟨2, ![1, 20480]⟩ : Shape).Idx → EReal) (r : Fin 10752) (c : Fin 8448) : EReal :=
  proj X W rs cs r ⟨c.val + 3584, by omega⟩
    * FloatOps.logistic (F := Ideal) (φ := .f32) (proj X W rs cs r ⟨c.val + 3584, by omega⟩)
    * proj X W rs cs r ⟨c.val + 12032, by omega⟩

/-- The call's result as one function of its four arguments. -/
def mlpOut (X : (⟨2, ![10752, 12288]⟩ : Shape).Idx → EReal) (W : (⟨2, ![12288, 20480]⟩ : Shape).Idx → EReal)
    (rs : (⟨2, ![10752, 1]⟩ : Shape).Idx → EReal) (cs : (⟨1, ![20480]⟩ : Shape).Idx → EReal) :
    (⟨2, ![10752, 8448]⟩ : Shape).Idx → EReal := fun i =>
  gated X W rs (shapeCast ⟨2, ![1, 20480]⟩ cs (by decide)) (i 0) (i 1)

end Cert.Proof

namespace Cert.Proof.MlpK

open Cert.MlpIdeal Cert.MlpIdeal.Gen Idealize.ShloMosaic Idealize.ShloMosaic.TcCoe Idealize.SL.Sem
open Idealize.ShloMosaic.ValueIdx Cert.Proof
open Idealize.ShloMosaic.Pipeline (Dat)

variable (m : (ℓ : Loc nD τ sig) → Buf (Elt Ideal) ℓ) (ρ : Dev nD → PrngReg)

/-- The body's payload at an index of its block. -/
theorem pay_apply (v0 : Vec Ideal S768x1 .f32) (v1 : Vec Ideal S768x12288 .fp8e4m3) (v2 : Vec Ideal S12288x256 .fp8e4m3)
    (v6 : Vec Ideal S1x256 .f32) (v11 : Vec Ideal S12288x256 .fp8e4m3) (v15 : Vec Ideal S1x256 .f32) (p : Fin 768) (q : Fin 256) :
    k0_pay1 v0 v1 v2 v6 v1 v11 v15 (ix2 p q)
      = proj v1 v2 v0 v6 p q * FloatOps.logistic (F := Ideal) (φ := .f32) (proj v1 v2 v0 v6 p q) * proj v1 v11 v0 v15 p q := by
  unfold k0_pay1
  simp only [shapeCast_self]
  have h1 := proj_apply (φ₁ := .fp8e4m3) (φ₂ := .fp8e4m3) dot_S768x12288_S12288x256_S768x256_1_0_0_1_n_n rfl v1 v2 v0 v6
    broadcasts_S768x1_S768x256 broadcasts_S1x256_S768x256 p q
  have h2 := proj_apply (φ₁ := .fp8e4m3) (φ₂ := .fp8e4m3) dot_S768x12288_S12288x256_S768x256_1_0_0_1_n_n rfl v1 v11 v0 v15
    broadcasts_S768x1_S768x256 broadcasts_S1x256_S768x256 p q
  rw [mulf_apply, mulf_apply, ← h1, ← h2]
  rfl

/-- Each window's block index at each point of the grid, beside the result's. -/
theorem idx_facts : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = win0_6.index t (1 : Fin 2) + 14
    ∧ win0_2.index t (0 : Fin 2) = 0 ∧ win0_2.index t (1 : Fin 2) = win0_6.index t (1 : Fin 2) + 47
    ∧ win0_3.index t (0 : Fin 2) = win0_6.index t (0 : Fin 2) ∧ win0_3.index t (1 : Fin 2) = 0
    ∧ win0_4.index t (0 : Fin 2) = 0 ∧ win0_4.index t (1 : Fin 2) = win0_6.index t (1 : Fin 2) + 14
    ∧ win0_5.index t (0 : Fin 2) = 0 ∧ win0_5.index t (1 : Fin 2) = win0_6.index t (1 : Fin 2) + 47
    ∧ win0_6.index t (0 : Fin 2) = t.val / 33 ∧ win0_6.index t (1 : Fin 2) = t.val % 33 :=
  (by decide +kernel : ∀ t : Fin grid0.N, _)

theorem hz : (![0, 0] : Fin 2 → Nat) = fun _ => 0 := funext fun a => by fin_cases a <;> rfl

/-- The column scales as the region finds them: the argument, laid out as one row. -/
theorem V_v0 (c : Dev nD) : V m c main_v0 = shapeCast S1x20480 (m ((c : Thread nD τ).loc main_arg3)) shapeCasts_S20480_S1x20480 := by
  show StableHlo.after hostOps0 _ _ = _
  rw [StableHlo.after_cons, StableHlo.after_nil, StableHlo.reshape_result]
  rfl

/-- The result array as one function of the region's arrays. -/
def G (c : Dev nD) : S10752x8448.Idx → EReal := fun i =>
  gated (V m c main_arg0) (V m c main_arg1) (V m c main_arg2) (V m c main_v0) (i 0) (i 1)

/-- The body's loads are of whole blocks and its one store is of a whole block. -/
theorem out_eq (x0 : Vec Ideal S768x12288 .fp8e4m3) (x1 x2 : Vec Ideal S12288x256 .fp8e4m3) (x3 : Vec Ideal S768x1 .f32)
    (x4 x5 : Vec Ideal S1x256 .f32) : out0_6 x0 x1 x2 x3 x4 x5 = k0_pay1 x3 x0 x1 x4 x0 x2 x5 := by
  unfold out0_6
  rw [View.canon_unit_zero hz, View.ld_unit_zero (S := S768x1) hz, View.ld_unit_zero (S := S768x12288) hz,
    View.ld_unit_zero (S := S12288x256) hz, View.ld_unit_zero (S := S1x256) hz, View.ld_unit_zero (S := S12288x256) hz,
    View.ld_unit_zero (S := S1x256) hz]

/-- What a point writes back is its block of `G`. -/
theorem flushed_eq (c : Dev nD) (t : Fin cfg0.N) :
    (dats m 0 c).flushed 6 t = ((cfg0.win 6).blk t).view.read (Elt Ideal) (G m c) := by
  rw [Value.flushed6, out_eq]
  obtain ⟨e0, e1, e2, e3, e4, e5, e6, e7, e8, e9, e10, e11, e12, e13⟩ := idx_facts t
  funext j
  obtain ⟨p, q, rfl⟩ : ∃ (p : Fin 768) (q : Fin 256), j = ix2 p q := ⟨_, _, eq_ix2 j⟩
  refine (pay_apply _ _ _ _ _ _ p q).trans ?_
  have ht : t.val < 462 := t.isLt
  have b0 : win0_6.index t (0 : Fin 2) < 14 := by omega
  have b1 : win0_6.index t (1 : Fin 2) < 33 := by omega
  have h0 : ∀ k : Fin 12288, iblk m c 0 t (ix2 p k) = V m c main_arg0 (ix2 ⟨win0_6.index t (0 : Fin 2) * 768 + p.val, by omega⟩ k) := fun k => by
    refine congrArg (V m c main_arg0) (Shape.idx_ext₂ ?_ ?_)
    · show win0_0.index t (0 : Fin 2) * 768 + 1 * p.val = win0_6.index t (0 : Fin 2) * 768 + p.val
      omega
    · show win0_0.index t (1 : Fin 2) * 12288 + 1 * k.val = k.val
      omega
  have h1 : ∀ k : Fin 12288, iblk m c 1 t (ix2 k q) = V m c main_arg1 (ix2 k ⟨win0_6.index t (1 : Fin 2) * 256 + q.val + 3584, by omega⟩) := fun k => by
    refine congrArg (V m c main_arg1) (Shape.idx_ext₂ ?_ ?_)
    · show win0_1.index t (0 : Fin 2) * 12288 + 1 * k.val = k.val
      omega
    · show win0_1.index t (1 : Fin 2) * 256 + 1 * q.val = win0_6.index t (1 : Fin 2) * 256 + q.val + 3584
      omega
  have h2 : ∀ k : Fin 12288, iblk m c 2 t (ix2 k q) = V m c main_arg1 (ix2 k ⟨win0_6.index t (1 : Fin 2) * 256 + q.val + 12032, by omega⟩) := fun k => by
    refine congrArg (V m c main_arg1) (Shape.idx_ext₂ ?_ ?_)
    · show win0_2.index t (0 : Fin 2) * 12288 + 1 * k.val = k.val
      omega
    · show win0_2.index t (1 : Fin 2) * 256 + 1 * q.val = win0_6.index t (1 : Fin 2) * 256 + q.val + 12032
      omega
  have h3 : iblk m c 3 t (ix2 p 0) = V m c main_arg2 (ix2 ⟨win0_6.index t (0 : Fin 2) * 768 + p.val, by omega⟩ 0) := by
    refine congrArg (V m c main_arg2) (Shape.idx_ext₂ ?_ ?_)
    · show win0_3.index t (0 : Fin 2) * 768 + 1 * p.val = win0_6.index t (0 : Fin 2) * 768 + p.val
      omega
    · show win0_3.index t (1 : Fin 2) * 1 + 1 * 0 = 0
      omega
  have h4 : iblk m c 4 t (ix2 0 q) = V m c main_v0 (ix2 0 ⟨win0_6.index t (1 : Fin 2) * 256 + q.val + 3584, by omega⟩) := by
    refine congrArg (V m c main_v0) (Shape.idx_ext₂ ?_ ?_)
    · show win0_4.index t (0 : Fin 2) * 1 + 1 * 0 = 0
      omega
    · show win0_4.index t (1 : Fin 2) * 256 + 1 * q.val = win0_6.index t (1 : Fin 2) * 256 + q.val + 3584
      omega
  have h5 : iblk m c 5 t (ix2 0 q) = V m c main_v0 (ix2 0 ⟨win0_6.index t (1 : Fin 2) * 256 + q.val + 12032, by omega⟩) := by
    refine congrArg (V m c main_v0) (Shape.idx_ext₂ ?_ ?_)
    · show win0_5.index t (0 : Fin 2) * 1 + 1 * 0 = 0
      omega
    · show win0_5.index t (1 : Fin 2) * 256 + 1 * q.val = win0_6.index t (1 : Fin 2) * 256 + q.val + 12032
      omega
  have hi : ((cfg0.win 6).blk t).view.emb (ix2 p q)
      = ix2 (⟨win0_6.index t (0 : Fin 2) * 768 + p.val, by omega⟩ : Fin 10752) (⟨win0_6.index t (1 : Fin 2) * 256 + q.val, by omega⟩ : Fin 8448) := by
    refine Shape.idx_ext₂ ?_ ?_
    · show win0_6.index t (0 : Fin 2) * 768 + 1 * p.val = win0_6.index t (0 : Fin 2) * 768 + p.val
      omega
    · show win0_6.index t (1 : Fin 2) * 256 + 1 * q.val = win0_6.index t (1 : Fin 2) * 256 + q.val
      omega
  show _ = G m c (((cfg0.win 6).blk t).view.emb (ix2 p q))
  rw [hi]
  show _ = gated (V m c main_arg0) (V m c main_arg1) (V m c main_arg2) (V m c main_v0) ⟨_, _⟩ ⟨_, _⟩
  unfold gated
  rw [proj_congr h0 h1 h3 h4, proj_congr h0 h2 h3 h5]

/-- An index is in a point's block iff each coordinate is in the block's range on its axis. -/
theorem mem_blk (t : Fin cfg0.N) (i : S10752x8448.Idx) :
    i ∈ ((cfg0.win 6).blk t).view.set ↔ ∀ a : Fin 2, win0_6.index t a * S768x256.size a ≤ (i a).val ∧ (i a).val < win0_6.index t a * S768x256.size a + S768x256.size a := by
  show i ∈ ((View.whole main_v1).slice (win0_6.rect t)).set ↔ _
  rw [View.set_slice_whole, Rect.mem_set_unit]
  exact Iff.rfl

/-- Every index of the result is in some point's block. -/
theorem covered (i : S10752x8448.Idx) :
    ∃ t : Fin cfg0.N, (cfg0.win 6).flush t = true ∧ i ∈ ((cfg0.win 6).blk t).view.set := by
  have hi0 : (i 0).val < 10752 := (i 0).isLt
  have hi1 : (i 1).val < 8448 := (i 1).isLt
  let t : Fin cfg0.N := ⟨(i 0).val / 768 * 33 + (i 1).val / 256, by show _ < 462; omega⟩
  have f := idx_facts t
  have f0 : win0_6.index t (0 : Fin 2) = ((i 0).val / 768 * 33 + (i 1).val / 256) / 33 := f.2.2.2.2.2.2.2.2.2.2.2.2.1
  have f1 : win0_6.index t (1 : Fin 2) = ((i 0).val / 768 * 33 + (i 1).val / 256) % 33 := f.2.2.2.2.2.2.2.2.2.2.2.2.2
  refine ⟨t, flush0_6 t, ?_⟩
  rw [mem_blk]
  intro a
  match a with
  | ⟨0, _⟩ => show win0_6.index t (0 : Fin 2) * 768 ≤ (i 0).val ∧ (i 0).val < win0_6.index t (0 : Fin 2) * 768 + 768; omega
  | ⟨1, _⟩ => show win0_6.index t (1 : Fin 2) * 256 ≤ (i 1).val ∧ (i 1).val < win0_6.index t (1 : Fin 2) * 256 + 256; omega

/-- The result array after the run. -/
theorem final (c : Dev nD) : (dats m 0 c).arrAt 6 cfg0.N = G m c :=
  (dats m 0 c).arrAt_eq_of_cover 6 _ (fun t _ => flushed_eq m c t) covered

/-- … of the arguments as launched. -/
theorem G_eq (c : Dev nD) : G m c = mlpOut (m ((c : Thread nD τ).loc main_arg0)) (m ((c : Thread nD τ).loc main_arg1))
    (m ((c : Thread nD τ).loc main_arg2)) (m ((c : Thread nD τ).loc main_arg3)) := by
  unfold G
  rw [V_v0, V_main_arg0, V_main_arg1, V_main_arg2]
  rfl

end Cert.Proof.MlpK

end
-- ==== Proof.MlpRef.lean ====
/- What the gated projection's reference leaves in its result array: the same function of the same arrays. -/
module

public import proofs.«01_k».proof.Proof.MlpValue
public import proofs.«01_k».proof.Proof.Gen.MlpRefIdeal.Value

@[expose] public section

set_option maxRecDepth 16384

noncomputable section

namespace Cert.Proof.MlpR

open Cert.MlpRefIdeal Cert.MlpRefIdeal.Gen Idealize.ShloMosaic Idealize.ShloMosaic.TcCoe Idealize.SL.Sem
open Idealize.ShloMosaic.ValueIdx Cert.Proof
open Idealize.ShloMosaic.Pipeline (Dat)

variable (m : (ℓ : Loc nD τ sig) → Buf (Elt Ideal) ℓ) (ρ : Dev nD → PrngReg)

/-- The body's payload at an index. -/
theorem pay_apply (v0 : Vec Ideal S10752x12288 .fp8e4m3) (v1 : Vec Ideal S10752x1 .f32) (v2 : Vec Ideal S12288x20480 .fp8e4m3)
    (v3 : Vec Ideal S1x20480 .f32) (r : Fin 10752) (c : Fin 8448) :
    k0_pay1 v0 v1 v2 v3 (ix2 r c) = gated v0 v2 v1 v3 r c := by
  have h := proj_apply (φ₁ := .fp8e4m3) (φ₂ := .fp8e4m3) dot_S10752x12288_S12288x20480_S10752x20480_1_0_0_1_n_n rfl v0 v2 v1 v3
    broadcasts_S10752x1_S10752x20480 broadcasts_S1x20480_S10752x20480 r
  unfold k0_pay1 gated
  simp only [shapeCast_self]
  rw [mulf_apply, mulf_apply, ← h, ← h]
  generalize mulf (F := Ideal) (φ := .f32) (mulf _ (broadcastTo S10752x20480 v1 _)) (broadcastTo S10752x20480 v3 _) = y
  have e1 := fun (x : S10752x20480.Idx → EReal) => extractStridedSlice_apply (t := S10752x8448) ![0, 3584] x
    slices_S10752x20480_o0_3584_S10752x8448 (ix2 r c) (ix2 r ⟨c.val + 3584, by omega⟩) (fun a => by
      match a with
      | ⟨0, _⟩ => show r.val = 0 + r.val; omega
      | ⟨1, _⟩ => show c.val + 3584 = 3584 + c.val; omega)
  have e2 := fun (x : S10752x20480.Idx → EReal) => extractStridedSlice_apply (t := S10752x8448) ![0, 12032] x
    slices_S10752x20480_o0_12032_S10752x8448 (ix2 r c) (ix2 r ⟨c.val + 12032, by omega⟩) (fun a => by
      match a with
      | ⟨0, _⟩ => show r.val = 0 + r.val; omega
      | ⟨1, _⟩ => show c.val + 12032 = 12032 + c.val; omega)
  rw [← e1 y, ← e2 y]
  rfl

theorem hz : (![0, 0] : Fin 2 → Nat) = fun _ => 0 := funext fun a => by fin_cases a <;> rfl

/-- The body's loads and its store are of whole arrays. -/
theorem out_eq (x0 : Vec Ideal S10752x12288 .fp8e4m3) (x1 : Vec Ideal S12288x20480 .fp8e4m3) (x2 : Vec Ideal S10752x1 .f32)
    (x3 : Vec Ideal S1x20480 .f32) : out0_4 x0 x1 x2 x3 = k0_pay1 x0 x2 x1 x3 := by
  unfold out0_4
  rw [View.canon_unit_zero hz, View.ld_unit_zero (S := S10752x12288) hz, View.ld_unit_zero (S := S10752x1) hz,
    View.ld_unit_zero (S := S12288x20480) hz, View.ld_unit_zero (S := S1x20480) hz]

/-- The column scales as the region finds them: the argument, laid out as one row. -/
theorem V_v0 (c : Dev nD) : V m c main_v0 = shapeCast S1x20480 (m ((c : Thread nD τ).loc main_arg3)) shapeCasts_S20480_S1x20480 := by
  show StableHlo.after hostOps0 _ _ = _
  rw [StableHlo.after_cons, StableHlo.after_nil, StableHlo.reshape_result]
  rfl

/-- Each window is its whole array. -/
theorem idx_facts : ∀ t : Fin cfg0.N,
    win0_0.index t (0 : Fin 2) = 0 ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem emb4 (t : Fin cfg0.N) (j : S10752x8448.Idx) : ((cfg0.win 4).blk t).view.emb j = j := by
  obtain ⟨-, -, -, -, -, -, -, -, e0, e1⟩ := idx_facts t
  refine Shape.idx_ext₂ ?_ ?_
  · show win0_4.index t (0 : Fin 2) * 10752 + 1 * (j 0).val = (j 0).val; omega
  · show win0_4.index t (1 : Fin 2) * 8448 + 1 * (j 1).val = (j 1).val; omega

theorem iblk0 (c : Dev nD) (t : Fin cfg0.N) : iblk m c 0 t = V m c main_arg0 := by
  obtain ⟨e0, e1, -⟩ := idx_facts t
  funext j
  refine congrArg (V m c main_arg0) (Shape.idx_ext₂ ?_ ?_)
  · show win0_0.index t (0 : Fin 2) * 10752 + 1 * (j 0).val = (j 0).val; omega
  · show win0_0.index t (1 : Fin 2) * 12288 + 1 * (j 1).val = (j 1).val; omega

theorem iblk1 (c : Dev nD) (t : Fin cfg0.N) : iblk m c 1 t = V m c main_arg1 := by
  obtain ⟨-, -, e0, e1, -⟩ := idx_facts t
  funext j
  refine congrArg (V m c main_arg1) (Shape.idx_ext₂ ?_ ?_)
  · show win0_1.index t (0 : Fin 2) * 12288 + 1 * (j 0).val = (j 0).val; omega
  · show win0_1.index t (1 : Fin 2) * 20480 + 1 * (j 1).val = (j 1).val; omega

theorem iblk2 (c : Dev nD) (t : Fin cfg0.N) : iblk m c 2 t = V m c main_arg2 := by
  obtain ⟨-, -, -, -, e0, e1, -⟩ := idx_facts t
  funext j
  refine congrArg (V m c main_arg2) (Shape.idx_ext₂ ?_ ?_)
  · show win0_2.index t (0 : Fin 2) * 10752 + 1 * (j 0).val = (j 0).val; omega
  · show win0_2.index t (1 : Fin 2) * 1 + 1 * (j 1).val = (j 1).val; omega

theorem iblk3 (c : Dev nD) (t : Fin cfg0.N) : iblk m c 3 t = V m c main_v0 := by
  obtain ⟨-, -, -, -, -, -, e0, e1, -⟩ := idx_facts t
  funext j
  refine congrArg (V m c main_v0) (Shape.idx_ext₂ ?_ ?_)
  · show win0_3.index t (0 : Fin 2) * 1 + 1 * (j 0).val = (j 0).val; omega
  · show win0_3.index t (1 : Fin 2) * 20480 + 1 * (j 1).val = (j 1).val; omega

/-- The result array as one function of the region's arrays. -/
def G (c : Dev nD) : S10752x8448.Idx → EReal := fun i =>
  gated (V m c main_arg0) (V m c main_arg1) (V m c main_arg2) (V m c main_v0) (i 0) (i 1)

theorem flushed_eq (c : Dev nD) (t : Fin cfg0.N) :
    (dats m 0 c).flushed 4 t = ((cfg0.win 4).blk t).view.read (Elt Ideal) (G m c) := by
  rw [Value.flushed4, out_eq, iblk0, iblk1, iblk2, iblk3]
  funext j
  show k0_pay1 (F := Ideal) _ _ _ _ j = G m c (((cfg0.win 4).blk t).view.emb j)
  rw [emb4]
  exact (congrArg _ (eq_ix2 j)).trans (pay_apply _ _ _ _ (j 0) (j 1))

theorem final (c : Dev nD) : (dats m 0 c).arrAt 4 cfg0.N = G m c :=
  (dats m 0 c).arrAt_eq_of_cover 4 _ (fun t _ => flushed_eq m c t) fun i =>
    ⟨⟨0, by decide⟩, flush0_4 _, by
      have h := ((cfg0.win 4).blk ⟨0, by decide⟩).view.emb_mem_set i; rwa [emb4] at h⟩

/-- … of the arguments as launched. -/
theorem G_eq (c : Dev nD) : G m c = mlpOut (m ((c : Thread nD τ).loc main_arg0)) (m ((c : Thread nD τ).loc main_arg1))
    (m ((c : Thread nD τ).loc main_arg2)) (m ((c : Thread nD τ).loc main_arg3)) := by
  unfold G
  rw [V_v0, V_main_arg0, V_main_arg1, V_main_arg2]
  rfl

end Cert.Proof.MlpR

end
-- ==== Proof.MlpClaim.lean ====
/- The gated projection and its reference leave equal results. -/
module

public import proofs.«01_k».proof.Proof.MlpValue
public import proofs.«01_k».proof.Proof.MlpRef
public import proofs.«01_k».proof.Defs

@[expose] public section

noncomputable section

namespace Cert.Proof

open Idealize.ShloMosaic Idealize.ShloMosaic.TcCoe Idealize.SL.Sem

/-- Equal arguments give equal results. -/
theorem mlp_algebraic :
    algebraic_MlpIdeal_MlpRefIdeal (hMlpIdeal := Cert.MlpIdeal.Gen.facts) (hMlpRefIdeal := Cert.MlpRefIdeal.Gen.facts) := by
  intro m g m' g' _ hm
  refine ⟨fun c => MlpK.G m c, ?_, ?_⟩
  · refine (θ_run _ _ _).mono (fun r h c => ?_) (Cert.MlpIdeal.Value.run_blocks m g)
    obtain ⟨h0, h⟩ := h c
    exact ⟨h0.trans (MlpK.final m c), h⟩
  · refine (θ_run _ _ _).mono (fun r h c => ?_) (Cert.MlpRefIdeal.Value.run_blocks m' g')
    obtain ⟨h0, h⟩ := h c
    refine ⟨h0.trans ((MlpR.final m' c).trans ?_), h⟩
    obtain ⟨a0, a1, a2, a3⟩ := hm c
    refine (MlpR.G_eq m' c).trans (Eq.trans ?_ (MlpK.G_eq m c).symm)
    exact congr (congr (congr (congrArg mlpOut a0) a1) a2) a3

end Cert.Proof

end
-- ==== Proof.Rows.lean ====
/- A row quantised to codes and one scale, over the extended reals: the row's greatest magnitude, the scale that comes
   of it, and a code, with the two ways to write a code (a quotient by the scale, or a product with the scale's
   inverse) shown equal. The rows are functions of the column's number, so that a kernel's 128-column pieces and a
   reference's whole rows speak of one thing. -/
module

public import proofs.«01_k».proof.Proof.Project
public import Idealize.ShloMosaic.PureOps.Ideal.Laws
public import Idealize.ShloMosaic.PureOps.Reduce

@[expose] public section

noncomputable section

namespace Cert.Proof

open Idealize.ShloMosaic Idealize.ShloMosaic.ValueIdx

/-- The greatest magnitude among the first `N` entries of a row. -/
def top (N : ℕ) (f : ℕ → EReal) : EReal := (Finset.range N).sup fun c => max (f c) (-f c)

theorem top_le_iff (N : ℕ) (f : ℕ → EReal) (b : EReal) : top N f ≤ b ↔ ∀ c, c < N → max (f c) (-f c) ≤ b := by
  unfold top; simp [Finset.sup_le_iff]

theorem top_congr {N : ℕ} {f g : ℕ → EReal} (h : ∀ c, c < N → f c = g c) : top N f = top N g := by
  refine eq_of_forall_ge_iff fun b => ?_
  rw [top_le_iff, top_le_iff]
  exact forall_congr' fun c => ⟨fun k hc => (h c hc) ▸ k hc, fun k hc => (h c hc).symm ▸ k hc⟩

/-- A magnitude is not negative. -/
theorem abs_nonneg' (x : EReal) : 0 ≤ max x (-x) := by
  rcases le_total 0 x with h | h
  · exact le_max_of_le_left h
  · exact le_max_of_le_right (by simpa using EReal.neg_le_neg_iff.2 h)

theorem ofBits_ninf : Ideal.ofBits .f32 0xFF800000#32 = ⊥ := by
  simp [Ideal.ofBits, Ideal.ieee]

theorem ofBits_one : Ideal.ofBits .f32 0x3F800000#32 = 1 := by
  simp [Ideal.ofBits, Ideal.ieee, -EReal.coe_mul]; norm_num

theorem ofBits_448 : Ideal.ofBits .f32 0x43E00000#32 = ((448 : ℝ) : EReal) := by
  simp [Ideal.ofBits, Ideal.ieee, -EReal.coe_mul]; norm_num

/-- A maximum along the lanes is below a bound exactly when each entry of the row is. -/
theorem laneMax_le_iff {M N : ℕ} (src : FVec Ideal ⟨2, ![M, N]⟩ .f32) (h : (⟨2, ![M, N]⟩ : Shape).Reduces [1] ⟨1, ![M]⟩)
    (hφ : FKind.Formats .f32) (hacc : 0xFF800000#32 = FKind.maximumf.neutral .f32 hφ) (r : Fin M) (b : EReal) :
    multiReduction .maximumf [1] ⟨1, ![M]⟩ src 0xFF800000#32 h hφ hacc (ix1 r) ≤ b ↔ ∀ c : Fin N, src (ix2 r c) ≤ b := by
  have e := Ideal.multiReduction_maximumf_single (a := (1 : Fin 2)) src 0xFF800000#32 h hφ hacc (ix1 r)
  have l : ∀ c : Fin N, h.lift (ix1 r) c = ix2 r c := fun c => Shape.idx_ext₂ rfl rfl
  rw [e, Finset.fold_max_le]
  refine ⟨fun k c => (congrArg src (l c)).symm.le.trans (k.2 c (Finset.mem_univ _)), fun k => ⟨?_, fun c _ => ?_⟩⟩
  · show Ideal.ofBits .f32 0xFF800000#32 ≤ b
    rw [ofBits_ninf]; exact bot_le
  · exact (congrArg src (l c)).le.trans (k c)

/-- A vector as one column, read at a row. -/
theorem shapeCast_col {M : ℕ} {α : Type} (x : (⟨1, ![M]⟩ : Shape).Idx → α) (h : (⟨1, ![M]⟩ : Shape).ShapeCasts ⟨2, ![M, 1]⟩) (p : Fin M) (q : Fin 1) :
    shapeCast ⟨2, ![M, 1]⟩ x h (ix2 p q) = x (ix1 p) :=
  shapeCast_apply x h (ix2 p q) (ix1 p) (by
    simp only [Shape.rowMajor_val_two, Shape.rowMajor_val_one]
    have := q.isLt
    show p.val = p.val * 1 + q.val
    omega)

/-- The scale of a row whose greatest magnitude is `a`. -/
def rowScale (a : EReal) : EReal := if a = 0 then 1 else Ideal.div a ((448 : ℝ) : EReal)

/-- The code of an entry, from the entry over the scale. -/
def clip (v : EReal) : EReal := min ((448 : ℝ) : EReal) (max (Ideal.ofBits .f32 0xC3E00000#32) v)

theorem div_ne_zero (a : EReal) (ha : a ≠ 0) : Ideal.div a ((448 : ℝ) : EReal) ≠ 0 := by
  rw [Ideal.div_coe (by norm_num)]
  intro h
  rcases mul_eq_zero.1 h with h | h
  · exact ha h
  · norm_num at h

theorem rowScale_ne_zero (a : EReal) : rowScale a ≠ 0 := by
  unfold rowScale
  split_ifs with h
  · exact one_ne_zero
  · exact div_ne_zero a h

/-- A product with the inverse of a scale that is not zero is the quotient by the scale. -/
theorem mul_inv_eq_div {v s : EReal} (hs : s ≠ 0) : v * Ideal.div 1 s = Ideal.div v s := by
  unfold Ideal.div; rw [if_neg hs, if_neg hs, one_mul]

/-- The printed choice of the scale. -/
theorem select_scale (a : EReal) :
    Scalar.select (FloatOps.cmpf (F := Ideal) (φ := .f32) .oeq a (Scalar.ofBits (F := Ideal) .f32 0x00000000#32))
      (Scalar.ofBits (F := Ideal) .f32 0x3F800000#32) (FloatOps.divf (F := Ideal) (φ := .f32) a (Scalar.ofBits (F := Ideal) .f32 0x43E00000#32))
    = rowScale a := by
  have h0 : Scalar.ofBits (F := Ideal) .f32 0x00000000#32 = (0 : EReal) := ofBits_zero
  have h1 : Scalar.ofBits (F := Ideal) .f32 0x3F800000#32 = (1 : EReal) := ofBits_one
  have h2 : Scalar.ofBits (F := Ideal) .f32 0x43E00000#32 = ((448 : ℝ) : EReal) := ofBits_448
  rw [h0, h1, h2]
  unfold rowScale Scalar.select
  by_cases h : a = 0 <;> simp [h, FloatOps.cmpf, Ideal.cmp] <;> rfl

end Cert.Proof
-- ==== Proof.Chunks.lean ====
/- Rows read in pieces of 32 rows and 128 columns: the running maximum of the pieces' magnitudes, and the maximum of it
   along the lanes, which is the greatest magnitude of the whole row. -/
module

public import proofs.«01_k».proof.Proof.Rows

@[expose] public section

noncomputable section

namespace Cert.Proof

open Idealize.ShloMosaic Idealize.ShloMosaic.ValueIdx

/-- The piece of `z` whose first row is `r0` and whose first column is `c0`. -/
def chunk (z : ℕ → ℕ → EReal) (r0 c0 : ℕ) : FVec Ideal ⟨2, ![32, 128]⟩ .f32 := fun y => z (r0 + (y 0).val) (c0 + (y 1).val)

/-- The running maximum of the first `n` pieces' magnitudes, from zero. -/
def maxUpto (z : ℕ → ℕ → EReal) (r0 : ℕ) : ℕ → FVec Ideal ⟨2, ![32, 128]⟩ .f32
  | 0 => broadcast ⟨2, ![32, 128]⟩ (Scalar.ofBits (F := Ideal) .f32 0x00000000#32)
  | n + 1 => maximumf (maxUpto z r0 n) (absf (chunk z r0 (128 * n)))

/-- One more piece. -/
theorem maxUpto_step {z : ℕ → ℕ → EReal} {r0 n : ℕ} {t v : FVec Ideal ⟨2, ![32, 128]⟩ .f32} (ht : t = maxUpto z r0 n)
    (hv : v = chunk z r0 (128 * n)) : maximumf t (absf v) = maxUpto z r0 (n + 1) := by
  rw [ht, hv]; rfl

theorem maxUpto_le_iff (z : ℕ → ℕ → EReal) (r0 n : ℕ) (r : Fin 32) (l : Fin 128) (b : EReal) :
    maxUpto z r0 n (ix2 r l) ≤ b
      ↔ 0 ≤ b ∧ ∀ j, j < n → max (z (r0 + r.val) (128 * j + l.val)) (-z (r0 + r.val) (128 * j + l.val)) ≤ b := by
  induction n with
  | zero =>
    have h : maxUpto z r0 0 (ix2 r l) = 0 := ofBits_zero
    rw [h]; simp
  | succ n ih =>
    have h : maxUpto z r0 (n + 1) (ix2 r l)
        = max (maxUpto z r0 n (ix2 r l)) (max (z (r0 + r.val) (128 * n + l.val)) (-z (r0 + r.val) (128 * n + l.val))) := rfl
    rw [h, max_le_iff, ih]
    constructor
    · rintro ⟨⟨h0, hj⟩, hn⟩
      refine ⟨h0, fun j hjn => ?_⟩
      rcases Nat.lt_succ_iff_lt_or_eq.1 hjn with h | rfl
      · exact hj j h
      · exact hn
    · rintro ⟨h0, hj⟩
      exact ⟨⟨h0, fun j hjn => hj j (by omega)⟩, hj n (by omega)⟩

/-- The maximum along the lanes of the running maximum is the row's greatest magnitude. -/
theorem laneMax_maxUpto (z : ℕ → ℕ → EReal) (r0 n : ℕ) (hn : 0 < n) (h : (⟨2, ![32, 128]⟩ : Shape).Reduces [1] ⟨1, ![32]⟩)
    (hφ : FKind.Formats .f32) (hacc : 0xFF800000#32 = FKind.maximumf.neutral .f32 hφ) (r : Fin 32) :
    multiReduction .maximumf [1] ⟨1, ![32]⟩ (maxUpto z r0 n) 0xFF800000#32 h hφ hacc (ix1 r) = top (128 * n) (z (r0 + r.val)) := by
  refine eq_of_forall_ge_iff fun b => ?_
  rw [laneMax_le_iff, top_le_iff]
  constructor
  · intro k c hc
    have := ((maxUpto_le_iff z r0 n r ⟨c % 128, Nat.mod_lt _ (by norm_num)⟩ b).1 (k _)).2 (c / 128) (by omega)
    rwa [show 128 * (c / 128) + c % 128 = c from Nat.div_add_mod c 128] at this
  · intro k l
    refine (maxUpto_le_iff z r0 n r l b).2 ⟨(abs_nonneg' (z (r0 + r.val) 0)).trans (k 0 (by omega)), fun j hj => k _ ?_⟩
    have := l.isLt
    omega

/-- The clipped quotient of a piece by a scale of its row, as the product with the scale's inverse. -/
def codePiece (inv : FVec Ideal ⟨2, ![32, 1]⟩ .f32) (h : (⟨2, ![32, 1]⟩ : Shape).Broadcasts ⟨2, ![32, 128]⟩)
    (v : FVec Ideal ⟨2, ![32, 128]⟩ .f32) : FVec Ideal ⟨2, ![32, 128]⟩ .fp8e4m3 :=
  truncf .fp8e4m3 (minimumf (broadcast ⟨2, ![32, 128]⟩ (Scalar.ofBits (F := Ideal) .f32 0x43E00000#32))
    (maximumf (broadcast ⟨2, ![32, 128]⟩ (Scalar.ofBits (F := Ideal) .f32 0xC3E00000#32)) (mulf v (broadcastTo ⟨2, ![32, 128]⟩ inv h))))
    (by decide)

theorem codePiece_apply (inv : FVec Ideal ⟨2, ![32, 1]⟩ .f32) (h : (⟨2, ![32, 1]⟩ : Shape).Broadcasts ⟨2, ![32, 128]⟩)
    (v : FVec Ideal ⟨2, ![32, 128]⟩ .f32) (r : Fin 32) (l : Fin 128) (s : EReal) (hs : s ≠ 0) (hi : inv (ix2 r 0) = Ideal.div 1 s) :
    codePiece inv h v (ix2 r l) = clip (Ideal.div (v (ix2 r l)) s) := by
  have e := bcast_col inv h r l
  rw [hi] at e
  have e2 : codePiece inv h v (ix2 r l)
      = min (Ideal.ofBits .f32 0x43E00000#32) (max (Ideal.ofBits .f32 0xC3E00000#32) (v (ix2 r l) * broadcastTo ⟨2, ![32, 128]⟩ inv h (ix2 r l))) := rfl
  rw [e2, e, mul_inv_eq_div hs, ofBits_448]
  rfl

end Cert.Proof
-- ==== Proof.Spec.lean ====
/- The last two steps of the layer as functions of whole arrays: the row quantiser of `[attn, h]`, and the output
   projection of its codes added to the residual. -/
module

public import proofs.«01_k».proof.Proof.Project
public import proofs.«01_k».proof.Proof.Rows

@[expose] public section

noncomputable section

namespace Cert.Proof

open Idealize.ShloMosaic Idealize.ShloMosaic.ValueIdx

/-- Two arrays side by side, read at a row's and a column's number. -/
def cat {M n₁ n₂ : ℕ} (A : (⟨2, ![M, n₁]⟩ : Shape).Idx → EReal) (H : (⟨2, ![M, n₂]⟩ : Shape).Idx → EReal) (r c : ℕ) : EReal :=
  if hr : r < M then
    if h : c < n₁ then A (ix2 ⟨r, hr⟩ ⟨c, h⟩) else if h' : c - n₁ < n₂ then H (ix2 ⟨r, hr⟩ ⟨c - n₁, h'⟩) else 0
  else 0

/-- The scale of a row of `z` and the code of an entry. -/
def zScale (z : ℕ → ℕ → EReal) (r : ℕ) : EReal := rowScale (top 11520 (z r))
def zCode (z : ℕ → ℕ → EReal) (r c : ℕ) : EReal := clip (Ideal.div (z r c) (zScale z r))

/-- A row's scale and codes depend on that row only. -/
theorem zScale_congr {z z' : ℕ → ℕ → EReal} {r r' : ℕ} (h : ∀ c, z r c = z' r' c) : zScale z r = zScale z' r' := by
  unfold zScale
  rw [show z r = z' r' from funext h]

theorem zCode_congr {z z' : ℕ → ℕ → EReal} {r r' : ℕ} (h : ∀ c, z r c = z' r' c) (c : ℕ) : zCode z r c = zCode z' r' c := by
  unfold zCode
  rw [zScale_congr h, h c]

/-- The scales, the codes and the layer's output, as whole arrays. -/
def zScales (A : (⟨2, ![10752, 3072]⟩ : Shape).Idx → EReal) (H : (⟨2, ![10752, 8448]⟩ : Shape).Idx → EReal) :
    (⟨2, ![10752, 1]⟩ : Shape).Idx → EReal := fun i => zScale (cat A H) (i 0).val

def zCodes (A : (⟨2, ![10752, 3072]⟩ : Shape).Idx → EReal) (H : (⟨2, ![10752, 8448]⟩ : Shape).Idx → EReal) :
    (⟨2, ![10752, 11520]⟩ : Shape).Idx → EReal := fun i => zCode (cat A H) (i 0).val (i 1).val

/-- The output projection of any codes and scales, the residual added. -/
def outOf (C : (⟨2, ![10752, 11520]⟩ : Shape).Idx → EReal) (W : (⟨2, ![11520, 12288]⟩ : Shape).Idx → EReal)
    (rs : (⟨2, ![10752, 1]⟩ : Shape).Idx → EReal) (cs : (⟨2, ![1, 12288]⟩ : Shape).Idx → EReal)
    (X : (⟨2, ![10752, 12288]⟩ : Shape).Idx → EReal) : (⟨2, ![10752, 12288]⟩ : Shape).Idx → EReal :=
  fun i => proj C W rs cs (i 0) (i 1) + X i

/-- The call pair's output as one function of the five arguments. -/
def backOut (A : (⟨2, ![10752, 3072]⟩ : Shape).Idx → EReal) (H : (⟨2, ![10752, 8448]⟩ : Shape).Idx → EReal)
    (W : (⟨2, ![11520, 12288]⟩ : Shape).Idx → EReal) (cs : (⟨1, ![12288]⟩ : Shape).Idx → EReal)
    (X : (⟨2, ![10752, 12288]⟩ : Shape).Idx → EReal) : (⟨2, ![10752, 12288]⟩ : Shape).Idx → EReal :=
  outOf (zCodes A H) W (zScales A H) (shapeCast ⟨2, ![1, 12288]⟩ cs (by decide)) X

end Cert.Proof

end
-- ==== Proof.ZPieces.lean ====
/- What one trip of the row quantiser of `[attn, h]` stores, and so what a block of codes and of scales holds after the
   call's eight trips of 32 rows. -/
module

public import proofs.«01_k».proof.Proof.Chunks
public import proofs.«01_k».proof.Proof.Spec
public import proofs.«01_k».proof.Proof.Gen.BackIdeal.Frame

@[expose] public section

set_option maxRecDepth 100000
set_option maxHeartbeats 4000000

noncomputable section

namespace Cert.Proof.BackZ

open Cert.BackIdeal Cert.BackIdeal.Gen Idealize.ShloMosaic Idealize.ShloMosaic.TcCoe Idealize.SL.Sem
open Idealize.ShloMosaic.ValueIdx Cert.Proof

variable {arg1 : Memref sig .tc .vmem S256x3072 .f32} {harg1 : arg1.IsWhole} {arg2 : Memref sig .tc .vmem S256x8448 .f32}
  {harg2 : arg2.IsWhole} {arg3 : Memref sig .tc .vmem S256x11520 .fp8e4m3} {harg3 : arg3.IsWhole}
  {arg4 : Memref sig .tc .vmem S256x1 .f32} {harg4 : arg4.IsWhole}
  (x0 : Vec Ideal S256x3072 .f32) (x1 : Vec Ideal S256x8448 .f32)

/-- The 256 rows of a block, both arrays side by side. -/
abbrev zb : ℕ → ℕ → EReal := cat x0 x1

/-- A load of the first array is a piece of the rows, -/
theorem readA (k : Fin k0_t1_loop.trips) (c0 : ℕ) (hc : c0 + 128 ≤ 3072) {off : Fin 2 → ℕ} (ho : off = ![32 * k.val, c0])
    (inb : ∀ a, off a + S32x128.size a ≤ S256x3072.size a) :
    View.readAt (Elt Ideal) arg1.view (Rect.unit (s := S256x3072) off S32x128.size inb).toLoadRect (harg1.unread x0)
      = chunk (zb x0 x1) (32 * k.val) c0 := by
  subst ho
  have hk : k.val < 8 := Nat.lt_of_lt_of_le k.isLt k0_t1_abs.2.1
  rw [View.readAt_eq_ld, Memref.IsWhole.read_unread]
  funext y
  have h0 : (y 0).val < 32 := (y 0).isLt
  have h1 : (y 1).val < 128 := (y 1).isLt
  unfold chunk zb cat
  rw [dif_pos (by omega), dif_pos (by omega)]
  exact congrArg x0 (Shape.idx_ext₂ (by show 32 * k.val + 1 * (y 0).val = 32 * k.val + (y 0).val; omega)
    (by show c0 + 1 * (y 1).val = c0 + (y 1).val; omega))

/-- and so is a load of the second. -/
theorem readH (k : Fin k0_t1_loop.trips) (c0 : ℕ) (hc : 3072 ≤ c0 ∧ c0 + 128 ≤ 11520) {off : Fin 2 → ℕ} (ho : off = ![32 * k.val, c0 - 3072])
    (inb : ∀ a, off a + S32x128.size a ≤ S256x8448.size a) :
    View.readAt (Elt Ideal) arg2.view (Rect.unit (s := S256x8448) off S32x128.size inb).toLoadRect (harg2.unread x1)
      = chunk (zb x0 x1) (32 * k.val) c0 := by
  subst ho
  have hk : k.val < 8 := Nat.lt_of_lt_of_le k.isLt k0_t1_abs.2.1
  rw [View.readAt_eq_ld, Memref.IsWhole.read_unread]
  funext y
  have h0 : (y 0).val < 32 := (y 0).isLt
  have h1 : (y 1).val < 128 := (y 1).isLt
  unfold chunk zb cat
  rw [dif_pos (by omega), dif_neg (by omega), dif_pos (by omega)]
  exact congrArg x1 (Shape.idx_ext₂ (by show 32 * k.val + 1 * (y 0).val = 32 * k.val + (y 0).val; omega)
    (by show c0 - 3072 + 1 * (y 1).val = c0 + (y 1).val - 3072; omega))

/-- The scales one trip stores. -/
def scales (k : Fin k0_t1_loop.trips) : Vec Ideal S32x1 .f32 := fun y => zScale (zb x0 x1) (32 * k.val + (y 0).val)

/-- The scales that the trip computes from its running maximum. -/
def scaleOf (t : FVec Ideal S32x128 .f32) : FVec Ideal S32x1 .f32 :=
  select (cmpf .oeq (shapeCast S32x1 (multiReduction .maximumf [1] S32 t 0xFF800000#32 reduces_S32x128_S32 (.inl rfl) rfl) shapeCasts_S32_S32x1)
      (broadcast S32x1 (Scalar.ofBits (F := Ideal) .f32 0x00000000#32)))
    (broadcast S32x1 (Scalar.ofBits (F := Ideal) .f32 0x3F800000#32))
    (divf (shapeCast S32x1 (multiReduction .maximumf [1] S32 t 0xFF800000#32 reduces_S32x128_S32 (.inl rfl) rfl) shapeCasts_S32_S32x1)
      (broadcast S32x1 (Scalar.ofBits (F := Ideal) .f32 0x43E00000#32)))

theorem scaleOf_eq (k : Fin k0_t1_loop.trips) : scaleOf (maxUpto (zb x0 x1) (32 * k.val) 90) = scales x0 x1 k := by
  funext y
  obtain ⟨p, q, rfl⟩ : ∃ (p : Fin 32) (q : Fin 1), y = ix2 p q := ⟨y 0, y 1, eq_ix2 y⟩
  have e : shapeCast S32x1 (multiReduction .maximumf [1] S32 (maxUpto (zb x0 x1) (32 * k.val) 90) 0xFF800000#32 reduces_S32x128_S32 (.inl rfl) rfl)
      shapeCasts_S32_S32x1 (ix2 p q) = top 11520 (zb x0 x1 (32 * k.val + p.val)) := by
    exact (shapeCast_col _ shapeCasts_S32_S32x1 p q).trans (laneMax_maxUpto (zb x0 x1) (32 * k.val) 90 (by norm_num) _ _ _ p)
  refine Eq.trans ?_ (select_scale (top 11520 (zb x0 x1 (32 * k.val + p.val))))
  rw [← e]
  rfl

/-- What a block of codes holds at an index. -/
def zG : S256x11520.Idx → EReal := fun i => zCode (zb x0 x1) (i 0).val (i 1).val

/-- What a block of scales holds at an index. -/
def zS : S256x1.Idx → EReal := fun i => zScale (zb x0 x1) (i 0).val

/-- One store of codes. -/
theorem piece_ok (k : Fin k0_t1_loop.trips) (c0 : ℕ) (v : FVec Ideal S32x128 .f32) (hv : v = chunk (zb x0 x1) (32 * k.val) c0)
    {off : Fin 2 → ℕ} (ho : off = ![32 * k.val, c0]) (inb : ∀ a, off a + S32x128.size a ≤ S256x11520.size a)
    (x : S32x128.Idx) :
    codePiece (divf (broadcast S32x1 (Scalar.ofBits (F := Ideal) .f32 0x3F800000#32)) (scales x0 x1 k)) broadcasts_S32x1_S32x128 v x
      = zG x0 x1 ((Rect.unit (s := S256x11520) off S32x128.size inb).emb x) := by
  subst hv ho
  obtain ⟨p, q, rfl⟩ : ∃ (p : Fin 32) (q : Fin 128), x = ix2 p q := ⟨x 0, x 1, eq_ix2 x⟩
  rw [codePiece_apply _ _ _ p q (zScale (zb x0 x1) (32 * k.val + p.val)) (rowScale_ne_zero _)
    (by show Ideal.div (Ideal.ofBits .f32 0x3F800000#32) _ = _; rw [ofBits_one]; rfl)]
  show zCode (zb x0 x1) (32 * k.val + p.val) (c0 + q.val) = zCode (zb x0 x1) (32 * k.val + 1 * p.val) (c0 + 1 * q.val)
  rw [one_mul, one_mul]

section
variable (𝒱 : Variants) (c : Dev nD) (bd : Option 𝒱.V) (i : grid0.Coords)

/-- One trip's run, at the contents of its two inputs. -/
abbrev run (k : Fin k0_t1_loop.trips) :=
  tripL_k0_t1 (F := Ideal) 𝒱 c bd i arg1 harg1 arg2 harg2 arg3 harg3 arg4 harg4 (harg1.unread x0) (harg2.unread x1) k

/-- The running maximum of the trip's 90 pieces: the scales and their inverses come of it. -/
theorem run_top (k : Fin k0_t1_loop.trips) :
    trip_k0_t1.sl.r_14 arg1 arg2 (harg1.unread x0) (harg2.unread x1) k
        = divf (broadcast S32x1 (Scalar.ofBits (F := Ideal) .f32 0x3F800000#32)) (scales x0 x1 k)
      ∧ (run (harg1 := harg1) (harg2 := harg2) (harg3 := harg3) (harg4 := harg4) x0 x1 𝒱 c bd i k).2
        = [⟨Rect.unit (k0_off91 k) S32x1.size (k0_off91_inb k), scales x0 x1 k⟩] := by
  rw [← scaleOf_eq]
  suffices h : ∃ t, trip_k0_t1.sl.r_14 arg1 arg2 (harg1.unread x0) (harg2.unread x1) k
        = divf (broadcast S32x1 (Scalar.ofBits (F := Ideal) .f32 0x3F800000#32)) (scaleOf t)
      ∧ (run (harg1 := harg1) (harg2 := harg2) (harg3 := harg3) (harg4 := harg4) x0 x1 𝒱 c bd i k).2
        = [⟨Rect.unit (k0_off91 k) S32x1.size (k0_off91_inb k), scaleOf t⟩] ∧ t = maxUpto (zb x0 x1) (32 * k.val) 90 by
    obtain ⟨t, h1, h2, rfl⟩ := h
    exact ⟨h1, h2⟩
  unfold run tripL_k0_t1 trip_k0_t1
  dsimp only
  refine ⟨_, rfl, rfl, ?_⟩
  iterate 90 refine maxUpto_step ?_ (by first | exact readA x0 x1 k _ (by norm_num) ClosedOff.eq _ | exact readH x0 x1 k _ (by norm_num) ClosedOff.eq _)
  rfl

end

end Cert.Proof.BackZ
-- ==== Proof.ZCodes.lean ====
/- The stores of codes in one trip of the row quantiser's loop. -/
module

public import proofs.«01_k».proof.Proof.ZPieces

@[expose] public section

set_option maxRecDepth 100000
set_option maxHeartbeats 4000000

noncomputable section

namespace Cert.Proof.BackZ

open Cert.BackIdeal Cert.BackIdeal.Gen Idealize.ShloMosaic Idealize.ShloMosaic.TcCoe Idealize.SL.Sem
open Idealize.ShloMosaic.ValueIdx Cert.Proof

variable {arg1 : Memref sig .tc .vmem S256x3072 .f32} {harg1 : arg1.IsWhole} {arg2 : Memref sig .tc .vmem S256x8448 .f32}
  {harg2 : arg2.IsWhole} {arg3 : Memref sig .tc .vmem S256x11520 .fp8e4m3} {harg3 : arg3.IsWhole}
  {arg4 : Memref sig .tc .vmem S256x1 .f32} {harg4 : arg4.IsWhole}
  (x0 : Vec Ideal S256x3072 .f32) (x1 : Vec Ideal S256x8448 .f32)

variable (𝒱 : Variants) (c : Dev nD) (bd : Option 𝒱.V) (i : grid0.Coords)

/-- Where a store lies. -/
theorem inb_of (k : Fin k0_t1_loop.trips) {c0 : ℕ} {off : Fin 2 → ℕ} (ho : off = ![32 * k.val, c0]) (hc : c0 + 128 ≤ 11520) :
    ∀ a, off a + S32x128.size a ≤ S256x11520.size a := by
  subst ho
  have hk : k.val < 8 := Nat.lt_of_lt_of_le k.isLt k0_t1_abs.2.1
  intro a
  fin_cases a
  · show 32 * k.val + 32 ≤ 256; omega
  · show c0 + 128 ≤ 11520; omega

/-- The 90 stores of codes. -/
theorem run_codes (k : Fin k0_t1_loop.trips) :
    ∀ pc ∈ (run (harg1 := harg1) (harg2 := harg2) (harg3 := harg3) (harg4 := harg4) x0 x1 𝒱 c bd i k).1,
      ∀ x : pc.1.shape.Idx, pc.2 x = zG x0 x1 (pc.1.emb x) := by
  have hi := (run_top (harg1 := harg1) (harg2 := harg2) (harg3 := harg3) (harg4 := harg4) x0 x1 𝒱 c bd i k).1
  unfold run tripL_k0_t1 trip_k0_t1
  dsimp only
  have hp := fun (c0 : ℕ) v hv off ho inb => piece_ok x0 x1 k c0 v hv (off := off) ho inb
  rw [← hi] at hp
  iterate 90 refine List.forall_mem_cons.2 ⟨hp _ _ (by first | exact readA x0 x1 k _ (by norm_num) ClosedOff.eq _ | exact readH x0 x1 k _ (by norm_num) ClosedOff.eq _) _ ClosedOff.eq (inb_of k ClosedOff.eq (by norm_num)), ?_⟩
  exact fun _ h => absurd h (List.not_mem_nil)

end Cert.Proof.BackZ
-- ==== Proof.ZValue.lean ====
/- What the row quantiser of `[attn, h]` leaves in its two result arrays: each row's scale, and its codes. -/
module

public import proofs.«01_k».proof.Proof.ZCodes

@[expose] public section

set_option maxRecDepth 16384

noncomputable section

namespace Cert.Proof.BackZ

open Cert.BackIdeal Cert.BackIdeal.Gen Idealize.ShloMosaic Idealize.ShloMosaic.TcCoe Idealize.SL.Sem
open Idealize.ShloMosaic.ValueIdx Cert.Proof
open Idealize.ShloMosaic.Pipeline (Dat)

section
variable {arg1 : Memref sig .tc .vmem S256x3072 .f32} {harg1 : arg1.IsWhole} {arg2 : Memref sig .tc .vmem S256x8448 .f32}
  {harg2 : arg2.IsWhole} {arg3 : Memref sig .tc .vmem S256x11520 .fp8e4m3} {harg3 : arg3.IsWhole}
  {arg4 : Memref sig .tc .vmem S256x1 .f32} {harg4 : arg4.IsWhole}
  (x0 : Vec Ideal S256x3072 .f32) (x1 : Vec Ideal S256x8448 .f32)
  (𝒱 : Variants) (c : Dev nD) (bd : Option 𝒱.V) (i : grid0.Coords)

/-- The one store of scales in a trip. -/
theorem scale_ok (k : Fin k0_t1_loop.trips) {off : Fin 2 → ℕ} (ho : off = ![32 * k.val, 0])
    (inb : ∀ a, off a + S32x1.size a ≤ S256x1.size a) (x : S32x1.Idx) :
    scales x0 x1 k x = zS x0 x1 ((Rect.unit (s := S256x1) off S32x1.size inb).emb x) := by
  subst ho
  show zScale (zb x0 x1) (32 * k.val + (x 0).val) = zScale (zb x0 x1) (32 * k.val + 1 * (x 0).val)
  rw [one_mul]

/-- That store fits. -/
theorem inbS (k : Fin k0_t1_loop.trips) {off : Fin 2 → ℕ} (ho : off = ![32 * k.val, 0]) : ∀ a, off a + S32x1.size a ≤ S256x1.size a := by
  subst ho
  have hk : k.val < 8 := Nat.lt_of_lt_of_le k.isLt k0_t1_abs.2.1
  intro a
  fin_cases a
  · show 32 * k.val + 32 ≤ 256; omega
  · show 0 + 1 ≤ 1; omega

/-- All the stores of the trips before `n`. -/
theorem pieces_ok (n : ℕ) :
    (∀ pc ∈ (pb_k0_t1 (F := Ideal) 𝒱 c bd i arg1 harg1 arg2 harg2 arg3 harg3 arg4 harg4 (harg1.unread x0) (harg2.unread x1) n).1,
      ∀ x : pc.1.shape.Idx, pc.2 x = zG x0 x1 (pc.1.emb x))
    ∧ (∀ pc ∈ (pb_k0_t1 (F := Ideal) 𝒱 c bd i arg1 harg1 arg2 harg2 arg3 harg3 arg4 harg4 (harg1.unread x0) (harg2.unread x1) n).2,
      ∀ x : pc.1.shape.Idx, pc.2 x = zS x0 x1 (pc.1.emb x)) := by
  induction n with
  | zero => exact ⟨fun _ h => absurd h List.not_mem_nil, fun _ h => absurd h List.not_mem_nil⟩
  | succ n ih =>
    by_cases hn : n < k0_t1_loop.trips
    · rw [pb_k0_t1_succ 𝒱 c bd i arg1 harg1 arg2 harg2 arg3 harg3 arg4 harg4 (harg1.unread x0) (harg2.unread x1) ⟨n, hn⟩]
      refine ⟨fun pc h => ?_, fun pc h => ?_⟩
      · rcases List.mem_append.1 h with h | h
        · exact run_codes x0 x1 𝒱 c bd i ⟨n, hn⟩ pc h
        · exact ih.1 pc h
      · rcases List.mem_append.1 h with h | h
        · rw [(run_top x0 x1 𝒱 c bd i ⟨n, hn⟩).2, List.mem_singleton] at h
          subst h
          exact fun x => scale_ok x0 x1 ⟨n, hn⟩ ClosedOff.eq (inbS ⟨n, hn⟩ ClosedOff.eq) x
        · exact ih.2 pc h
    · rw [pb_k0_t1.eq_2]
      unfold pb_k0_t1Step
      rw [dif_neg hn]
      exact ih

/-- A block of codes after the body, -/
theorem out2_eq : out0_A_2 c i arg1 harg1 arg2 harg2 arg3 harg3 arg4 harg4 x0 x1 = zG x0 x1 := by
  unfold out0_A_2
  rw [View.read_writes_junk_eq_canon]
  funext y
  refine View.canon_apply_of_pieces (zG x0 x1) _ ?_ y (cover0_A_2 c i arg1 harg1 arg2 harg2 arg3 harg3 arg4 harg4 x0 x1 y)
  intro pc h
  refine (pieces_ok (harg1 := harg1) (harg2 := harg2) (harg3 := harg3) (harg4 := harg4) x0 x1 Variants.none c none i k0_t1_loop.trips).1 pc ?_
  exact h

/-- and a block of scales. -/
theorem out3_eq : out0_A_3 c i arg1 harg1 arg2 harg2 arg3 harg3 arg4 harg4 x0 x1 = zS x0 x1 := by
  unfold out0_A_3
  rw [View.read_writes_junk_eq_canon]
  funext y
  refine View.canon_apply_of_pieces (zS x0 x1) _ ?_ y (cover0_A_3 c i arg1 harg1 arg2 harg2 arg3 harg3 arg4 harg4 x0 x1 y)
  intro pc h
  refine (pieces_ok (harg1 := harg1) (harg2 := harg2) (harg3 := harg3) (harg4 := harg4) x0 x1 Variants.none c none i k0_t1_loop.trips).2 pc ?_
  exact h

end

/-! ## The arrays -/

variable (V : (c : Dev nD) → (b : Ref sig .tc) → Buf (Elt Ideal) ((c : Thread nD τ).loc b))

/-- Each window's block index at each point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A block's row is the array's. -/
theorem zb_row (c : Dev nD) (t : Fin cfg0.N) (p : ℕ) (hp : p < 256) (q : ℕ) :
    zb (iblk0 V c 0 t) (iblk0 V c 1 t) p q = cat (V c main_arg0) (V c main_arg1) (t.val * 256 + p) q := by
  obtain ⟨e0, e1, e2, e3, -⟩ := idx_facts t
  have ht : t.val < 42 := t.isLt
  unfold zb cat
  rw [dif_pos hp, dif_pos (show t.val * 256 + p < 10752 by omega)]
  by_cases h : q < 3072
  · rw [dif_pos h, dif_pos h]
    refine congrArg (V c main_arg0) (Shape.idx_ext₂ ?_ ?_)
    · show win0_0.index t (0 : Fin 2) * 256 + 1 * p = t.val * 256 + p; omega
    · show win0_0.index t (1 : Fin 2) * 3072 + 1 * q = q; omega
  · rw [dif_neg h, dif_neg h]
    by_cases h' : q - 3072 < 8448
    · rw [dif_pos h', dif_pos h']
      refine congrArg (V c main_arg1) (Shape.idx_ext₂ ?_ ?_)
      · show win0_1.index t (0 : Fin 2) * 256 + 1 * p = t.val * 256 + p; omega
      · show win0_1.index t (1 : Fin 2) * 8448 + 1 * (q - 3072) = q - 3072; omega
    · rw [dif_neg h', dif_neg h']

theorem flushed2_eq (c : Dev nD) (t : Fin cfg0.N) :
    (dat0 V c).flushed 2 t = ((cfg0.win 2).blk t).view.read (Elt Ideal) (zCodes (V c main_arg0) (V c main_arg1)) := by
  show (cfg0.win 2).cut (grid0.coords t) ((dat0 V c).after 2 t) = _
  rw [after0_2]
  unfold outsAt0
  dsimp only
  rw [out2_eq]
  obtain ⟨-, -, -, -, e0, e1, -⟩ := idx_facts t
  funext j
  obtain ⟨p, q, rfl⟩ : ∃ (p : Fin 256) (q : Fin 11520), j = ix2 p q := ⟨_, _, eq_ix2 j⟩
  show zCode (zb (iblk0 V c 0 t) (iblk0 V c 1 t)) p.val q.val
    = zCode (cat (V c main_arg0) (V c main_arg1)) (win0_2.index t (0 : Fin 2) * 256 + 1 * p.val) (win0_2.index t (1 : Fin 2) * 11520 + 1 * q.val)
  rw [show win0_2.index t (1 : Fin 2) * 11520 + 1 * q.val = q.val by omega,
    show win0_2.index t (0 : Fin 2) * 256 + 1 * p.val = t.val * 256 + p.val by omega]
  exact zCode_congr (zb_row V c t p.val p.isLt) q.val

theorem flushed3_eq (c : Dev nD) (t : Fin cfg0.N) :
    (dat0 V c).flushed 3 t = ((cfg0.win 3).blk t).view.read (Elt Ideal) (zScales (V c main_arg0) (V c main_arg1)) := by
  show (cfg0.win 3).cut (grid0.coords t) ((dat0 V c).after 3 t) = _
  rw [after0_3]
  unfold outsAt0
  dsimp only
  rw [out3_eq]
  obtain ⟨-, -, -, -, -, -, e0, e1⟩ := idx_facts t
  funext j
  obtain ⟨p, q, rfl⟩ : ∃ (p : Fin 256) (q : Fin 1), j = ix2 p q := ⟨_, _, eq_ix2 j⟩
  show zScale (zb (iblk0 V c 0 t) (iblk0 V c 1 t)) p.val
    = zScale (cat (V c main_arg0) (V c main_arg1)) (win0_3.index t (0 : Fin 2) * 256 + 1 * p.val)
  rw [show win0_3.index t (0 : Fin 2) * 256 + 1 * p.val = t.val * 256 + p.val by omega]
  exact zScale_congr (zb_row V c t p.val p.isLt)

/-- The point whose block holds a row. -/
def ptOf (r : ℕ) (h : r < 10752) : Fin cfg0.N := ⟨r / 256, by show _ < 42; omega⟩

/-- The codes after the call, -/
theorem final2 (c : Dev nD) : (dat0 V c).arrAt 2 cfg0.N = zCodes (V c main_arg0) (V c main_arg1) :=
  (dat0 V c).arrAt_eq_of_cover 2 _ (fun t _ => flushed2_eq V c t) fun (i : S10752x11520.Idx) => by
    have h0 : (i 0).val < 10752 := (i 0).isLt
    have h1 : (i 1).val < 11520 := (i 1).isLt
    obtain ⟨-, -, -, -, e0, e1, -⟩ := idx_facts (ptOf _ h0)
    refine ⟨ptOf _ h0, flush0_2 _, ?_⟩
    show i ∈ ((View.whole main_v0_0).slice (win0_2.rect (ptOf _ h0))).set
    rw [View.set_slice_whole, Rect.mem_set_unit]
    have e0' : win0_2.index (ptOf _ h0) (0 : Fin 2) = (i 0).val / 256 := e0
    intro a
    match a with
    | ⟨0, _⟩ => show win0_2.index (ptOf _ h0) (0 : Fin 2) * 256 ≤ (i 0).val ∧ (i 0).val < win0_2.index (ptOf _ h0) (0 : Fin 2) * 256 + 256; omega
    | ⟨1, _⟩ => show win0_2.index (ptOf _ h0) (1 : Fin 2) * 11520 ≤ (i 1).val ∧ (i 1).val < win0_2.index (ptOf _ h0) (1 : Fin 2) * 11520 + 11520; omega

/-- and the scales. -/
theorem final3 (c : Dev nD) : (dat0 V c).arrAt 3 cfg0.N = zScales (V c main_arg0) (V c main_arg1) :=
  (dat0 V c).arrAt_eq_of_cover 3 _ (fun t _ => flushed3_eq V c t) fun (i : S10752x1.Idx) => by
    have h0 : (i 0).val < 10752 := (i 0).isLt
    have h1 : (i 1).val < 1 := (i 1).isLt
    obtain ⟨-, -, -, -, -, -, e0, e1⟩ := idx_facts (ptOf _ h0)
    refine ⟨ptOf _ h0, flush0_3 _, ?_⟩
    show i ∈ ((View.whole main_v0_1).slice (win0_3.rect (ptOf _ h0))).set
    rw [View.set_slice_whole, Rect.mem_set_unit]
    have e0' : win0_3.index (ptOf _ h0) (0 : Fin 2) = (i 0).val / 256 := e0
    intro a
    match a with
    | ⟨0, _⟩ => show win0_3.index (ptOf _ h0) (0 : Fin 2) * 256 ≤ (i 0).val ∧ (i 0).val < win0_3.index (ptOf _ h0) (0 : Fin 2) * 256 + 256; omega
    | ⟨1, _⟩ => show win0_3.index (ptOf _ h0) (1 : Fin 2) * 1 ≤ (i 1).val ∧ (i 1).val < win0_3.index (ptOf _ h0) (1 : Fin 2) * 1 + 1; omega

end Cert.Proof.BackZ

end
-- ==== Proof.BackOut.lean ====
/- What the output projection leaves in its result array, from whatever arrays it is entered with. -/
module

public import proofs.«01_k».proof.Proof.Spec
public import proofs.«01_k».proof.Proof.Gen.BackIdeal.Frame

@[expose] public section

set_option maxRecDepth 16384

noncomputable section

namespace Cert.Proof.BackO

open Cert.BackIdeal Cert.BackIdeal.Gen Idealize.ShloMosaic Idealize.ShloMosaic.TcCoe Idealize.SL.Sem
open Idealize.ShloMosaic.ValueIdx Cert.Proof
open Idealize.ShloMosaic.Pipeline (Dat)

/-- The body's payload at an index of its block. -/
theorem pay_apply (v0 : Vec Ideal S768x11520 .fp8e4m3) (v2 : Vec Ideal S11520x512 .fp8e4m3) (v4 : Vec Ideal S768x1 .f32)
    (v8 : Vec Ideal S1x512 .f32) (v12 : Vec Ideal S768x512 .bf16) (p : Fin 768) (q : Fin 512) :
    k1_pay1 v0 v2 v4 v8 v12 (ix2 p q) = proj v0 v2 v4 v8 p q + v12 (ix2 p q) := by
  unfold k1_pay1
  simp only [shapeCast_self]
  have h1 := proj_apply (φ₁ := .fp8e4m3) (φ₂ := .fp8e4m3) dot_S768x11520_S11520x512_S768x512_1_0_0_1_n_n rfl v0 v2 v4 v8
    broadcasts_S768x1_S768x512 broadcasts_S1x512_S768x512 p q
  rw [← h1]
  rfl

variable (V : (c : Dev nD) → (b : Ref sig .tc) → Buf (Elt Ideal) ((c : Thread nD τ).loc b))

/-- Each window's block index at each point of the grid, beside the result's. -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = win1_5.index t (1 : Fin 2)
    ∧ win1_2.index t (0 : Fin 2) = win1_5.index t (0 : Fin 2) ∧ win1_2.index t (1 : Fin 2) = 0
    ∧ win1_3.index t (0 : Fin 2) = 0 ∧ win1_3.index t (1 : Fin 2) = win1_5.index t (1 : Fin 2)
    ∧ win1_4.index t (0 : Fin 2) = win1_5.index t (0 : Fin 2) ∧ win1_4.index t (1 : Fin 2) = win1_5.index t (1 : Fin 2)
    ∧ win1_5.index t (0 : Fin 2) = t.val / 24 ∧ win1_5.index t (1 : Fin 2) = t.val % 24 :=
  (by decide +kernel : ∀ t : Fin grid1.N, _)

theorem hz : (![0, 0] : Fin 2 → Nat) = fun _ => 0 := funext fun a => by fin_cases a <;> rfl

/-- The body's loads and its one store are of whole blocks. -/
theorem out_eq (x0 : Vec Ideal S768x11520 .fp8e4m3) (x1 : Vec Ideal S11520x512 .fp8e4m3) (x2 : Vec Ideal S768x1 .f32)
    (x3 : Vec Ideal S1x512 .f32) (x4 : Vec Ideal S768x512 .bf16) : out1_5 x0 x1 x2 x3 x4 = k1_pay1 x0 x1 x2 x3 x4 := by
  unfold out1_5
  rw [View.canon_unit_zero hz, View.ld_unit_zero (S := S768x11520) hz, View.ld_unit_zero (S := S11520x512) hz,
    View.ld_unit_zero (S := S768x1) hz, View.ld_unit_zero (S := S1x512) hz, View.ld_unit_zero (S := S768x512) hz]

/-- The result array as one function of the region's arrays. -/
abbrev G (c : Dev nD) : S10752x12288.Idx → EReal :=
  outOf (V c main_v0_0) (V c main_arg2) (V c main_v0_1) (V c main_v1) (V c main_arg4)

/-- What a point writes back is its block of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5, out_eq]
  obtain ⟨e0, e1, e2, e3, e4, e5, e6, e7, e8, e9, e10, e11⟩ := idx_facts t
  funext j
  obtain ⟨p, q, rfl⟩ : ∃ (p : Fin 768) (q : Fin 512), j = ix2 p q := ⟨_, _, eq_ix2 j⟩
  refine (pay_apply _ _ _ _ _ p q).trans ?_
  have ht : t.val < 336 := t.isLt
  have b0 : win1_5.index t (0 : Fin 2) < 14 := by omega
  have b1 : win1_5.index t (1 : Fin 2) < 24 := by omega
  have h0 : ∀ k : Fin 11520, iblk1 V c 0 t (ix2 p k) = V c main_v0_0 (ix2 ⟨win1_5.index t (0 : Fin 2) * 768 + p.val, by omega⟩ k) := fun k => by
    refine congrArg (V c main_v0_0) (Shape.idx_ext₂ ?_ ?_)
    · show win1_0.index t (0 : Fin 2) * 768 + 1 * p.val = win1_5.index t (0 : Fin 2) * 768 + p.val
      omega
    · show win1_0.index t (1 : Fin 2) * 11520 + 1 * k.val = k.val
      omega
  have h1 : ∀ k : Fin 11520, iblk1 V c 1 t (ix2 k q) = V c main_arg2 (ix2 k ⟨win1_5.index t (1 : Fin 2) * 512 + q.val, by omega⟩) := fun k => by
    refine congrArg (V c main_arg2) (Shape.idx_ext₂ ?_ ?_)
    · show win1_1.index t (0 : Fin 2) * 11520 + 1 * k.val = k.val
      omega
    · show win1_1.index t (1 : Fin 2) * 512 + 1 * q.val = win1_5.index t (1 : Fin 2) * 512 + q.val
      omega
  have h2 : iblk1 V c 2 t (ix2 p 0) = V c main_v0_1 (ix2 ⟨win1_5.index t (0 : Fin 2) * 768 + p.val, by omega⟩ 0) := by
    refine congrArg (V c main_v0_1) (Shape.idx_ext₂ ?_ ?_)
    · show win1_2.index t (0 : Fin 2) * 768 + 1 * p.val = win1_5.index t (0 : Fin 2) * 768 + p.val
      omega
    · show win1_2.index t (1 : Fin 2) * 1 + 1 * 0 = 0
      omega
  have h3 : iblk1 V c 3 t (ix2 0 q) = V c main_v1 (ix2 0 ⟨win1_5.index t (1 : Fin 2) * 512 + q.val, by omega⟩) := by
    refine congrArg (V c main_v1) (Shape.idx_ext₂ ?_ ?_)
    · show win1_3.index t (0 : Fin 2) * 1 + 1 * 0 = 0
      omega
    · show win1_3.index t (1 : Fin 2) * 512 + 1 * q.val = win1_5.index t (1 : Fin 2) * 512 + q.val
      omega
  have h4 : iblk1 V c 4 t (ix2 p q) = V c main_arg4 (ix2 ⟨win1_5.index t (0 : Fin 2) * 768 + p.val, by omega⟩ ⟨win1_5.index t (1 : Fin 2) * 512 + q.val, by omega⟩) := by
    refine congrArg (V c main_arg4) (Shape.idx_ext₂ ?_ ?_)
    · show win1_4.index t (0 : Fin 2) * 768 + 1 * p.val = win1_5.index t (0 : Fin 2) * 768 + p.val
      omega
    · show win1_4.index t (1 : Fin 2) * 512 + 1 * q.val = win1_5.index t (1 : Fin 2) * 512 + q.val
      omega
  have hi : ((cfg1.win 5).blk t).view.emb (ix2 p q)
      = ix2 (⟨win1_5.index t (0 : Fin 2) * 768 + p.val, by omega⟩ : Fin 10752) (⟨win1_5.index t (1 : Fin 2) * 512 + q.val, by omega⟩ : Fin 12288) := by
    refine Shape.idx_ext₂ ?_ ?_
    · show win1_5.index t (0 : Fin 2) * 768 + 1 * p.val = win1_5.index t (0 : Fin 2) * 768 + p.val
      omega
    · show win1_5.index t (1 : Fin 2) * 512 + 1 * q.val = win1_5.index t (1 : Fin 2) * 512 + q.val
      omega
  show _ = G V c (((cfg1.win 5).blk t).view.emb (ix2 p q))
  rw [hi]
  show _ = proj (V c main_v0_0) (V c main_arg2) (V c main_v0_1) (V c main_v1) ⟨_, _⟩ ⟨_, _⟩ + V c main_arg4 (ix2 _ _)
  rw [proj_congr h0 h1 h2 h3, h4]

/-- The result array after the call. -/
theorem final (c : Dev nD) : (dat1 V c).arrAt 5 cfg1.N = G V c :=
  (dat1 V c).arrAt_eq_of_cover 5 _ (fun t _ => flushed_eq V c t) fun (i : S10752x12288.Idx) => by
    have hi0 : (i 0).val < 10752 := (i 0).isLt
    have hi1 : (i 1).val < 12288 := (i 1).isLt
    let t : Fin cfg1.N := ⟨(i 0).val / 768 * 24 + (i 1).val / 512, by show _ < 336; omega⟩
    have f := idx_facts t
    have f0 : win1_5.index t (0 : Fin 2) = ((i 0).val / 768 * 24 + (i 1).val / 512) / 24 := f.2.2.2.2.2.2.2.2.2.2.1
    have f1 : win1_5.index t (1 : Fin 2) = ((i 0).val / 768 * 24 + (i 1).val / 512) % 24 := f.2.2.2.2.2.2.2.2.2.2.2
    refine ⟨t, flush1_5 t, ?_⟩
    show i ∈ ((View.whole main_v2).slice (win1_5.rect t)).set
    rw [View.set_slice_whole, Rect.mem_set_unit]
    intro a
    match a with
    | ⟨0, _⟩ => show win1_5.index t (0 : Fin 2) * 768 ≤ (i 0).val ∧ (i 0).val < win1_5.index t (0 : Fin 2) * 768 + 768; omega
    | ⟨1, _⟩ => show win1_5.index t (1 : Fin 2) * 512 ≤ (i 1).val ∧ (i 1).val < win1_5.index t (1 : Fin 2) * 512 + 512; omega

end Cert.Proof.BackO

end
-- ==== Proof.BackRun.lean ====
/- The run of the two calls, the row quantiser and the output projection: what it leaves in its three results. -/
module

public import proofs.«01_k».proof.Proof.ZValue
public import proofs.«01_k».proof.Proof.BackOut

@[expose] public section

set_option maxRecDepth 16384

noncomputable section

namespace Cert.Proof.BackK

open Cert.BackIdeal Cert.BackIdeal.Gen Cert.Proof Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The codes and scales of the launched arguments. -/
abbrev codes (c : Dev nD) : S10752x11520.Idx → EReal :=
  zCodes (m ((c : Thread nD τ).loc main_arg0)) (m ((c : Thread nD τ).loc main_arg1))
abbrev scales (c : Dev nD) : S10752x1.Idx → EReal :=
  zScales (m ((c : Thread nD τ).loc main_arg0)) (m ((c : Thread nD τ).loc main_arg1))
/-- The output of the launched arguments. -/
abbrev out (c : Dev nD) : S10752x12288.Idx → EReal :=
  backOut (m ((c : Thread nD τ).loc main_arg0)) (m ((c : Thread nD τ).loc main_arg1)) (m ((c : Thread nD τ).loc main_arg2))
    (m ((c : Thread nD τ).loc main_arg3)) (m ((c : Thread nD τ).loc main_arg4))

/-- After the first call its two arrays hold the codes and the scales, -/
theorem W1_codes (c : Dev nD) : W1 m ρ c (Proc.devRef .tc main_v0_0) = codes m c := (W1_arr m ρ c 2).trans (BackZ.final2 (V0 m ρ) c)
theorem W1_scales (c : Dev nD) : W1 m ρ c (Proc.devRef .tc main_v0_1) = scales m c := (W1_arr m ρ c 3).trans (BackZ.final3 (V0 m ρ) c)

/-- and still do when the second is entered; -/
theorem W2_codes (c : Dev nD) : W2 m ρ c (Proc.devRef .tc main_v0_0) = codes m c :=
  (W2_of m ρ c main_v0_0 (by decide)).trans (W1_codes m ρ c)
theorem W2_scales (c : Dev nD) : W2 m ρ c (Proc.devRef .tc main_v0_1) = scales m c :=
  (W2_of m ρ c main_v0_1 (by decide)).trans (W1_scales m ρ c)

/-- the column scales are then laid out as one row. -/
theorem W2_v1 (c : Dev nD) : W2 m ρ c (Proc.devRef .tc main_v1)
    = shapeCast S1x12288 (m ((c : Thread nD τ).loc main_arg3)) shapeCasts_S12288_S1x12288 := by
  show StableHlo.after hostOps1 (W1 m ρ c) _ = _
  rw [StableHlo.after_cons, StableHlo.after_nil, StableHlo.reshape_result]
  rw [W1_args m ρ c main_arg3 (by decide)]
  rfl

/-- At the end: the codes and the scales as the first call left them, -/
theorem W3_codes (c : Dev nD) : W3 m ρ c (Proc.devRef .tc main_v0_0) = codes m c :=
  (W3_of m ρ c main_v0_0 (by decide +kernel)).trans (W2_codes m ρ c)
theorem W3_scales (c : Dev nD) : W3 m ρ c (Proc.devRef .tc main_v0_1) = scales m c :=
  (W3_of m ρ c main_v0_1 (by decide +kernel)).trans (W2_scales m ρ c)

/-- and the output. -/
theorem W3_out (c : Dev nD) : W3 m ρ c (Proc.devRef .tc main_v2) = out m c := by
  refine (W3_arr m ρ c 5).trans ((BackO.final (V2 m ρ) c).trans ?_)
  show outOf (W2 m ρ c (Proc.devRef .tc main_v0_0)) (W2 m ρ c (Proc.devRef .tc main_arg2)) (W2 m ρ c (Proc.devRef .tc main_v0_1))
    (W2 m ρ c (Proc.devRef .tc main_v1)) (W2 m ρ c (Proc.devRef .tc main_arg4)) = _
  rw [W2_codes, W2_scales, W2_v1, W2_args m ρ c main_arg2 (by decide), W2_args m ρ c main_arg4 (by decide)]
  rfl

set_option backward.isDefEq.respectTransparency.types false in
/-- The run, its three results named. -/
theorem run : θ_run defs (onTc (τ := τ) (main (F := Ideal))) ⟨m, fun _ => 0, ρ⟩ (fun r => ∀ c : Dev nD,
      r.2.mem ((c.tc : Thread nD τ).loc main_v2) = out m c
      ∧ r.2.mem ((c.tc : Thread nD τ).loc main_v0_0) = codes m c
      ∧ r.2.mem ((c.tc : Thread nD τ).loc main_v0_1) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v2 (by decide))).trans (W3_out m ρ c),
       (h c _ (mem_uc main_v0_0 (by decide))).trans (W3_codes m ρ c),
       (h c _ (mem_uc main_v0_1 (by decide))).trans (W3_scales m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.Proof.BackK

end
-- ==== Proof.RefRows.lean ====
/- The row quantiser as a reference writes it, over a whole array at once: each row's scale and its codes, at any extents. -/
module

public import proofs.«01_k».proof.Proof.Rows
public import proofs.«01_k».proof.Proof.Project

@[expose] public section

noncomputable section

namespace Cert.Proof

open Idealize.ShloMosaic Idealize.ShloMosaic.ValueIdx

variable {M N : ℕ}

/-- The largest magnitude of a row of an array whose entries are given by their row's and column's number. -/
theorem absMax_apply (src : FVec Ideal ⟨2, ![M, N]⟩ .f32) (z : ℕ → ℕ → EReal) (hz : ∀ (r : Fin M) (c : Fin N), src (ix2 r c) = z r.val c.val)
    (h : (⟨2, ![M, N]⟩ : Shape).Reduces [1] ⟨1, ![M]⟩) (hφ : FKind.Formats .f32) (hacc : 0xFF800000#32 = FKind.maximumf.neutral .f32 hφ)
    (r : Fin M) : multiReduction .maximumf [1] ⟨1, ![M]⟩ (absf src) 0xFF800000#32 h hφ hacc (ix1 r) = top N (z r.val) := by
  refine eq_of_forall_ge_iff fun b => ?_
  rw [top_le_iff]
  refine (laneMax_le_iff (absf src) h hφ hacc r b).trans ⟨fun k c hc => ?_, fun k c => ?_⟩
  · have := k ⟨c, hc⟩
    change max (src (ix2 r ⟨c, hc⟩)) (-(src (ix2 r ⟨c, hc⟩))) ≤ b at this
    rwa [hz] at this
  · change max (src (ix2 r c)) (-(src (ix2 r c))) ≤ b
    rw [hz]
    exact k c.val c.isLt

/-- The scale of a row. -/
theorem scale_apply (src : FVec Ideal ⟨2, ![M, N]⟩ .f32) (z : ℕ → ℕ → EReal) (hz : ∀ (r : Fin M) (c : Fin N), src (ix2 r c) = z r.val c.val)
    (h : (⟨2, ![M, N]⟩ : Shape).Reduces [1] ⟨1, ![M]⟩) (hφ : FKind.Formats .f32) (hacc : 0xFF800000#32 = FKind.maximumf.neutral .f32 hφ)
    (hs : (⟨1, ![M]⟩ : Shape).ShapeCasts ⟨2, ![M, 1]⟩) (r : Fin M) (q : Fin 1) :
    select (cmpf .oeq (shapeCast ⟨2, ![M, 1]⟩ (multiReduction .maximumf [1] ⟨1, ![M]⟩ (absf src) 0xFF800000#32 h hφ hacc) hs)
        (broadcast ⟨2, ![M, 1]⟩ (Scalar.ofBits (F := Ideal) .f32 0x00000000#32)))
      (broadcast ⟨2, ![M, 1]⟩ (Scalar.ofBits (F := Ideal) .f32 0x3F800000#32))
      (divf (shapeCast ⟨2, ![M, 1]⟩ (multiReduction .maximumf [1] ⟨1, ![M]⟩ (absf src) 0xFF800000#32 h hφ hacc) hs)
        (broadcast ⟨2, ![M, 1]⟩ (Scalar.ofBits (F := Ideal) .f32 0x43E00000#32))) (ix2 r q) = rowScale (top N (z r.val)) := by
  have e := (shapeCast_col (multiReduction .maximumf [1] ⟨1, ![M]⟩ (absf src) 0xFF800000#32 h hφ hacc) hs r q).trans
    (absMax_apply src z hz h hφ hacc r)
  generalize shapeCast ⟨2, ![M, 1]⟩ (multiReduction .maximumf [1] ⟨1, ![M]⟩ (absf src) 0xFF800000#32 h hφ hacc) hs = y at e ⊢
  refine Eq.trans ?_ (select_scale (top N (z r.val)))
  rw [← e]
  rfl

/-- A code. -/
theorem code_apply (src : FVec Ideal ⟨2, ![M, N]⟩ .f32) (sc : FVec Ideal ⟨2, ![M, 1]⟩ .f32)
    (hb : (⟨2, ![M, 1]⟩ : Shape).Broadcasts ⟨2, ![M, N]⟩) (hf : FTy.bits .fp8e4m3 < FTy.bits .f32) (r : Fin M) (c : Fin N) :
    truncf (F := Ideal) .fp8e4m3 (minimumf (broadcast ⟨2, ![M, N]⟩ (Scalar.ofBits (F := Ideal) .f32 0x43E00000#32))
      (maximumf (broadcast ⟨2, ![M, N]⟩ (Scalar.ofBits (F := Ideal) .f32 0xC3E00000#32)) (divf src (broadcastTo ⟨2, ![M, N]⟩ sc hb)))) hf (ix2 r c)
      = clip (Ideal.div (src (ix2 r c)) (sc (ix2 r 0))) := by
  have e := bcast_col sc hb r c
  generalize broadcastTo ⟨2, ![M, N]⟩ sc hb = y at e ⊢
  unfold clip
  rw [← e, ← ofBits_448]
  rfl

end Cert.Proof

end
-- ==== Proof.BackRef.lean ====
/- What the reference of the row quantiser and the output projection leaves in its three result arrays: the same functions
   of the same arrays. -/
module

public import proofs.«01_k».proof.Proof.Spec
public import proofs.«01_k».proof.Proof.RefRows
public import proofs.«01_k».proof.Proof.Gen.BackRefIdeal.Value

@[expose] public section

set_option maxRecDepth 16384

noncomputable section

namespace Cert.Proof.BackR

open Cert.BackRefIdeal Cert.BackRefIdeal.Gen Idealize.ShloMosaic Idealize.ShloMosaic.TcCoe Idealize.SL.Sem
open Idealize.ShloMosaic.ValueIdx Cert.Proof
open Idealize.ShloMosaic.Pipeline (Dat)

/-- The two arrays joined, read at an index. -/
theorem pay1_apply (v0 : Vec Ideal S10752x3072 .f32) (v1 : Vec Ideal S10752x8448 .f32) (r : Fin 10752) (c : Fin 11520) :
    k0_pay1 v0 v1 (ix2 r c) = cat v0 v1 r.val c.val := by
  unfold k0_pay1 cat
  rw [dif_pos r.isLt]
  by_cases h : c.val < 3072
  · rw [dif_pos h]
    exact concatenate_pair_apply_left 1 v0 v1 _ (ix2 r c) rfl (ix2 ⟨r.val, r.isLt⟩ ⟨c.val, h⟩) (fun b => by
      match b with
      | ⟨0, _⟩ => rfl
      | ⟨1, _⟩ => rfl)
  · have h' : c.val - 3072 < 8448 := by omega
    rw [dif_neg h, dif_pos h']
    exact concatenate_pair_apply_right 1 v0 v1 _ (ix2 r c) rfl rfl (ix2 ⟨r.val, r.isLt⟩ ⟨c.val - 3072, h'⟩) (fun b hb => by
      match b, hb with
      | ⟨0, _⟩, _ => rfl
      | ⟨1, _⟩, hb => exact absurd rfl hb) (by show c.val - 3072 + 3072 = c.val; omega)

/-- A row's scale. -/
theorem pay2_apply (v0 : Vec Ideal S10752x3072 .f32) (v1 : Vec Ideal S10752x8448 .f32) (r : Fin 10752) (q : Fin 1) :
    k0_pay2 v0 v1 (ix2 r q) = zScale (cat v0 v1) r.val := by
  have h := pay1_apply v0 v1
  unfold k0_pay2 zScale
  generalize k0_pay1 v0 v1 = y at h ⊢
  exact scale_apply y (cat v0 v1) h _ _ _ _ r q

/-- A code. -/
theorem pay3_apply (v0 : Vec Ideal S10752x3072 .f32) (v1 : Vec Ideal S10752x8448 .f32) (r : Fin 10752) (c : Fin 11520) :
    k0_pay3 v0 v1 (ix2 r c) = zCode (cat v0 v1) r.val c.val := by
  have h := pay1_apply v0 v1 r c
  have h' := pay2_apply v0 v1 r 0
  unfold k0_pay3 zCode
  generalize k0_pay1 v0 v1 = y at h ⊢
  generalize k0_pay2 v0 v1 = s at h' ⊢
  rw [← h, ← h']
  exact code_apply y s _ _ r c

theorem pay2_eq (v0 : Vec Ideal S10752x3072 .f32) (v1 : Vec Ideal S10752x8448 .f32) : k0_pay2 v0 v1 = zScales v0 v1 :=
  funext fun j => (congrArg _ (eq_ix2 j)).trans (pay2_apply v0 v1 (j 0) (j 1))

theorem pay3_eq (v0 : Vec Ideal S10752x3072 .f32) (v1 : Vec Ideal S10752x8448 .f32) : k0_pay3 v0 v1 = zCodes v0 v1 :=
  funext fun j => (congrArg _ (eq_ix2 j)).trans (pay3_apply v0 v1 (j 0) (j 1))

/-- An element of the output. -/
theorem pay4_eq (v0 : Vec Ideal S10752x3072 .f32) (v1 : Vec Ideal S10752x8448 .f32) (v21 : Vec Ideal S11520x12288 .fp8e4m3)
    (v22 : Vec Ideal S1x12288 .f32) (v29 : Vec Ideal S10752x12288 .bf16) :
    k0_pay4 v0 v1 v21 v22 v29 = outOf (zCodes v0 v1) v21 (zScales v0 v1) v22 v29 := by
  funext j
  obtain ⟨r, c, rfl⟩ : ∃ (r : Fin 10752) (c : Fin 12288), j = ix2 r c := ⟨_, _, eq_ix2 j⟩
  unfold k0_pay4
  simp only [shapeCast_self]
  rw [pay2_eq, pay3_eq]
  have h := proj_apply (φ₁ := .fp8e4m3) (φ₂ := .fp8e4m3) dot_S10752x11520_S11520x12288_S10752x12288_1_0_0_1_n_n rfl (zCodes v0 v1) v21
    (zScales v0 v1) v22 broadcasts_S10752x1_S10752x12288 broadcasts_S1x12288_S10752x12288 r c
  unfold outOf
  refine Eq.trans ?_ (congrArg (fun x => x + v29 (ix2 r c)) h)
  rfl

variable (m : (ℓ : Loc nD τ sig) → Buf (Elt Ideal) ℓ) (ρ : Dev nD → PrngReg)

theorem hz : (![0, 0] : Fin 2 → Nat) = fun _ => 0 := funext fun a => by fin_cases a <;> rfl

/-- The body's loads and its stores are of whole arrays. -/
theorem out5_eq (x0 : Vec Ideal S10752x3072 .f32) (x1 : Vec Ideal S10752x8448 .f32) (x2 : Vec Ideal S11520x12288 .fp8e4m3)
    (x3 : Vec Ideal S1x12288 .f32) (x4 : Vec Ideal S10752x12288 .bf16) : out0_5 x0 x1 x2 x3 x4 = k0_pay4 x0 x1 x2 x3 x4 := by
  unfold out0_5
  rw [View.canon_unit_zero hz, View.ld_unit_zero (S := S10752x3072) hz, View.ld_unit_zero (S := S10752x8448) hz,
    View.ld_unit_zero (S := S11520x12288) hz, View.ld_unit_zero (S := S1x12288) hz, View.ld_unit_zero (S := S10752x12288) hz]

theorem out6_eq (x0 : Vec Ideal S10752x3072 .f32) (x1 : Vec Ideal S10752x8448 .f32) (x2 : Vec Ideal S11520x12288 .fp8e4m3)
    (x3 : Vec Ideal S1x12288 .f32) (x4 : Vec Ideal S10752x12288 .bf16) : out0_6 x0 x1 x2 x3 x4 = k0_pay3 x0 x1 := by
  unfold out0_6
  rw [View.canon_unit_zero hz, View.ld_unit_zero (S := S10752x3072) hz, View.ld_unit_zero (S := S10752x8448) hz]

theorem out7_eq (x0 : Vec Ideal S10752x3072 .f32) (x1 : Vec Ideal S10752x8448 .f32) (x2 : Vec Ideal S11520x12288 .fp8e4m3)
    (x3 : Vec Ideal S1x12288 .f32) (x4 : Vec Ideal S10752x12288 .bf16) : out0_7 x0 x1 x2 x3 x4 = k0_pay2 x0 x1 := by
  unfold out0_7
  rw [View.canon_unit_zero hz, View.ld_unit_zero (S := S10752x3072) hz, View.ld_unit_zero (S := S10752x8448) hz]

/-- The column scales as the region finds them: the argument, laid out as one row. -/
theorem V_v0 (c : Dev nD) : V m c main_v0 = shapeCast S1x12288 (m ((c : Thread nD τ).loc main_arg3)) shapeCasts_S12288_S1x12288 := by
  show StableHlo.after hostOps0 _ _ = _
  rw [StableHlo.after_cons, StableHlo.after_nil, StableHlo.reshape_result]
  rfl

/-- Each window is its whole array. -/
theorem idx_facts : ∀ (t : Fin cfg0.N) (a : Fin 2),
    win0_0.index t a = 0 ∧ win0_1.index t a = 0 ∧ win0_2.index t a = 0 ∧ win0_3.index t a = 0 ∧ win0_4.index t a = 0
    ∧ win0_5.index t a = 0 ∧ win0_6.index t a = 0 ∧ win0_7.index t a = 0 :=
  (by decide +kernel : ∀ (t : Fin grid0.N) (a : Fin 2), _)

theorem iblk0 (c : Dev nD) (t : Fin cfg0.N) : iblk m c 0 t = V m c main_arg0 := by
  have e0 := (idx_facts t 0).1; have e1 := (idx_facts t 1).1
  funext j
  refine congrArg (V m c main_arg0) (Shape.idx_ext₂ ?_ ?_)
  · show win0_0.index t (0 : Fin 2) * 10752 + 1 * (j 0).val = (j 0).val; omega
  · show win0_0.index t (1 : Fin 2) * 3072 + 1 * (j 1).val = (j 1).val; omega

theorem iblk1 (c : Dev nD) (t : Fin cfg0.N) : iblk m c 1 t = V m c main_arg1 := by
  have e0 := (idx_facts t 0).2.1; have e1 := (idx_facts t 1).2.1
  funext j
  refine congrArg (V m c main_arg1) (Shape.idx_ext₂ ?_ ?_)
  · show win0_1.index t (0 : Fin 2) * 10752 + 1 * (j 0).val = (j 0).val; omega
  · show win0_1.index t (1 : Fin 2) * 8448 + 1 * (j 1).val = (j 1).val; omega

theorem iblk2 (c : Dev nD) (t : Fin cfg0.N) : iblk m c 2 t = V m c main_arg2 := by
  have e0 := (idx_facts t 0).2.2.1; have e1 := (idx_facts t 1).2.2.1
  funext j
  refine congrArg (V m c main_arg2) (Shape.idx_ext₂ ?_ ?_)
  · show win0_2.index t (0 : Fin 2) * 11520 + 1 * (j 0).val = (j 0).val; omega
  · show win0_2.index t (1 : Fin 2) * 12288 + 1 * (j 1).val = (j 1).val; omega

theorem iblk3 (c : Dev nD) (t : Fin cfg0.N) : iblk m c 3 t = V m c main_v0 := by
  have e0 := (idx_facts t 0).2.2.2.1; have e1 := (idx_facts t 1).2.2.2.1
  funext j
  refine congrArg (V m c main_v0) (Shape.idx_ext₂ ?_ ?_)
  · show win0_3.index t (0 : Fin 2) * 1 + 1 * (j 0).val = (j 0).val; omega
  · show win0_3.index t (1 : Fin 2) * 12288 + 1 * (j 1).val = (j 1).val; omega

theorem iblk4 (c : Dev nD) (t : Fin cfg0.N) : iblk m c 4 t = V m c main_arg4 := by
  have e0 := (idx_facts t 0).2.2.2.2.1; have e1 := (idx_facts t 1).2.2.2.2.1
  funext j
  refine congrArg (V m c main_arg4) (Shape.idx_ext₂ ?_ ?_)
  · show win0_4.index t (0 : Fin 2) * 10752 + 1 * (j 0).val = (j 0).val; omega
  · show win0_4.index t (1 : Fin 2) * 12288 + 1 * (j 1).val = (j 1).val; omega

theorem emb5 (t : Fin cfg0.N) (j : S10752x12288.Idx) : ((cfg0.win 5).blk t).view.emb j = j := by
  have e0 := (idx_facts t 0).2.2.2.2.2.1; have e1 := (idx_facts t 1).2.2.2.2.2.1
  refine Shape.idx_ext₂ ?_ ?_
  · show win0_5.index t (0 : Fin 2) * 10752 + 1 * (j 0).val = (j 0).val; omega
  · show win0_5.index t (1 : Fin 2) * 12288 + 1 * (j 1).val = (j 1).val; omega

theorem emb6 (t : Fin cfg0.N) (j : S10752x11520.Idx) : ((cfg0.win 6).blk t).view.emb j = j := by
  have e0 := (idx_facts t 0).2.2.2.2.2.2.1; have e1 := (idx_facts t 1).2.2.2.2.2.2.1
  refine Shape.idx_ext₂ ?_ ?_
  · show win0_6.index t (0 : Fin 2) * 10752 + 1 * (j 0).val = (j 0).val; omega
  · show win0_6.index t (1 : Fin 2) * 11520 + 1 * (j 1).val = (j 1).val; omega

theorem emb7 (t : Fin cfg0.N) (j : S10752x1.Idx) : ((cfg0.win 7).blk t).view.emb j = j := by
  have e0 := (idx_facts t 0).2.2.2.2.2.2.2; have e1 := (idx_facts t 1).2.2.2.2.2.2.2
  refine Shape.idx_ext₂ ?_ ?_
  · show win0_7.index t (0 : Fin 2) * 10752 + 1 * (j 0).val = (j 0).val; omega
  · show win0_7.index t (1 : Fin 2) * 1 + 1 * (j 1).val = (j 1).val; omega

/-- The three results after the run, of the arguments as launched. -/
theorem final5 (c : Dev nD) : (dats m 0 c).arrAt 5 cfg0.N = backOut (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats m 0 c).arrAt_eq_of_cover 5 _ (fun t _ => ?_) fun i =>
    ⟨⟨0, by decide⟩, flush0_5 _, by
      have h := ((cfg0.win 5).blk ⟨0, by decide⟩).view.emb_mem_set i; rwa [emb5] at h⟩
  rw [Value.flushed5, out5_eq, iblk0, iblk1, iblk2, iblk3, iblk4, pay4_eq, V_v0, V_main_arg0, V_main_arg1, V_main_arg2, V_main_arg4]
  funext j
  show _ = backOut _ _ _ _ _ (((cfg0.win 5).blk t).view.emb j)
  rw [emb5]
  rfl

theorem final6 (c : Dev nD) : (dats m 0 c).arrAt 6 cfg0.N = zCodes (m ((c : Thread nD τ).loc main_arg0)) (m ((c : Thread nD τ).loc main_arg1)) := by
  refine (dats m 0 c).arrAt_eq_of_cover 6 _ (fun t _ => ?_) fun i =>
    ⟨⟨0, by decide⟩, flush0_6 _, by
      have h := ((cfg0.win 6).blk ⟨0, by decide⟩).view.emb_mem_set i; rwa [emb6] at h⟩
  rw [Value.flushed6, out6_eq, iblk0, iblk1, pay3_eq, V_main_arg0, V_main_arg1]
  funext j
  show _ = zCodes _ _ (((cfg0.win 6).blk t).view.emb j)
  rw [emb6]

theorem final7 (c : Dev nD) : (dats m 0 c).arrAt 7 cfg0.N = zScales (m ((c : Thread nD τ).loc main_arg0)) (m ((c : Thread nD τ).loc main_arg1)) := by
  refine (dats m 0 c).arrAt_eq_of_cover 7 _ (fun t _ => ?_) fun i =>
    ⟨⟨0, by decide⟩, flush0_7 _, by
      have h := ((cfg0.win 7).blk ⟨0, by decide⟩).view.emb_mem_set i; rwa [emb7] at h⟩
  rw [Value.flushed7, out7_eq, iblk0, iblk1, pay2_eq, V_main_arg0, V_main_arg1]
  funext j
  show _ = zScales _ _ (((cfg0.win 7).blk t).view.emb j)
  rw [emb7]

end Cert.Proof.BackR

end
-- ==== Proof.BackClaim.lean ====
/- The row quantiser of `[attn, h]` with the output projection, and their reference, leave equal results. -/
module

public import proofs.«01_k».proof.Proof.BackRun
public import proofs.«01_k».proof.Proof.BackRef
public import proofs.«01_k».proof.Defs

@[expose] public section

noncomputable section

namespace Cert.Proof

open Idealize.ShloMosaic Idealize.ShloMosaic.TcCoe Idealize.SL.Sem

/-- Equal arguments give equal results. -/
theorem back_algebraic :
    algebraic_BackIdeal_BackRefIdeal (hBackIdeal := Cert.BackIdeal.Gen.facts) (hBackRefIdeal := Cert.BackRefIdeal.Gen.facts) := by
  intro m g m' g' _ hm
  refine ⟨fun c => BackK.out m c, fun c => BackK.codes m c, fun c => BackK.scales m c, BackK.run m g, ?_⟩
  refine (θ_run _ _ _).mono (fun r h c => ?_) (Cert.BackRefIdeal.Value.run_blocks m' g')
  obtain ⟨h0, h1, h2, h⟩ := h c
  obtain ⟨a0, a1, a2, a3, a4⟩ := hm c
  refine ⟨h0.trans ((BackR.final5 m' c).trans ?_), h1.trans ((BackR.final6 m' c).trans ?_), h2.trans ((BackR.final7 m' c).trans ?_), h⟩
  · exact congr (congr (congr (congr (congrArg backOut a0) a1) a2) a3) a4
  · exact congr (congrArg zCodes a0) a1
  · exact congr (congrArg zScales a0) a1

end Cert.Proof

end
-- ==== Proof.LnRows.lean ====
/- A row normalised, over the extended reals: its mean, its variance, and the entry `(x - mean) / sqrt (var + eps) * gain`. The
   square root is positive whatever the row holds, so its inverse is a real number that is not negative, and may be taken before or
   after the product with the gain and the maximum along the row. -/
module

public import proofs.«01_k».proof.Proof.Rows

@[expose] public section

noncomputable section

namespace Cert.Proof

open Idealize.ShloMosaic Idealize.ShloMosaic.ValueIdx

/-- One over the width. -/
def invWidth : EReal := ((1 / 12288 : ℝ) : EReal)

/-- The sum of a row's first `N` entries. -/
def rowSum (N : ℕ) (f : ℕ → EReal) : EReal := ∑ c ∈ Finset.range N, f c

theorem rowSum_congr {N : ℕ} {f g : ℕ → EReal} (h : ∀ c, c < N → f c = g c) : rowSum N f = rowSum N g :=
  Finset.sum_congr rfl fun c hc => h c (Finset.mem_range.1 hc)

def mean (f : ℕ → EReal) : EReal := rowSum 12288 f * invWidth

def dev (f : ℕ → EReal) (c : ℕ) : EReal := f c - mean f

def var (f : ℕ → EReal) : EReal := rowSum 12288 (fun c => dev f c * dev f c) * invWidth

/-- The root of the variance and the small constant. -/
def sd (f : ℕ → EReal) : EReal := Ideal.sqrt (var f + Ideal.ofBits .f32 0x3727C5AC#32)

/-- The normalised entry. -/
def lnRow (f g : ℕ → EReal) (c : ℕ) : EReal := Ideal.div (dev f c) (sd f) * g c

/-- The scale of a normalised row and the code of an entry. -/
def lnScale (f g : ℕ → EReal) : EReal := rowScale (top 12288 (lnRow f g))
def lnCode (f g : ℕ → EReal) (c : ℕ) : EReal := clip (Ideal.div (lnRow f g c) (lnScale f g))

theorem sq_nonneg' (x : EReal) : 0 ≤ x * x := by
  rcases le_total 0 x with h | h
  · exact EReal.mul_nonneg h h
  · rw [← neg_mul_neg]
    have : 0 ≤ -x := by simpa using EReal.neg_le_neg_iff.2 h
    exact EReal.mul_nonneg this this

theorem var_nonneg (f : ℕ → EReal) : 0 ≤ var f :=
  EReal.mul_nonneg (Finset.sum_nonneg fun _ _ => sq_nonneg' _) (by unfold invWidth; exact_mod_cast (by norm_num : (0 : ℝ) ≤ 1 / 12288))

theorem eps_pos : 0 < Ideal.ofBits .f32 0x3727C5AC#32 := by
  simp [Ideal.ofBits, Ideal.ieee, -EReal.coe_mul]

/-- The root is positive. -/
theorem sqrt_pos {x : EReal} (h : 0 < x) : 0 < Ideal.sqrt x := by
  induction x using EReal.rec with
  | bot => exact absurd h (by simp)
  | top => simp
  | coe r =>
    have hr : 0 < r := by exact_mod_cast h
    rw [Ideal.sqrt_coe, if_neg (by linarith)]
    exact_mod_cast Real.sqrt_pos.2 hr

theorem sd_pos (f : ℕ → EReal) : 0 < sd f :=
  sqrt_pos (lt_of_lt_of_le eps_pos (le_add_of_nonneg_left (var_nonneg f)))

/-- The inverse of the root. -/
def rstd (f : ℕ → EReal) : EReal := Ideal.div 1 (sd f)

theorem div_sd (f : ℕ → EReal) (x : EReal) : Ideal.div x (sd f) = x * rstd f := by
  unfold rstd; rw [mul_inv_eq_div (sd_pos f).ne']

theorem rstd_nonneg (f : ℕ → EReal) : 0 ≤ rstd f := by
  unfold rstd Ideal.div
  rw [if_neg (sd_pos f).ne', one_mul]
  exact EReal.inv_nonneg_of_nonneg (sd_pos f).le

/-- A magnitude times a number that is not negative is the magnitude of the product. -/
theorem abs_mul_nonneg (x : EReal) {r : EReal} (hr : 0 ≤ r) : max x (-x) * r = max (x * r) (-(x * r)) := by
  rw [← EReal.neg_mul]
  rcases le_total x (-x) with h | h
  · rw [max_eq_right h, max_eq_right (mul_le_mul_of_nonneg_right h hr)]
  · rw [max_eq_left h, max_eq_left (mul_le_mul_of_nonneg_right h hr)]

/-- The greatest magnitude of a row times a number that is not negative. -/
theorem top_mul (N : ℕ) (hN : 0 < N) (f : ℕ → EReal) {r : EReal} (hr : 0 ≤ r) : top N f * r = top N fun c => f c * r := by
  obtain ⟨c, hc, h⟩ := Finset.exists_mem_eq_sup (Finset.range N) ⟨0, Finset.mem_range.2 hN⟩ fun c => max (f c) (-f c)
  have hm : ∀ c', c' < N → max (f c') (-f c') ≤ max (f c) (-f c) := fun c' hc' => by
    rw [← h]; exact Finset.le_sup (f := fun c => max (f c) (-f c)) (Finset.mem_range.2 hc')
  refine le_antisymm ?_ ((top_le_iff _ _ _).2 fun c' hc' => ?_)
  · rw [show top N f = max (f c) (-f c) from h, abs_mul_nonneg _ hr]
    exact (top_le_iff _ (fun c => f c * r) _).1 le_rfl c (Finset.mem_range.1 hc)
  · rw [show top N f = max (f c) (-f c) from h, ← abs_mul_nonneg _ hr]
    exact mul_le_mul_of_nonneg_right (hm c' hc') hr

/-- The greatest magnitude of the normalised row, the inverse root taken last. -/
theorem top_lnRow (f g : ℕ → EReal) : top 12288 (fun c => dev f c * g c) * rstd f = top 12288 (lnRow f g) := by
  rw [top_mul _ (by norm_num) _ (rstd_nonneg f)]
  refine top_congr fun c _ => ?_
  unfold lnRow
  rw [div_sd, mul_assoc, mul_assoc, mul_comm (g c)]

/-- The code, the inverse root and the inverse scale in one factor. -/
theorem lnCode_factor (f g : ℕ → EReal) (c : ℕ) : clip (dev f c * g c * Ideal.div (rstd f) (lnScale f g)) = lnCode f g c := by
  unfold lnCode lnRow
  have hs : lnScale f g ≠ 0 := rowScale_ne_zero _
  rw [div_sd]
  unfold Ideal.div
  rw [if_neg hs, if_neg hs]
  congr 1
  rw [← mul_assoc, mul_assoc (dev f c), mul_comm (g c), ← mul_assoc]

/-- A row's scale and codes depend on that row only. -/
theorem lnRow_congr {f f' g g' : ℕ → EReal} (h : f = f') (hg : g = g') : lnRow f g = lnRow f' g' := by rw [h, hg]

/-- The entries of an array by their row's and column's number. -/
def ent {M N : ℕ} (x : (⟨2, ![M, N]⟩ : Shape).Idx → EReal) (r c : ℕ) : EReal :=
  if hr : r < M then if hc : c < N then x (ix2 ⟨r, hr⟩ ⟨c, hc⟩) else 0 else 0

/-- The scales and the codes as whole arrays. -/
def lnScales (X : (⟨2, ![10752, 12288]⟩ : Shape).Idx → EReal) (g : (⟨1, ![12288]⟩ : Shape).Idx → EReal) :
    (⟨2, ![10752, 1]⟩ : Shape).Idx → EReal := fun i => lnScale (ent X (i 0).val) (ent (shapeCast ⟨2, ![1, 12288]⟩ g (by decide)) 0)

def lnCodes (X : (⟨2, ![10752, 12288]⟩ : Shape).Idx → EReal) (g : (⟨1, ![12288]⟩ : Shape).Idx → EReal) :
    (⟨2, ![10752, 12288]⟩ : Shape).Idx → EReal := fun i => lnCode (ent X (i 0).val) (ent (shapeCast ⟨2, ![1, 12288]⟩ g (by decide)) 0) (i 1).val

/-! ## In pieces -/

/-- A sum over `128 * n` columns, piece after piece. -/
theorem sum_pieces (f : ℕ → EReal) (n : ℕ) :
    ∑ l : Fin 128, ∑ j ∈ Finset.range n, f (128 * j + l.val) = rowSum (128 * n) f := by
  unfold rowSum
  rw [Finset.sum_comm]
  induction n with
  | zero => simp
  | succ n ih =>
    rw [Finset.sum_range_succ, ih, mul_add, mul_one, Finset.sum_range_add, Finset.sum_range]
    congr 1

end Cert.Proof

end
-- ==== Proof.LnChunks.lean ====
/- Sums along rows read in pieces of 32 rows and 128 columns, and the pieces of a row normalised. -/
module

public import proofs.«01_k».proof.Proof.Chunks
public import proofs.«01_k».proof.Proof.LnRows

@[expose] public section

noncomputable section

namespace Cert.Proof

open Idealize.ShloMosaic Idealize.ShloMosaic.ValueIdx

/-- A sum along the lanes. -/
theorem laneSum {M N : ℕ} (src : FVec Ideal ⟨2, ![M, N]⟩ .f32) (h : (⟨2, ![M, N]⟩ : Shape).Reduces [1] ⟨1, ![M]⟩)
    (hφ : FKind.Formats .f32) (hacc : 0x00000000#32 = FKind.add.neutral .f32 hφ) (r : Fin M) :
    multiReduction .add [1] ⟨1, ![M]⟩ src 0x00000000#32 h hφ hacc (ix1 r) = ∑ c : Fin N, src (ix2 r c) := by
  have e := Ideal.multiReduction_add_single (a := (1 : Fin 2)) src 0x00000000#32 h hφ hacc (ix1 r)
  have l : ∀ c : Fin N, h.lift (ix1 r) c = ix2 r c := fun c => Shape.idx_ext₂ rfl rfl
  rw [e]
  exact Finset.sum_congr rfl fun c _ => congrArg src (l c)

/-- The running sum of the first `n` pieces, from zero. -/
def sumUpto (z : ℕ → ℕ → EReal) (r0 : ℕ) : ℕ → FVec Ideal ⟨2, ![32, 128]⟩ .f32
  | 0 => broadcast ⟨2, ![32, 128]⟩ (Scalar.ofBits (F := Ideal) .f32 0x00000000#32)
  | n + 1 => addf (sumUpto z r0 n) (chunk z r0 (128 * n))

/-- One more piece. -/
theorem sumUpto_step {z : ℕ → ℕ → EReal} {r0 n : ℕ} {t v : FVec Ideal ⟨2, ![32, 128]⟩ .f32} (ht : t = sumUpto z r0 n)
    (hv : v = chunk z r0 (128 * n)) : addf t v = sumUpto z r0 (n + 1) := by
  rw [ht, hv]; rfl

theorem sumUpto_apply (z : ℕ → ℕ → EReal) (r0 n : ℕ) (r : Fin 32) (l : Fin 128) :
    sumUpto z r0 n (ix2 r l) = ∑ j ∈ Finset.range n, z (r0 + r.val) (128 * j + l.val) := by
  induction n with
  | zero => exact ofBits_zero
  | succ n ih =>
    rw [Finset.sum_range_succ, ← ih]
    rfl

/-- The sum along the lanes of the running sum is the row's. -/
theorem laneSum_sumUpto (z : ℕ → ℕ → EReal) (r0 n : ℕ) (h : (⟨2, ![32, 128]⟩ : Shape).Reduces [1] ⟨1, ![32]⟩)
    (hφ : FKind.Formats .f32) (hacc : 0x00000000#32 = FKind.add.neutral .f32 hφ) (r : Fin 32) :
    multiReduction .add [1] ⟨1, ![32]⟩ (sumUpto z r0 n) 0x00000000#32 h hφ hacc (ix1 r) = rowSum (128 * n) (z (r0 + r.val)) := by
  rw [laneSum, ← sum_pieces]
  exact Finset.sum_congr rfl fun l _ => sumUpto_apply z r0 n r l

/-- A row of gains, broadcast along the rows of a piece. -/
theorem bcast_row' {M N : ℕ} (x : FVec Ideal ⟨2, ![1, N]⟩ .f32) (h : (⟨2, ![1, N]⟩ : Shape).Broadcasts ⟨2, ![M, N]⟩) (p : Fin M) (q : Fin N) :
    broadcastTo ⟨2, ![M, N]⟩ x h (ix2 p q) = x (ix2 0 q) := bcast_row x h p q

section
variable (z : ℕ → ℕ → EReal) (g : ℕ → EReal) (r0 : ℕ)

/-- A piece with its rows' means taken off, -/
theorem dev_piece {v : FVec Ideal ⟨2, ![32, 128]⟩ .f32} {m : FVec Ideal ⟨2, ![32, 1]⟩ .f32} {c0 : ℕ} (hv : v = chunk z r0 c0)
    (hm : ∀ p : Fin 32, m (ix2 p 0) = mean (z (r0 + p.val))) (h : (⟨2, ![32, 1]⟩ : Shape).Broadcasts ⟨2, ![32, 128]⟩) :
    subf v (broadcastTo ⟨2, ![32, 128]⟩ m h) = chunk (fun r => dev (z r)) r0 c0 := by
  subst hv
  funext y
  obtain ⟨p, q, rfl⟩ : ∃ (p : Fin 32) (q : Fin 128), y = ix2 p q := ⟨y 0, y 1, eq_ix2 y⟩
  have e := (bcast_col m h p q).trans (hm p)
  show z (r0 + p.val) (c0 + q.val) - broadcastTo ⟨2, ![32, 128]⟩ m h (ix2 p q) = z (r0 + p.val) (c0 + q.val) - mean (z (r0 + p.val))
  rw [e]

/-- its square, -/
theorem sq_piece {v : FVec Ideal ⟨2, ![32, 128]⟩ .f32} {c0 : ℕ} (hv : v = chunk (fun r => dev (z r)) r0 c0) :
    mulf v v = chunk (fun r c => dev (z r) c * dev (z r) c) r0 c0 := by
  subst hv; rfl

/-- and its product with the gains. -/
theorem gain_piece {v : FVec Ideal ⟨2, ![32, 128]⟩ .f32} {w : FVec Ideal ⟨2, ![1, 128]⟩ .f32} {c0 : ℕ} (hv : v = chunk (fun r => dev (z r)) r0 c0)
    (hw : ∀ q : Fin 128, w (ix2 0 q) = g (c0 + q.val)) (hs : (⟨2, ![1, 128]⟩ : Shape).ShapeCasts ⟨2, ![1, 128]⟩)
    (h : (⟨2, ![1, 128]⟩ : Shape).Broadcasts ⟨2, ![32, 128]⟩) :
    mulf v (broadcastTo ⟨2, ![32, 128]⟩ (shapeCast ⟨2, ![1, 128]⟩ w hs) h) = chunk (fun r c => dev (z r) c * g c) r0 c0 := by
  subst hv
  rw [shapeCast_self]
  funext y
  obtain ⟨p, q, rfl⟩ : ∃ (p : Fin 32) (q : Fin 128), y = ix2 p q := ⟨y 0, y 1, eq_ix2 y⟩
  have e := (bcast_row w h p q).trans (hw q)
  show dev (z (r0 + p.val)) (c0 + q.val) * broadcastTo ⟨2, ![32, 128]⟩ w h (ix2 p q) = dev (z (r0 + p.val)) (c0 + q.val) * g (c0 + q.val)
  rw [e]

/-- A piece of codes. -/
theorem code_piece {v : FVec Ideal ⟨2, ![32, 128]⟩ .f32} {f : FVec Ideal ⟨2, ![32, 1]⟩ .f32} {c0 : ℕ}
    (hv : v = chunk (fun r c => dev (z r) c * g c) r0 c0)
    (hf : ∀ p : Fin 32, f (ix2 p 0) = Ideal.div (rstd (z (r0 + p.val))) (lnScale (z (r0 + p.val)) g))
    (h : (⟨2, ![32, 1]⟩ : Shape).Broadcasts ⟨2, ![32, 128]⟩) (hb : FTy.bits .fp8e4m3 < FTy.bits .f32) (p : Fin 32) (q : Fin 128) :
    truncf (F := Ideal) .fp8e4m3 (minimumf (broadcast ⟨2, ![32, 128]⟩ (Scalar.ofBits (F := Ideal) .f32 0x43E00000#32))
      (maximumf (broadcast ⟨2, ![32, 128]⟩ (Scalar.ofBits (F := Ideal) .f32 0xC3E00000#32)) (mulf v (broadcastTo ⟨2, ![32, 128]⟩ f h)))) hb (ix2 p q)
      = lnCode (z (r0 + p.val)) g (c0 + q.val) := by
  subst hv
  have e := (bcast_col f h p q).trans (hf p)
  rw [← lnCode_factor, ← e]
  unfold clip
  rw [← ofBits_448]
  rfl

end

end Cert.Proof

end
-- ==== Proof.LnPieces.lean ====
/- What one trip of the normalising quantiser reads and computes. -/
module

public import proofs.«01_k».proof.Proof.LnChunks
public import proofs.«01_k».proof.Proof.Gen.LnIdeal.Frame

@[expose] public section

set_option maxRecDepth 100000
set_option maxHeartbeats 4000000

noncomputable section

namespace Cert.Proof.LnK

open Cert.LnIdeal Cert.LnIdeal.Gen Idealize.ShloMosaic Idealize.ShloMosaic.TcCoe Idealize.SL.Sem
open Idealize.ShloMosaic.ValueIdx Cert.Proof

variable {arg1 : Memref sig .tc .vmem S256x12288 .bf16} {harg1 : arg1.IsWhole} {arg2 : Memref sig .tc .vmem S1x12288 .f32}
  {harg2 : arg2.IsWhole} {arg3 : Memref sig .tc .vmem S256x12288 .fp8e4m3} {harg3 : arg3.IsWhole}
  {arg4 : Memref sig .tc .vmem S256x1 .f32} {harg4 : arg4.IsWhole}
  (x0 : Vec Ideal S256x12288 .bf16) (x1 : Vec Ideal S1x12288 .f32)

/-- The 256 rows of a block, and the gains. -/
abbrev xb : ℕ → ℕ → EReal := ent x0
abbrev gb : ℕ → EReal := ent x1 0

/-- A load of the block is a piece of its rows, -/
theorem readX (k : Fin k0_t1_loop.trips) (c0 : ℕ) (hc : c0 + 128 ≤ 12288) {off : Fin 2 → ℕ} (ho : off = ![32 * k.val, c0])
    (inb : ∀ a, off a + S32x128.size a ≤ S256x12288.size a) (hb : FTy.bits .bf16 < FTy.bits .f32) :
    extf (F := Ideal) .f32 (View.readAt (Elt Ideal) arg1.view (Rect.unit (s := S256x12288) off S32x128.size inb).toLoadRect (harg1.unread x0)) hb
      = chunk (xb x0) (32 * k.val) c0 := by
  subst ho
  have hk : k.val < 8 := Nat.lt_of_lt_of_le k.isLt k0_t1_abs.2.1
  rw [View.readAt_eq_ld, Memref.IsWhole.read_unread]
  funext y
  have h0 : (y 0).val < 32 := (y 0).isLt
  have h1 : (y 1).val < 128 := (y 1).isLt
  unfold chunk xb ent
  rw [dif_pos (show 32 * k.val + (y 0).val < 256 by omega), dif_pos (show c0 + (y 1).val < 12288 by omega)]
  exact congrArg x0 (Shape.idx_ext₂ (by show 32 * k.val + 1 * (y 0).val = 32 * k.val + (y 0).val; omega)
    (by show c0 + 1 * (y 1).val = c0 + (y 1).val; omega))

/-- and a load of the gains is a piece of them. -/
theorem readG (c0 : ℕ) (hc : c0 + 128 ≤ 12288) (inb : ∀ a, ![0, c0] a + S1x128.size a ≤ S1x12288.size a) (q : Fin 128) :
    View.readAt (Elt Ideal) arg2.view (Rect.unit (s := S1x12288) ![0, c0] S1x128.size inb).toLoadRect (harg2.unread x1) (ix2 0 q)
      = gb x1 (c0 + q.val) := by
  rw [View.readAt_eq_ld, Memref.IsWhole.read_unread]
  have h1 : q.val < 128 := q.isLt
  unfold gb ent
  rw [dif_pos (show 0 < 1 by omega), dif_pos (show c0 + q.val < 12288 by omega)]
  exact congrArg x1 (Shape.idx_ext₂ (by show 0 + 1 * 0 = 0; omega) (by show c0 + 1 * q.val = c0 + q.val; omega))

/-- A column of sums over the width. -/
def meanOf (t : FVec Ideal S32x128 .f32) : FVec Ideal S32x1 .f32 :=
  mulf (shapeCast S32x1 (multiReduction .add [1] S32 t 0x00000000#32 reduces_S32x128_S32 (.inl rfl) rfl) shapeCasts_S32_S32x1)
    (broadcast S32x1 (Named.named (F := Ideal) κ "inv_width" 0x38AAAAAB#32))

theorem meanOf_def (t : FVec Ideal S32x128 .f32) (j : S32x1.Idx) : meanOf t j
    = (shapeCast S32x1 (multiReduction .add [1] S32 t 0x00000000#32 reduces_S32x128_S32 (.inl rfl) rfl) shapeCasts_S32_S32x1) j
      * Named.named (F := Ideal) (φ := .f32) κ "inv_width" 0x38AAAAAB#32 := rfl

theorem meanOf_apply (z : ℕ → ℕ → EReal) (r0 : ℕ) (p : Fin 32) :
    meanOf (sumUpto z r0 96) (ix2 p 0) = rowSum 12288 (z (r0 + p.val)) * invWidth := by
  have e := (shapeCast_col (multiReduction .add [1] S32 (sumUpto z r0 96) 0x00000000#32 reduces_S32x128_S32 (.inl rfl) rfl)
    shapeCasts_S32_S32x1 p 0).trans (laneSum_sumUpto z r0 96 _ _ _ p)
  rw [show 128 * 96 = 12288 by norm_num] at e
  have n : Named.named (F := Ideal) (φ := .f32) κ "inv_width" 0x38AAAAAB#32 = invWidth := IdealRules.named_const.ideal_named_scalar _ _ _ _ rfl
  rw [meanOf_def, n]
  exact congrArg (· * invWidth) e

section
variable (𝒱 : Variants) (c : Dev nD) (bd : Option 𝒱.V) (i : grid0.Coords)

/-- The rows' means. -/
theorem run_mean (k : Fin k0_t1_loop.trips) :
    trip_k0_t1.sl.r (F := Ideal) arg1 (harg1.unread x0) k = meanOf (sumUpto (xb x0) (32 * k.val) 96) := by
  suffices h : ∃ t, trip_k0_t1.sl.r (F := Ideal) arg1 (harg1.unread x0) k = meanOf t ∧ t = sumUpto (xb x0) (32 * k.val) 96 by
    obtain ⟨t, h, rfl⟩ := h
    exact h
  refine ⟨_, rfl, ?_⟩
  iterate 96 refine sumUpto_step ?_ (readX x0 k _ (by norm_num) ClosedOff.eq _ _)
  rfl

theorem run_mean_apply (k : Fin k0_t1_loop.trips) (p : Fin 32) :
    trip_k0_t1.sl.r (F := Ideal) arg1 (harg1.unread x0) k (ix2 p 0) = mean (xb x0 (32 * k.val + p.val)) := by
  rw [run_mean]; exact meanOf_apply _ _ _

/-- One trip's run, at the contents of its two inputs. -/
abbrev run (k : Fin k0_t1_loop.trips) :=
  tripL_k0_t1 (F := Ideal) 𝒱 c bd i arg1 harg1 arg2 harg2 arg3 harg3 arg4 harg4 (harg1.unread x0) (harg2.unread x1) k

end

end Cert.Proof.LnK

end
-- ==== Proof.LnTrip.lean ====
/- The variance and the greatest magnitude that one trip of the normalising quantiser computes. -/
module

public import proofs.«01_k».proof.Proof.LnPieces

@[expose] public section

set_option maxRecDepth 100000
set_option maxHeartbeats 4000000

noncomputable section

namespace Cert.Proof.LnK

open Cert.LnIdeal Cert.LnIdeal.Gen Idealize.ShloMosaic Idealize.ShloMosaic.TcCoe Idealize.SL.Sem
open Idealize.ShloMosaic.ValueIdx Cert.Proof

variable {arg1 : Memref sig .tc .vmem S256x12288 .bf16} {harg1 : arg1.IsWhole} {arg2 : Memref sig .tc .vmem S1x12288 .f32}
  {harg2 : arg2.IsWhole}
  (x0 : Vec Ideal S256x12288 .bf16) (x1 : Vec Ideal S1x12288 .f32)

/-- The rows' variances. -/
theorem run_var (k : Fin k0_t1_loop.trips) :
    trip_k0_t1.sl.r_6 (F := Ideal) arg1 (harg1.unread x0) k
      = meanOf (sumUpto (fun r c => dev (xb x0 r) c * dev (xb x0 r) c) (32 * k.val) 96) := by
  have hm := run_mean_apply (harg1 := harg1) x0 k
  suffices h : ∃ t, trip_k0_t1.sl.r_6 (F := Ideal) arg1 (harg1.unread x0) k = meanOf t
      ∧ t = sumUpto (fun r c => dev (xb x0 r) c * dev (xb x0 r) c) (32 * k.val) 96 by
    obtain ⟨t, h, rfl⟩ := h
    exact h
  refine ⟨_, rfl, ?_⟩
  iterate 96 refine sumUpto_step ?_ (sq_piece (xb x0) _ (dev_piece (xb x0) _ (readX x0 k _ (by norm_num) ClosedOff.eq _ _) hm _))
  rfl

theorem run_var_apply (k : Fin k0_t1_loop.trips) (p : Fin 32) :
    trip_k0_t1.sl.r_6 (F := Ideal) arg1 (harg1.unread x0) k (ix2 p 0) = var (xb x0 (32 * k.val + p.val)) := by
  rw [run_var]; exact meanOf_apply _ _ _

/-- The running maximum of the products with the gains. -/
theorem run_max (k : Fin k0_t1_loop.trips) :
    trip_k0_t1.sl.r_5 (F := Ideal) arg1 arg2 (harg1.unread x0) (harg2.unread x1) k
      = maxUpto (fun r c => dev (xb x0 r) c * gb x1 c) (32 * k.val) 96 := by
  have hm := run_mean_apply (harg1 := harg1) x0 k
  suffices h : ∃ t, trip_k0_t1.sl.r_5 (F := Ideal) arg1 arg2 (harg1.unread x0) (harg2.unread x1) k = t
      ∧ t = maxUpto (fun r c => dev (xb x0 r) c * gb x1 c) (32 * k.val) 96 by
    obtain ⟨t, h, rfl⟩ := h
    exact h
  refine ⟨_, rfl, ?_⟩
  iterate 96 refine maxUpto_step ?_ (gain_piece (xb x0) (gb x1) _ (dev_piece (xb x0) _ (readX x0 k _ (by norm_num) ClosedOff.eq _ _) hm _)
    (readG x1 _ (by norm_num) _) _ _)
  rfl

end Cert.Proof.LnK

end
-- ==== Proof.LnCodes.lean ====
/- The scales and the codes that one trip of the normalising quantiser stores. -/
module

public import proofs.«01_k».proof.Proof.LnTrip

@[expose] public section

set_option maxRecDepth 100000
set_option maxHeartbeats 4000000

noncomputable section

namespace Cert.Proof.LnK

open Cert.LnIdeal Cert.LnIdeal.Gen Idealize.ShloMosaic Idealize.ShloMosaic.TcCoe Idealize.SL.Sem
open Idealize.ShloMosaic.ValueIdx Cert.Proof

variable {arg1 : Memref sig .tc .vmem S256x12288 .bf16} {harg1 : arg1.IsWhole} {arg2 : Memref sig .tc .vmem S1x12288 .f32}
  {harg2 : arg2.IsWhole} {arg3 : Memref sig .tc .vmem S256x12288 .fp8e4m3} {harg3 : arg3.IsWhole}
  {arg4 : Memref sig .tc .vmem S256x1 .f32} {harg4 : arg4.IsWhole}
  (x0 : Vec Ideal S256x12288 .bf16) (x1 : Vec Ideal S1x12288 .f32)

/-- The inverse roots of a column of variances. -/
def rstdOf (v : FVec Ideal S32x1 .f32) : FVec Ideal S32x1 .f32 :=
  divf (broadcast S32x1 (Scalar.ofBits (F := Ideal) .f32 0x3F800000#32))
    (sqrt (addf v (broadcast S32x1 (Scalar.ofBits (F := Ideal) .f32 0x3727C5AC#32))))

theorem rstdOf_apply (v : FVec Ideal S32x1 .f32) (p : Fin 32) (f : ℕ → EReal) (hv : v (ix2 p 0) = var f) : rstdOf v (ix2 p 0) = rstd f := by
  unfold rstd sd
  rw [← hv, ← ofBits_one]
  rfl

/-- The scales of a running maximum and a column of variances. -/
def scaleOf (t : FVec Ideal S32x128 .f32) (v : FVec Ideal S32x1 .f32) : FVec Ideal S32x1 .f32 :=
  select (cmpf .oeq (mulf (shapeCast S32x1 (multiReduction .maximumf [1] S32 t 0xFF800000#32 reduces_S32x128_S32 (.inl rfl) rfl) shapeCasts_S32_S32x1) (rstdOf v))
      (broadcast S32x1 (Scalar.ofBits (F := Ideal) .f32 0x00000000#32)))
    (broadcast S32x1 (Scalar.ofBits (F := Ideal) .f32 0x3F800000#32))
    (divf (mulf (shapeCast S32x1 (multiReduction .maximumf [1] S32 t 0xFF800000#32 reduces_S32x128_S32 (.inl rfl) rfl) shapeCasts_S32_S32x1) (rstdOf v))
      (broadcast S32x1 (Scalar.ofBits (F := Ideal) .f32 0x43E00000#32)))

theorem scaleOf_apply (z : ℕ → ℕ → EReal) (g : ℕ → EReal) (r0 : ℕ) (v : FVec Ideal S32x1 .f32) (p : Fin 32)
    (hv : v (ix2 p 0) = var (z (r0 + p.val))) :
    scaleOf (maxUpto (fun r c => dev (z r) c * g c) r0 96) v (ix2 p 0) = lnScale (z (r0 + p.val)) g := by
  have e := (shapeCast_col (multiReduction .maximumf [1] S32 (maxUpto (fun r c => dev (z r) c * g c) r0 96) 0xFF800000#32 reduces_S32x128_S32 (.inl rfl) rfl)
    shapeCasts_S32_S32x1 p 0).trans (laneMax_maxUpto (fun r c => dev (z r) c * g c) r0 96 (by norm_num) _ _ _ p)
  rw [show 128 * 96 = 12288 by norm_num] at e
  have h := top_lnRow (z (r0 + p.val)) g
  rw [← e, ← rstdOf_apply v p _ hv] at h
  unfold lnScale scaleOf
  rw [← h]
  exact select_scale _

/-- What a block of codes holds at an index. -/
def lnG : S256x12288.Idx → EReal := fun i => lnCode (xb x0 (i 0).val) (gb x1) (i 1).val

/-- What a block of scales holds at an index. -/
def lnS : S256x1.Idx → EReal := fun i => lnScale (xb x0 (i 0).val) (gb x1)

/-- One store of codes. -/
def codeOf (m f : FVec Ideal S32x1 .f32) (v : FVec Ideal S32x128 .f32) (w : FVec Ideal S1x128 .f32) : FVec Ideal S32x128 .fp8e4m3 :=
  truncf (F := Ideal) .fp8e4m3 (minimumf (broadcast S32x128 (Scalar.ofBits (F := Ideal) .f32 0x43E00000#32))
    (maximumf (broadcast S32x128 (Scalar.ofBits (F := Ideal) .f32 0xC3E00000#32))
      (mulf (mulf (subf v (broadcastTo S32x128 m broadcasts_S32x1_S32x128)) (broadcastTo S32x128 (shapeCast S1x128 w shapeCasts_S1x128_S1x128) broadcasts_S1x128_S32x128))
        (broadcastTo S32x128 f broadcasts_S32x1_S32x128)))) bitsLt_fp8e4m3_f32

theorem piece_ok (k : Fin k0_t1_loop.trips) (m f : FVec Ideal S32x1 .f32)
    (hm : ∀ p : Fin 32, m (ix2 p 0) = mean (xb x0 (32 * k.val + p.val)))
    (hf : ∀ p : Fin 32, f (ix2 p 0) = Ideal.div (rstd (xb x0 (32 * k.val + p.val))) (lnScale (xb x0 (32 * k.val + p.val)) (gb x1)))
    (c0 : ℕ) (v : FVec Ideal S32x128 .f32) (hv : v = chunk (xb x0) (32 * k.val) c0) (w : FVec Ideal S1x128 .f32)
    (hw : ∀ q : Fin 128, w (ix2 0 q) = gb x1 (c0 + q.val))
    {off : Fin 2 → ℕ} (ho : off = ![32 * k.val, c0]) (inb : ∀ a, off a + S32x128.size a ≤ S256x12288.size a) (x : S32x128.Idx) :
    codeOf m f v w x = lnG x0 x1 ((Rect.unit (s := S256x12288) off S32x128.size inb).emb x) := by
  subst ho
  obtain ⟨p, q, rfl⟩ : ∃ (p : Fin 32) (q : Fin 128), x = ix2 p q := ⟨x 0, x 1, eq_ix2 x⟩
  refine (code_piece (xb x0) (gb x1) (32 * k.val) (gain_piece (xb x0) (gb x1) _ (dev_piece (xb x0) _ hv hm _) hw _ _) hf _ _ p q).trans ?_
  show lnCode (xb x0 (32 * k.val + p.val)) (gb x1) (c0 + q.val) = lnCode (xb x0 (32 * k.val + 1 * p.val)) (gb x1) (c0 + 1 * q.val)
  rw [one_mul, one_mul]

/-- Where a store lies. -/
theorem inb_of (k : Fin k0_t1_loop.trips) {c0 : ℕ} {off : Fin 2 → ℕ} (ho : off = ![32 * k.val, c0]) (hc : c0 + 128 ≤ 12288) :
    ∀ a, off a + S32x128.size a ≤ S256x12288.size a := by
  subst ho
  have hk : k.val < 8 := Nat.lt_of_lt_of_le k.isLt k0_t1_abs.2.1
  intro a
  fin_cases a
  · show 32 * k.val + 32 ≤ 256; omega
  · show c0 + 128 ≤ 12288; omega

theorem inbS (k : Fin k0_t1_loop.trips) {off : Fin 2 → ℕ} (ho : off = ![32 * k.val, 0]) : ∀ a, off a + S32x1.size a ≤ S256x1.size a := by
  subst ho
  have hk : k.val < 8 := Nat.lt_of_lt_of_le k.isLt k0_t1_abs.2.1
  intro a
  fin_cases a
  · show 32 * k.val + 32 ≤ 256; omega
  · show 0 + 1 ≤ 1; omega

/-- The scales and the factor a trip computes. -/
theorem run_scale (k : Fin k0_t1_loop.trips) (p : Fin 32) :
    trip_k0_t1.sl.v1659 (F := Ideal) arg1 arg2 (harg1.unread x0) (harg2.unread x1) k (ix2 p 0)
      = lnScale (xb x0 (32 * k.val + p.val)) (gb x1) := by
  have h : trip_k0_t1.sl.v1659 (F := Ideal) arg1 arg2 (harg1.unread x0) (harg2.unread x1) k
      = scaleOf (trip_k0_t1.sl.r_5 (F := Ideal) arg1 arg2 (harg1.unread x0) (harg2.unread x1) k) (trip_k0_t1.sl.r_6 (F := Ideal) arg1 (harg1.unread x0) k) := rfl
  rw [h, run_max]
  exact scaleOf_apply _ _ _ _ p (run_var_apply x0 k p)

theorem run_factor (k : Fin k0_t1_loop.trips) (p : Fin 32) :
    trip_k0_t1.sl.v1660 (F := Ideal) arg1 arg2 (harg1.unread x0) (harg2.unread x1) k (ix2 p 0)
      = Ideal.div (rstd (xb x0 (32 * k.val + p.val))) (lnScale (xb x0 (32 * k.val + p.val)) (gb x1)) := by
  have h : trip_k0_t1.sl.v1660 (F := Ideal) arg1 arg2 (harg1.unread x0) (harg2.unread x1) k
      = divf (rstdOf (trip_k0_t1.sl.r_6 (F := Ideal) arg1 (harg1.unread x0) k)) (trip_k0_t1.sl.v1659 (F := Ideal) arg1 arg2 (harg1.unread x0) (harg2.unread x1) k) := rfl
  rw [h, ← rstdOf_apply _ p _ (run_var_apply (harg1 := harg1) x0 k p), ← run_scale (harg1 := harg1) (harg2 := harg2) x0 x1 k p]
  rfl

variable (𝒱 : Variants) (c : Dev nD) (bd : Option 𝒱.V) (i : grid0.Coords)

/-- The 96 stores of codes, -/
theorem run_codes (k : Fin k0_t1_loop.trips) :
    ∀ pc ∈ (run (harg1 := harg1) (harg2 := harg2) (harg3 := harg3) (harg4 := harg4) x0 x1 𝒱 c bd i k).1,
      ∀ x : pc.1.shape.Idx, pc.2 x = lnG x0 x1 (pc.1.emb x) := by
  have hp := piece_ok x0 x1 k _ _ (run_mean_apply (harg1 := harg1) x0 k) (run_factor (harg1 := harg1) (harg2 := harg2) x0 x1 k)
  unfold run tripL_k0_t1 trip_k0_t1
  dsimp only
  iterate 96 refine List.forall_mem_cons.2 ⟨hp _ _ (readX x0 k _ (by norm_num) ClosedOff.eq _ _) _ (readG x1 _ (by norm_num) _) ClosedOff.eq (inb_of k ClosedOff.eq (by norm_num)), ?_⟩
  exact fun _ h => absurd h (List.not_mem_nil)

/-- and the one of scales. -/
theorem run_scales (k : Fin k0_t1_loop.trips) :
    ∀ pc ∈ (run (harg1 := harg1) (harg2 := harg2) (harg3 := harg3) (harg4 := harg4) x0 x1 𝒱 c bd i k).2,
      ∀ x : pc.1.shape.Idx, pc.2 x = lnS x0 x1 (pc.1.emb x) := by
  have hp : ∀ {off : Fin 2 → ℕ} (_ : off = ![32 * k.val, 0]) (inb : ∀ a, off a + S32x1.size a ≤ S256x1.size a) (x : S32x1.Idx),
      trip_k0_t1.sl.v1659 (F := Ideal) arg1 arg2 (harg1.unread x0) (harg2.unread x1) k x
        = lnS x0 x1 ((Rect.unit (s := S256x1) off S32x1.size inb).emb x) := by
    intro off ho inb x
    subst ho
    obtain ⟨p, q, rfl⟩ : ∃ (p : Fin 32) (q : Fin 1), x = ix2 p q := ⟨x 0, x 1, eq_ix2 x⟩
    rw [Subsingleton.elim q 0]
    refine (run_scale x0 x1 k p).trans ?_
    show lnScale (xb x0 (32 * k.val + p.val)) (gb x1) = lnScale (xb x0 (32 * k.val + 1 * p.val)) (gb x1)
    rw [one_mul]
  unfold run tripL_k0_t1 trip_k0_t1
  dsimp only
  exact List.forall_mem_cons.2 ⟨hp ClosedOff.eq (inbS k ClosedOff.eq), fun _ h => absurd h (List.not_mem_nil)⟩

end Cert.Proof.LnK

end
-- ==== Proof.LnValue.lean ====
/- What the normalising quantiser leaves in its two result arrays: each row's scale, and its codes. -/
module

public import proofs.«01_k».proof.Proof.LnCodes
public import proofs.«01_k».proof.Proof.Gen.LnIdeal.Value

@[expose] public section

set_option maxRecDepth 16384

noncomputable section

namespace Cert.Proof.LnK

open Cert.LnIdeal Cert.LnIdeal.Gen Idealize.ShloMosaic Idealize.ShloMosaic.TcCoe Idealize.SL.Sem
open Idealize.ShloMosaic.ValueIdx Cert.Proof
open Idealize.ShloMosaic.Pipeline (Dat)

section
variable {arg1 : Memref sig .tc .vmem S256x12288 .bf16} {harg1 : arg1.IsWhole} {arg2 : Memref sig .tc .vmem S1x12288 .f32}
  {harg2 : arg2.IsWhole} {arg3 : Memref sig .tc .vmem S256x12288 .fp8e4m3} {harg3 : arg3.IsWhole}
  {arg4 : Memref sig .tc .vmem S256x1 .f32} {harg4 : arg4.IsWhole}
  (x0 : Vec Ideal S256x12288 .bf16) (x1 : Vec Ideal S1x12288 .f32)
  (𝒱 : Variants) (c : Dev nD) (bd : Option 𝒱.V) (i : grid0.Coords)

/-- All the stores of the trips before `n`. -/
theorem pieces_ok (n : ℕ) :
    (∀ pc ∈ (pb_k0_t1 (F := Ideal) 𝒱 c bd i arg1 harg1 arg2 harg2 arg3 harg3 arg4 harg4 (harg1.unread x0) (harg2.unread x1) n).1,
      ∀ x : pc.1.shape.Idx, pc.2 x = lnG x0 x1 (pc.1.emb x))
    ∧ (∀ pc ∈ (pb_k0_t1 (F := Ideal) 𝒱 c bd i arg1 harg1 arg2 harg2 arg3 harg3 arg4 harg4 (harg1.unread x0) (harg2.unread x1) n).2,
      ∀ x : pc.1.shape.Idx, pc.2 x = lnS x0 x1 (pc.1.emb x)) := by
  induction n with
  | zero => exact ⟨fun _ h => absurd h List.not_mem_nil, fun _ h => absurd h List.not_mem_nil⟩
  | succ n ih =>
    by_cases hn : n < k0_t1_loop.trips
    · rw [pb_k0_t1_succ 𝒱 c bd i arg1 harg1 arg2 harg2 arg3 harg3 arg4 harg4 (harg1.unread x0) (harg2.unread x1) ⟨n, hn⟩]
      refine ⟨fun pc h => ?_, fun pc h => ?_⟩
      · rcases List.mem_append.1 h with h | h
        · exact run_codes x0 x1 𝒱 c bd i ⟨n, hn⟩ pc h
        · exact ih.1 pc h
      · rcases List.mem_append.1 h with h | h
        · exact run_scales x0 x1 𝒱 c bd i ⟨n, hn⟩ pc h
        · exact ih.2 pc h
    · rw [pb_k0_t1.eq_2]
      unfold pb_k0_t1Step
      rw [dif_neg hn]
      exact ih

/-- A block of codes after the body, -/
theorem out2_eq : out0_A_2 c i arg1 harg1 arg2 harg2 arg3 harg3 arg4 harg4 x0 x1 = lnG x0 x1 := by
  unfold out0_A_2
  rw [View.read_writes_junk_eq_canon]
  funext y
  refine View.canon_apply_of_pieces (lnG x0 x1) _ ?_ y (cover0_A_2 c i arg1 harg1 arg2 harg2 arg3 harg3 arg4 harg4 x0 x1 y)
  intro pc h
  refine (pieces_ok (harg1 := harg1) (harg2 := harg2) (harg3 := harg3) (harg4 := harg4) x0 x1 Variants.none c none i k0_t1_loop.trips).1 pc ?_
  exact h

/-- and a block of scales. -/
theorem out3_eq : out0_A_3 c i arg1 harg1 arg2 harg2 arg3 harg3 arg4 harg4 x0 x1 = lnS x0 x1 := by
  unfold out0_A_3
  rw [View.read_writes_junk_eq_canon]
  funext y
  refine View.canon_apply_of_pieces (lnS x0 x1) _ ?_ y (cover0_A_3 c i arg1 harg1 arg2 harg2 arg3 harg3 arg4 harg4 x0 x1 y)
  intro pc h
  refine (pieces_ok (harg1 := harg1) (harg2 := harg2) (harg3 := harg3) (harg4 := harg4) x0 x1 Variants.none c none i k0_t1_loop.trips).2 pc ?_
  exact h

end

/-! ## The arrays -/

variable (m : (ℓ : Loc nD τ sig) → Buf (Elt Ideal) ℓ)

/-- Each window's block index at each point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The gains as the region finds them: the argument, laid out as one row. -/
theorem V_v0 (c : Dev nD) : V m c main_v0 = shapeCast S1x12288 (m ((c : Thread nD τ).loc main_arg1)) shapeCasts_S12288_S1x12288 := by
  show StableHlo.after hostOps0 _ _ = _
  rw [StableHlo.after_cons, StableHlo.after_nil, StableHlo.reshape_result]
  rfl

/-- A block's row is the array's, -/
theorem xb_row (c : Dev nD) (t : Fin cfg0.N) (p : ℕ) (hp : p < 256) : xb (iblk m c 0 t) p = ent (V m c main_arg0) (t.val * 256 + p) := by
  obtain ⟨e0, e1, -⟩ := idx_facts t
  have ht : t.val < 42 := t.isLt
  funext q
  unfold xb ent
  rw [dif_pos hp, dif_pos (show t.val * 256 + p < 10752 by omega)]
  by_cases h : q < 12288
  · rw [dif_pos h, dif_pos h]
    refine congrArg (V m c main_arg0) (Shape.idx_ext₂ ?_ ?_)
    · show win0_0.index t (0 : Fin 2) * 256 + 1 * p = t.val * 256 + p; omega
    · show win0_0.index t (1 : Fin 2) * 12288 + 1 * q = q; omega
  · rw [dif_neg h, dif_neg h]

/-- and so are the gains. -/
theorem gb_row (c : Dev nD) (t : Fin cfg0.N) : gb (iblk m c 1 t) = ent (V m c main_v0) 0 := by
  obtain ⟨-, -, e2, e3, -⟩ := idx_facts t
  funext q
  unfold gb ent
  rw [dif_pos (show 0 < 1 by omega), dif_pos (show 0 < 1 by omega)]
  by_cases h : q < 12288
  · rw [dif_pos h, dif_pos h]
    refine congrArg (V m c main_v0) (Shape.idx_ext₂ ?_ ?_)
    · show win0_1.index t (0 : Fin 2) * 1 + 1 * 0 = 0; omega
    · show win0_1.index t (1 : Fin 2) * 12288 + 1 * q = q; omega
  · rw [dif_neg h, dif_neg h]

theorem flushed2_eq (c : Dev nD) (t : Fin cfg0.N) : (dats m 0 c).flushed 2 t = ((cfg0.win 2).blk t).view.read (Elt Ideal)
    (lnCodes (m ((c : Thread nD τ).loc main_arg0)) (m ((c : Thread nD τ).loc main_arg1))) := by
  rw [Value.flushed2_A, out2_eq]
  obtain ⟨-, -, -, -, e0, e1, -⟩ := idx_facts t
  funext j
  obtain ⟨p, q, rfl⟩ : ∃ (p : Fin 256) (q : Fin 12288), j = ix2 p q := ⟨_, _, eq_ix2 j⟩
  show lnCode (xb (iblk m c 0 t) p.val) (gb (iblk m c 1 t)) q.val
    = lnCode (ent (m ((c : Thread nD τ).loc main_arg0)) (win0_2.index t (0 : Fin 2) * 256 + 1 * p.val))
        (ent (shapeCast S1x12288 (m ((c : Thread nD τ).loc main_arg1)) shapeCasts_S12288_S1x12288) 0) (win0_2.index t (1 : Fin 2) * 12288 + 1 * q.val)
  rw [show win0_2.index t (1 : Fin 2) * 12288 + 1 * q.val = q.val by omega,
    show win0_2.index t (0 : Fin 2) * 256 + 1 * p.val = t.val * 256 + p.val by omega,
    xb_row m c t p.val p.isLt, gb_row, V_v0, V_main_arg0]

theorem flushed3_eq (c : Dev nD) (t : Fin cfg0.N) : (dats m 0 c).flushed 3 t = ((cfg0.win 3).blk t).view.read (Elt Ideal)
    (lnScales (m ((c : Thread nD τ).loc main_arg0)) (m ((c : Thread nD τ).loc main_arg1))) := by
  rw [Value.flushed3_A, out3_eq]
  obtain ⟨-, -, -, -, -, -, e0, e1⟩ := idx_facts t
  funext j
  obtain ⟨p, q, rfl⟩ : ∃ (p : Fin 256) (q : Fin 1), j = ix2 p q := ⟨_, _, eq_ix2 j⟩
  show lnScale (xb (iblk m c 0 t) p.val) (gb (iblk m c 1 t))
    = lnScale (ent (m ((c : Thread nD τ).loc main_arg0)) (win0_3.index t (0 : Fin 2) * 256 + 1 * p.val))
        (ent (shapeCast S1x12288 (m ((c : Thread nD τ).loc main_arg1)) shapeCasts_S12288_S1x12288) 0)
  rw [show win0_3.index t (0 : Fin 2) * 256 + 1 * p.val = t.val * 256 + p.val by omega,
    xb_row m c t p.val p.isLt, gb_row, V_v0, V_main_arg0]

/-- The point whose block holds a row. -/
def ptOf (r : ℕ) (h : r < 10752) : Fin cfg0.N := ⟨r / 256, by show _ < 42; omega⟩

/-- The codes after the call, -/
theorem final2 (c : Dev nD) : (dats m 0 c).arrAt 2 cfg0.N = lnCodes (m ((c : Thread nD τ).loc main_arg0)) (m ((c : Thread nD τ).loc main_arg1)) :=
  (dats m 0 c).arrAt_eq_of_cover 2 _ (fun t _ => flushed2_eq m c t) fun (i : S10752x12288.Idx) => by
    have h0 : (i 0).val < 10752 := (i 0).isLt
    have h1 : (i 1).val < 12288 := (i 1).isLt
    obtain ⟨-, -, -, -, e0, e1, -⟩ := idx_facts (ptOf _ h0)
    refine ⟨ptOf _ h0, flush0_2 _, ?_⟩
    show i ∈ ((View.whole main_v1_0).slice (win0_2.rect (ptOf _ h0))).set
    rw [View.set_slice_whole, Rect.mem_set_unit]
    have e0' : win0_2.index (ptOf _ h0) (0 : Fin 2) = (i 0).val / 256 := e0
    intro a
    match a with
    | ⟨0, _⟩ => show win0_2.index (ptOf _ h0) (0 : Fin 2) * 256 ≤ (i 0).val ∧ (i 0).val < win0_2.index (ptOf _ h0) (0 : Fin 2) * 256 + 256; omega
    | ⟨1, _⟩ => show win0_2.index (ptOf _ h0) (1 : Fin 2) * 12288 ≤ (i 1).val ∧ (i 1).val < win0_2.index (ptOf _ h0) (1 : Fin 2) * 12288 + 12288; omega

/-- and the scales. -/
theorem final3 (c : Dev nD) : (dats m 0 c).arrAt 3 cfg0.N = lnScales (m ((c : Thread nD τ).loc main_arg0)) (m ((c : Thread nD τ).loc main_arg1)) :=
  (dats m 0 c).arrAt_eq_of_cover 3 _ (fun t _ => flushed3_eq m c t) fun (i : S10752x1.Idx) => by
    have h0 : (i 0).val < 10752 := (i 0).isLt
    have h1 : (i 1).val < 1 := (i 1).isLt
    obtain ⟨-, -, -, -, -, -, e0, e1⟩ := idx_facts (ptOf _ h0)
    refine ⟨ptOf _ h0, flush0_3 _, ?_⟩
    show i ∈ ((View.whole main_v1_1).slice (win0_3.rect (ptOf _ h0))).set
    rw [View.set_slice_whole, Rect.mem_set_unit]
    have e0' : win0_3.index (ptOf _ h0) (0 : Fin 2) = (i 0).val / 256 := e0
    intro a
    match a with
    | ⟨0, _⟩ => show win0_3.index (ptOf _ h0) (0 : Fin 2) * 256 ≤ (i 0).val ∧ (i 0).val < win0_3.index (ptOf _ h0) (0 : Fin 2) * 256 + 256; omega
    | ⟨1, _⟩ => show win0_3.index (ptOf _ h0) (1 : Fin 2) * 1 ≤ (i 1).val ∧ (i 1).val < win0_3.index (ptOf _ h0) (1 : Fin 2) * 1 + 1; omega

end Cert.Proof.LnK

end
-- ==== Proof.RefNorm.lean ====
/- A whole array normalised row by row, as a reference writes it, at any extents. -/
module

public import proofs.«01_k».proof.Proof.LnChunks

@[expose] public section

noncomputable section

namespace Cert.Proof

open Idealize.ShloMosaic Idealize.ShloMosaic.ValueIdx

theorem ofBits_12288 : Ideal.ofBits .f32 0x46400000#32 = ((12288 : ℝ) : EReal) := by
  simp [Ideal.ofBits, Ideal.ieee, -EReal.coe_mul]; norm_num

variable {M N : ℕ}

/-- The means of an array's rows, the sum over the width. -/
def refMean (v : FVec Ideal ⟨2, ![M, N]⟩ .f32) (hr : (⟨2, ![M, N]⟩ : Shape).Reduces [1] ⟨1, ![M]⟩) (hs : (⟨1, ![M]⟩ : Shape).ShapeCasts ⟨2, ![M, 1]⟩) :
    FVec Ideal ⟨2, ![M, 1]⟩ .f32 :=
  divf (shapeCast ⟨2, ![M, 1]⟩ (multiReduction .add [1] ⟨1, ![M]⟩ v 0x00000000#32 hr (.inl rfl) rfl) hs)
    (broadcast ⟨2, ![M, 1]⟩ (Scalar.ofBits (F := Ideal) .f32 0x46400000#32))

theorem refMean_apply (v : FVec Ideal ⟨2, ![M, N]⟩ .f32) (hr : (⟨2, ![M, N]⟩ : Shape).Reduces [1] ⟨1, ![M]⟩)
    (hs : (⟨1, ![M]⟩ : Shape).ShapeCasts ⟨2, ![M, 1]⟩) (r : Fin M) (f : ℕ → EReal) (hv : ∀ c : Fin N, v (ix2 r c) = f c.val) :
    refMean v hr hs (ix2 r 0) = rowSum N f * invWidth := by
  have e := (shapeCast_col (multiReduction .add [1] ⟨1, ![M]⟩ v 0x00000000#32 hr (.inl rfl) rfl) hs r 0).trans (laneSum v hr _ _ r)
  have s : ∑ c : Fin N, v (ix2 r c) = rowSum N f := by
    unfold rowSum
    rw [Finset.sum_range]
    exact Finset.sum_congr rfl fun c _ => hv c
  rw [s] at e
  have d : Ideal.div (rowSum N f) ((12288 : ℝ) : EReal) = rowSum N f * invWidth := Ideal.div_coe (show (12288 : ℝ) ≠ 0 by norm_num) _
  rw [← d, ← e, ← ofBits_12288]
  rfl

/-- The rows with their means taken off. -/
def refDev (v : FVec Ideal ⟨2, ![M, N]⟩ .f32) (hr : (⟨2, ![M, N]⟩ : Shape).Reduces [1] ⟨1, ![M]⟩) (hs : (⟨1, ![M]⟩ : Shape).ShapeCasts ⟨2, ![M, 1]⟩)
    (hb : (⟨2, ![M, 1]⟩ : Shape).Broadcasts ⟨2, ![M, N]⟩) : FVec Ideal ⟨2, ![M, N]⟩ .f32 :=
  subf v (broadcastTo ⟨2, ![M, N]⟩ (refMean v hr hs) hb)

/-- The normalised array. -/
def refNorm (v : FVec Ideal ⟨2, ![M, N]⟩ .f32) (w : FVec Ideal ⟨2, ![1, N]⟩ .f32) (hr : (⟨2, ![M, N]⟩ : Shape).Reduces [1] ⟨1, ![M]⟩)
    (hs : (⟨1, ![M]⟩ : Shape).ShapeCasts ⟨2, ![M, 1]⟩) (hb : (⟨2, ![M, 1]⟩ : Shape).Broadcasts ⟨2, ![M, N]⟩)
    (hw : (⟨2, ![1, N]⟩ : Shape).Broadcasts ⟨2, ![M, N]⟩) : FVec Ideal ⟨2, ![M, N]⟩ .f32 :=
  mulf (divf (refDev v hr hs hb) (broadcastTo ⟨2, ![M, N]⟩
    (sqrt (addf (refMean (mulf (refDev v hr hs hb) (refDev v hr hs hb)) hr hs) (broadcast ⟨2, ![M, 1]⟩ (Scalar.ofBits (F := Ideal) .f32 0x3727C5AC#32)))) hb))
    (broadcastTo ⟨2, ![M, N]⟩ w hw)

theorem refDev_apply (v : FVec Ideal ⟨2, ![M, N]⟩ .f32) (hr : (⟨2, ![M, N]⟩ : Shape).Reduces [1] ⟨1, ![M]⟩)
    (hs : (⟨1, ![M]⟩ : Shape).ShapeCasts ⟨2, ![M, 1]⟩) (hb : (⟨2, ![M, 1]⟩ : Shape).Broadcasts ⟨2, ![M, N]⟩) (r : Fin M) (f : ℕ → EReal)
    (hv : ∀ c : Fin N, v (ix2 r c) = f c.val) (c : Fin N) : refDev v hr hs hb (ix2 r c) = f c.val - rowSum N f * invWidth := by
  rw [← hv c, ← (bcast_col (refMean v hr hs) hb r c).trans (refMean_apply v hr hs r f hv)]
  rfl

theorem refNorm_apply (hN : N = 12288) (v : FVec Ideal ⟨2, ![M, N]⟩ .f32) (w : FVec Ideal ⟨2, ![1, N]⟩ .f32)
    (hr : (⟨2, ![M, N]⟩ : Shape).Reduces [1] ⟨1, ![M]⟩) (hs : (⟨1, ![M]⟩ : Shape).ShapeCasts ⟨2, ![M, 1]⟩)
    (hb : (⟨2, ![M, 1]⟩ : Shape).Broadcasts ⟨2, ![M, N]⟩) (hw : (⟨2, ![1, N]⟩ : Shape).Broadcasts ⟨2, ![M, N]⟩) (r : Fin M) (f g : ℕ → EReal)
    (hv : ∀ c : Fin N, v (ix2 r c) = f c.val) (hg : ∀ c : Fin N, w (ix2 0 c) = g c.val) (c : Fin N) :
    refNorm v w hr hs hb hw (ix2 r c) = lnRow f g c.val := by
  have d := refDev_apply v hr hs hb r f hv
  have s := refMean_apply (mulf (refDev v hr hs hb) (refDev v hr hs hb)) hr hs r
    (fun c => (f c - rowSum N f * invWidth) * (f c - rowSum N f * invWidth)) (fun c => by rw [← d c]; rfl)
  unfold refNorm lnRow sd var dev mean
  rw [← hN, ← s, ← d c, ← hg c, ← bcast_row w hw r c]
  have e := bcast_col (sqrt (addf (refMean (mulf (refDev v hr hs hb) (refDev v hr hs hb)) hr hs)
    (broadcast ⟨2, ![M, 1]⟩ (Scalar.ofBits (F := Ideal) .f32 0x3727C5AC#32)))) hb r c
  have e' : Ideal.sqrt (refMean (mulf (refDev v hr hs hb) (refDev v hr hs hb)) hr hs (ix2 r 0) + Ideal.ofBits .f32 0x3727C5AC#32)
      = sqrt (addf (refMean (mulf (refDev v hr hs hb) (refDev v hr hs hb)) hr hs)
    (broadcast ⟨2, ![M, 1]⟩ (Scalar.ofBits (F := Ideal) .f32 0x3727C5AC#32))) (ix2 r 0) := rfl
  rw [e', ← e]
  rfl

end Cert.Proof

end
-- ==== Proof.LnRef.lean ====
/- What the reference of the normalising quantiser leaves in its two result arrays: the same functions of the same arrays. -/
module

public import proofs.«01_k».proof.Proof.RefNorm
public import proofs.«01_k».proof.Proof.RefRows
public import proofs.«01_k».proof.Proof.Gen.LnRefIdeal.Value

@[expose] public section

set_option maxRecDepth 16384

noncomputable section

namespace Cert.Proof.LnR

open Cert.LnRefIdeal Cert.LnRefIdeal.Gen Idealize.ShloMosaic Idealize.ShloMosaic.TcCoe Idealize.SL.Sem
open Idealize.ShloMosaic.ValueIdx Cert.Proof
open Idealize.ShloMosaic.Pipeline (Dat)

theorem pay1_eq (v0 : Vec Ideal S10752x12288 .bf16) (v2 : Vec Ideal S1x12288 .f32) :
    k0_pay1 v0 v2 = refNorm (extf .f32 v0 bitsLt_bf16_f32) v2 reduces_S10752x12288_S10752 shapeCasts_S10752_S10752x1
      broadcasts_S10752x1_S10752x12288 broadcasts_S1x12288_S10752x12288 := by
  unfold k0_pay1 refNorm refDev refMean
  rw [shapeCast_self]

/-- The normalised rows. -/
theorem pay1_apply (v0 : Vec Ideal S10752x12288 .bf16) (v2 : Vec Ideal S1x12288 .f32) (r : Fin 10752) (c : Fin 12288) :
    k0_pay1 v0 v2 (ix2 r c) = lnRow (ent v0 r.val) (ent v2 0) c.val := by
  rw [pay1_eq]
  refine refNorm_apply rfl _ _ _ _ _ _ r _ _ (fun c => ?_) (fun c => ?_) c
  · unfold ent
    rw [dif_pos r.isLt, dif_pos c.isLt]
    rfl
  · unfold ent
    rw [dif_pos (show 0 < 1 by omega), dif_pos c.isLt]
    rfl

/-- A row's scale. -/
theorem pay2_apply (v0 : Vec Ideal S10752x12288 .bf16) (v2 : Vec Ideal S1x12288 .f32) (r : Fin 10752) (q : Fin 1) :
    k0_pay2 v0 v2 (ix2 r q) = lnScale (ent v0 r.val) (ent v2 0) := by
  have h := pay1_apply v0 v2
  unfold k0_pay2 lnScale
  generalize k0_pay1 v0 v2 = y at h ⊢
  exact scale_apply y (fun r => lnRow (ent v0 r) (ent v2 0)) h _ _ _ _ r q

/-- A code. -/
theorem pay3_apply (v0 : Vec Ideal S10752x12288 .bf16) (v2 : Vec Ideal S1x12288 .f32) (r : Fin 10752) (c : Fin 12288) :
    k0_pay3 v0 v2 (ix2 r c) = lnCode (ent v0 r.val) (ent v2 0) c.val := by
  have h := pay1_apply v0 v2 r c
  have h' := pay2_apply v0 v2 r 0
  unfold k0_pay3 lnCode
  generalize k0_pay1 v0 v2 = y at h ⊢
  generalize k0_pay2 v0 v2 = s at h' ⊢
  rw [← h, ← h']
  exact code_apply y s _ _ r c

variable (m : (ℓ : Loc nD τ sig) → Buf (Elt Ideal) ℓ) (ρ : Dev nD → PrngReg)

theorem hz : (![0, 0] : Fin 2 → Nat) = fun _ => 0 := funext fun a => by fin_cases a <;> rfl

/-- The body's loads and its stores are of whole arrays. -/
theorem out2_eq (x0 : Vec Ideal S10752x12288 .bf16) (x1 : Vec Ideal S1x12288 .f32) : out0_2 x0 x1 = k0_pay3 x0 x1 := by
  unfold out0_2
  rw [View.canon_unit_zero hz, View.ld_unit_zero (S := S10752x12288) hz, View.ld_unit_zero (S := S1x12288) hz]

theorem out3_eq (x0 : Vec Ideal S10752x12288 .bf16) (x1 : Vec Ideal S1x12288 .f32) : out0_3 x0 x1 = k0_pay2 x0 x1 := by
  unfold out0_3
  rw [View.canon_unit_zero hz, View.ld_unit_zero (S := S10752x12288) hz, View.ld_unit_zero (S := S1x12288) hz]

/-- The gains as the region finds them: the argument, laid out as one row. -/
theorem V_v0 (c : Dev nD) : V m c main_v0 = shapeCast S1x12288 (m ((c : Thread nD τ).loc main_arg1)) shapeCasts_S12288_S1x12288 := by
  show StableHlo.after hostOps0 _ _ = _
  rw [StableHlo.after_cons, StableHlo.after_nil, StableHlo.reshape_result]
  rfl

/-- Each window is its whole array. -/
theorem idx_facts : ∀ (t : Fin cfg0.N) (a : Fin 2),
    win0_0.index t a = 0 ∧ win0_1.index t a = 0 ∧ win0_2.index t a = 0 ∧ win0_3.index t a = 0 :=
  (by decide +kernel : ∀ (t : Fin grid0.N) (a : Fin 2), _)

theorem iblk0 (c : Dev nD) (t : Fin cfg0.N) : iblk m c 0 t = V m c main_arg0 := by
  have e0 := (idx_facts t 0).1; have e1 := (idx_facts t 1).1
  funext j
  refine congrArg (V m c main_arg0) (Shape.idx_ext₂ ?_ ?_)
  · show win0_0.index t (0 : Fin 2) * 10752 + 1 * (j 0).val = (j 0).val; omega
  · show win0_0.index t (1 : Fin 2) * 12288 + 1 * (j 1).val = (j 1).val; omega

theorem iblk1 (c : Dev nD) (t : Fin cfg0.N) : iblk m c 1 t = V m c main_v0 := by
  have e0 := (idx_facts t 0).2.1; have e1 := (idx_facts t 1).2.1
  funext j
  refine congrArg (V m c main_v0) (Shape.idx_ext₂ ?_ ?_)
  · show win0_1.index t (0 : Fin 2) * 1 + 1 * (j 0).val = (j 0).val; omega
  · show win0_1.index t (1 : Fin 2) * 12288 + 1 * (j 1).val = (j 1).val; omega

theorem emb2 (t : Fin cfg0.N) (j : S10752x12288.Idx) : ((cfg0.win 2).blk t).view.emb j = j := by
  have e0 := (idx_facts t 0).2.2.1; have e1 := (idx_facts t 1).2.2.1
  refine Shape.idx_ext₂ ?_ ?_
  · show win0_2.index t (0 : Fin 2) * 10752 + 1 * (j 0).val = (j 0).val; omega
  · show win0_2.index t (1 : Fin 2) * 12288 + 1 * (j 1).val = (j 1).val; omega

theorem emb3 (t : Fin cfg0.N) (j : S10752x1.Idx) : ((cfg0.win 3).blk t).view.emb j = j := by
  have e0 := (idx_facts t 0).2.2.2; have e1 := (idx_facts t 1).2.2.2
  refine Shape.idx_ext₂ ?_ ?_
  · show win0_3.index t (0 : Fin 2) * 10752 + 1 * (j 0).val = (j 0).val; omega
  · show win0_3.index t (1 : Fin 2) * 1 + 1 * (j 1).val = (j 1).val; omega

theorem pay3_eq (x : Vec Ideal S10752x12288 .bf16) (g : Vec Ideal S12288 .f32) :
    k0_pay3 x (shapeCast S1x12288 g shapeCasts_S12288_S1x12288) = lnCodes x g :=
  funext fun j => (congrArg _ (eq_ix2 j)).trans (pay3_apply x _ (j 0) (j 1))

theorem pay2_eq (x : Vec Ideal S10752x12288 .bf16) (g : Vec Ideal S12288 .f32) :
    k0_pay2 x (shapeCast S1x12288 g shapeCasts_S12288_S1x12288) = lnScales x g :=
  funext fun j => (congrArg _ (eq_ix2 j)).trans (pay2_apply x _ (j 0) (j 1))

/-- The two results after the run, of the arguments as launched. -/
theorem final2 (c : Dev nD) : (dats m 0 c).arrAt 2 cfg0.N = lnCodes (m ((c : Thread nD τ).loc main_arg0)) (m ((c : Thread nD τ).loc main_arg1)) := by
  refine (dats m 0 c).arrAt_eq_of_cover 2 _ (fun t _ => ?_) fun i =>
    ⟨⟨0, by decide⟩, flush0_2 _, by
      have h := ((cfg0.win 2).blk ⟨0, by decide⟩).view.emb_mem_set i; rwa [emb2] at h⟩
  rw [Value.flushed2, out2_eq, iblk0, iblk1, V_v0, V_main_arg0, pay3_eq]
  funext j
  show _ = lnCodes _ _ (((cfg0.win 2).blk t).view.emb j)
  rw [emb2]

theorem final3 (c : Dev nD) : (dats m 0 c).arrAt 3 cfg0.N = lnScales (m ((c : Thread nD τ).loc main_arg0)) (m ((c : Thread nD τ).loc main_arg1)) := by
  refine (dats m 0 c).arrAt_eq_of_cover 3 _ (fun t _ => ?_) fun i =>
    ⟨⟨0, by decide⟩, flush0_3 _, by
      have h := ((cfg0.win 3).blk ⟨0, by decide⟩).view.emb_mem_set i; rwa [emb3] at h⟩
  rw [Value.flushed3, out3_eq, iblk0, iblk1, V_v0, V_main_arg0, pay2_eq]
  funext j
  show _ = lnScales _ _ (((cfg0.win 3).blk t).view.emb j)
  rw [emb3]

end Cert.Proof.LnR

end
-- ==== Proof.LnClaim.lean ====
/- The normalising quantiser and its reference leave equal codes and scales. -/
module

public import proofs.«01_k».proof.Proof.LnValue
public import proofs.«01_k».proof.Proof.LnRef
public import proofs.«01_k».proof.Defs

@[expose] public section

noncomputable section

namespace Cert.Proof

open Idealize.ShloMosaic Idealize.ShloMosaic.TcCoe Idealize.SL.Sem

/-- Equal arguments give equal results. -/
theorem ln_algebraic :
    algebraic_LnIdeal_LnRefIdeal (hLnIdeal := Cert.LnIdeal.Gen.facts) (hLnRefIdeal := Cert.LnRefIdeal.Gen.facts) := by
  intro m g m' g' _ hm
  refine ⟨fun c => lnCodes (m ((c : Thread Cert.LnIdeal.nD Cert.LnIdeal.τ).loc Cert.LnIdeal.main_arg0)) (m ((c : Thread Cert.LnIdeal.nD Cert.LnIdeal.τ).loc Cert.LnIdeal.main_arg1)),
    fun c => lnScales (m ((c : Thread Cert.LnIdeal.nD Cert.LnIdeal.τ).loc Cert.LnIdeal.main_arg0)) (m ((c : Thread Cert.LnIdeal.nD Cert.LnIdeal.τ).loc Cert.LnIdeal.main_arg1)),
    (θ_run _ _ _).mono (fun r h c => ?_) (Cert.LnIdeal.Value.run_blocks m g),
    (θ_run _ _ _).mono (fun r h c => ?_) (Cert.LnRefIdeal.Value.run_blocks m' g')⟩
  · obtain ⟨h0, h1, h⟩ := h c
    exact ⟨h0.trans (LnK.final2 m c), h1.trans (LnK.final3 m c), h⟩
  · obtain ⟨h0, h1, h⟩ := h c
    obtain ⟨a0, a1⟩ := hm c
    exact ⟨h0.trans ((LnR.final2 m' c).trans (congr (congrArg lnCodes a0) a1)),
      h1.trans ((LnR.final3 m' c).trans (congr (congrArg lnScales a0) a1)), h⟩

end Cert.Proof

end
-- ==== Proof.QkvSkel.lean ====
/- The body of the projecting kernel, as its loads and stores over the values they carry. -/
module

public import proofs.«01_k».proof.Proof.Gen.QkvIdeal.Frame

@[expose] public section

set_option synthInstance.maxSize 4096

noncomputable section

namespace Cert.QkvIdeal.Hand

open Cert.QkvIdeal.Gen Idealize.ShloMosaic Idealize.SL.Sem

variable {F : FTy → Type} [FloatOps F]

/-- A value the body reads or stores, of the ones before it. -/
noncomputable def k0_pay1 (v0 : Vec F S768x12288 .fp8e4m3) (v1 : Vec F S12288x512 .fp8e4m3) (v3 : Vec F S768x1 .f32) (v6 : Vec F S1x512 .f32) : FVec F S768x512 .f32 :=
  have cst : FVec F S768x512 .f32 := constant S768x512 .f32 0x00000000#32
  have v2 : FVec F S768x512 .f32 := matmul dot_S768x12288_S12288x512_S768x512_1_0_0_1_n_n none v0 v1 cst
  have v4 : FVec F S768x512 .f32 := broadcastTo S768x512 v3 broadcasts_S768x1_S768x512
  have v5 : FVec F S768x512 .f32 := mulf v2 v4
  have v7 : FVec F S1x512 .f32 := shapeCast S1x512 v6 shapeCasts_S1x512_S1x512
  have v8 : FVec F S768x512 .f32 := broadcastTo S768x512 v7 broadcasts_S1x512_S768x512
  have v9 : FVec F S768x512 .f32 := mulf v5 v8
  v9

/-- A value the body reads or stores, of the ones before it. -/
noncomputable def k0_pay2 (v10 : Vec F S768x128 .f32) : FVec F S768x128 .f32 :=
  have v11 : FVec F S768x128 .f32 := shapeCast S768x128 v10 shapeCasts_S768x128_S768x128
  v11

/-- A value the body reads or stores, of the ones before it. -/
noncomputable def k0_pay3 (v12 : Vec F S768x128 .f32) : FVec F S768x128 .f32 :=
  have v13 : FVec F S768x128 .f32 := shapeCast S768x128 v12 shapeCasts_S768x128_S768x128
  v13

/-- A value the body reads or stores, of the ones before it. -/
noncomputable def k0_pay4 (v0 : Vec F S768x12288 .fp8e4m3) (v1 : Vec F S12288x512 .fp8e4m3) (v3 : Vec F S768x1 .f32) (v6 : Vec F S1x512 .f32) (v10 : Vec F S768x128 .f32) (v12 : Vec F S768x128 .f32) : FVec F S768x128 .bf16 :=
  have v104 : FVec F S768x128 .f32 := extractStridedSlice S768x128 ![0, 384] (k0_pay1 v0 v1 v3 v6) slices_S768x512_o0_384_S768x128
  have v105 : FVec F S768x128 .f32 := mulf v104 (k0_pay2 v10)
  have v106 : IVec S768x128 32 := iota .tc S768x128 32 [1] iota_S768x128_d1_w32
  let v107 : BitVec 1 := Scalar.cmpi .eq 2#32 0#32
  let v108 : BitVec 32 := Scalar.select v107 1#32 2#32
  have v109 : IVec S768x128 32 := broadcast S768x128 v108
  have v110 : IVec S768x128 32 := remsi v106 v109
  have v111 : IVec S768x128 32 := broadcast S768x128 0#32
  have v112 : IVec S768x128 1 := cmpi .ne v110 v111
  have v113 : IVec S768x128 32 := broadcast S768x128 0#32
  have v114 : IVec S768x128 1 := cmpi .slt v110 v113
  let v115 : BitVec 1 := Scalar.cmpi .slt v108 0#32
  have v116 : IVec S768x128 1 := broadcast S768x128 v115
  have v117 : IVec S768x128 1 := broadcastTo S768x128 v116 broadcasts_S768x128_S768x128
  have v118 : IVec S768x128 1 := xori v114 v117
  have v119 : IVec S768x128 1 := andi v118 v112
  have v120 : IVec S768x128 32 := broadcast S768x128 v108
  have v121 : IVec S768x128 32 := addi v110 v120
  have v122 : IVec S768x128 32 := select v119 v121 v110
  have v123 : IVec S768x128 32 := broadcast S768x128 0#32
  have v124 : IVec S768x128 1 := cmpi .eq v122 v123
  have v125 : FVec F S768x128 .f32 := dynamicRotate 1 127#32 none v104 rotates_S768x128_d1
  have v126 : FVec F S768x128 .f32 := dynamicRotate 1 1#32 none v104 rotates_S768x128_d1
  have v127 : FVec F S768x128 .f32 := select v124 v125 v126
  have v128 : FVec F S768x128 .f32 := mulf v127 (k0_pay3 v12)
  have v129 : FVec F S768x128 .f32 := addf v105 v128
  have v130 : FVec F S768x128 .bf16 := truncf .bf16 v129 bitsLt_bf16_f32
  v130

/-- A value the body reads or stores, of the ones before it. -/
noncomputable def k0_pay5 (v100 : FVec F S768x128 .f32) (v102 : FVec F S768x128 .f32) : FVec F S768x128 .fp8e4m3 :=
  have v103 : FVec F S768x128 .f32 := divf v100 v102
  have cst_42 : F .f32 := Scalar.ofBits .f32 0xC3E00000#32
  have cst_43 : F .f32 := Scalar.ofBits .f32 0x43E00000#32
  have v104 : FVec F S768x128 .f32 := broadcast S768x128 cst_42
  have v105 : FVec F S768x128 .f32 := maximumf v104 v103
  have v106 : FVec F S768x128 .f32 := broadcast S768x128 cst_43
  have v107 : FVec F S768x128 .f32 := minimumf v106 v105
  have v108 : FVec F S768x128 .fp8e4m3 := truncf .fp8e4m3 v107 bitsLt_fp8e4m3_f32
  v108

/-- A value the body reads or stores, of the ones before it. -/
noncomputable def k0_pay6 (v9 : FVec F S768x512 .f32) (v11 : FVec F S768x128 .f32) (v13 : FVec F S768x128 .f32) : FVec F S768x128 .bf16 :=
  have v20 : FVec F S768x128 .f32 := extractStridedSlice S768x128 ![0, 0] v9 slices_S768x512_o0_0_S768x128
  have v21 : FVec F S768x128 .f32 := mulf v20 v11
  have v22 : IVec S768x128 32 := iota .tc S768x128 32 [1] iota_S768x128_d1_w32
  let v23 : BitVec 1 := Scalar.cmpi .eq 2#32 0#32
  let v24 : BitVec 32 := Scalar.select v23 1#32 2#32
  have v25 : IVec S768x128 32 := broadcast S768x128 v24
  have v26 : IVec S768x128 32 := remsi v22 v25
  have v27 : IVec S768x128 32 := broadcast S768x128 0#32
  have v28 : IVec S768x128 1 := cmpi .ne v26 v27
  have v29 : IVec S768x128 32 := broadcast S768x128 0#32
  have v30 : IVec S768x128 1 := cmpi .slt v26 v29
  let v31 : BitVec 1 := Scalar.cmpi .slt v24 0#32
  have v32 : IVec S768x128 1 := broadcast S768x128 v31
  have v33 : IVec S768x128 1 := broadcastTo S768x128 v32 broadcasts_S768x128_S768x128
  have v34 : IVec S768x128 1 := xori v30 v33
  have v35 : IVec S768x128 1 := andi v34 v28
  have v36 : IVec S768x128 32 := broadcast S768x128 v24
  have v37 : IVec S768x128 32 := addi v26 v36
  have v38 : IVec S768x128 32 := select v35 v37 v26
  have v39 : IVec S768x128 32 := broadcast S768x128 0#32
  have v40 : IVec S768x128 1 := cmpi .eq v38 v39
  have v41 : FVec F S768x128 .f32 := dynamicRotate 1 127#32 none v20 rotates_S768x128_d1
  have v42 : FVec F S768x128 .f32 := dynamicRotate 1 1#32 none v20 rotates_S768x128_d1
  have v43 : FVec F S768x128 .f32 := select v40 v41 v42
  have v44 : FVec F S768x128 .f32 := mulf v43 v13
  have v45 : FVec F S768x128 .f32 := addf v21 v44
  have v46 : FVec F S768x128 .bf16 := truncf .bf16 v45 bitsLt_bf16_f32
  v46

/-- `%48 = vector.extract_strided_slice %9 offsets = [0, 128], sizes = [768, 128], strides = [1, 1]
   : vector<768x512xf32> to vector<768x128xf32>` of `k0_part1`, from the values read before it. Read
   by the loop's rebinding, condition or exit; `k0_pay8`. -/
noncomputable def k0_pay7 (v9 : FVec F S768x512 .f32) : FVec F S768x128 .f32 :=
  have v48 : FVec F S768x128 .f32 := extractStridedSlice S768x128 ![0, 128] v9 slices_S768x512_o0_128_S768x128
  v48

/-- A value the body reads or stores, of the ones before it. -/
noncomputable def k0_pay8 (v9 : FVec F S768x512 .f32) (v11 : FVec F S768x128 .f32) : FVec F S768x128 .f32 :=
  have v49 : FVec F S768x128 .f32 := mulf (k0_pay7 v9) v11
  v49

/-- A value the body reads or stores, of the ones before it. -/
noncomputable def k0_pay9 : IVec S768x128 32 :=
  have v50 : IVec S768x128 32 := iota .tc S768x128 32 [1] iota_S768x128_d1_w32
  let v51 : BitVec 1 := Scalar.cmpi .eq 2#32 0#32
  let v52 : BitVec 32 := Scalar.select v51 1#32 2#32
  have v53 : IVec S768x128 32 := broadcast S768x128 v52
  have v54 : IVec S768x128 32 := remsi v50 v53
  v54

/-- A value the body reads or stores, of the ones before it. -/
noncomputable def k0_pay10 : IVec S768x128 1 :=
  have v55 : IVec S768x128 32 := broadcast S768x128 0#32
  have v56 : IVec S768x128 1 := cmpi .ne k0_pay9 v55
  v56

/-- A value the body reads or stores, of the ones before it. -/
noncomputable def k0_pay11 : IVec S768x128 1 :=
  have v57 : IVec S768x128 32 := broadcast S768x128 0#32
  have v58 : IVec S768x128 1 := cmpi .slt k0_pay9 v57
  v58

/-- A value the body reads or stores, of the ones before it. -/
noncomputable def k0_pay12 : IVec S768x128 1 :=
  let v51 : BitVec 1 := Scalar.cmpi .eq 2#32 0#32
  let v52 : BitVec 32 := Scalar.select v51 1#32 2#32
  let v59 : BitVec 1 := Scalar.cmpi .slt v52 0#32
  have v60 : IVec S768x128 1 := broadcast S768x128 v59
  have v61 : IVec S768x128 1 := broadcastTo S768x128 v60 broadcasts_S768x128_S768x128
  v61

/-- A value the body reads or stores, of the ones before it. -/
noncomputable def k0_pay13 (v13 : FVec F S768x128 .f32) (v48 : FVec F S768x128 .f32) (v49 : FVec F S768x128 .f32) (v52 : BitVec 32) (v54 : IVec S768x128 32) (v56 : IVec S768x128 1) (v58 : IVec S768x128 1) (v61 : IVec S768x128 1) : FVec F S768x128 .bf16 :=
  have v62 : IVec S768x128 1 := xori v58 v61
  have v63 : IVec S768x128 1 := andi v62 v56
  have v64 : IVec S768x128 32 := broadcast S768x128 v52
  have v65 : IVec S768x128 32 := addi v54 v64
  have v66 : IVec S768x128 32 := select v63 v65 v54
  have v67 : IVec S768x128 32 := broadcast S768x128 0#32
  have v68 : IVec S768x128 1 := cmpi .eq v66 v67
  have v69 : FVec F S768x128 .f32 := dynamicRotate 1 127#32 none v48 rotates_S768x128_d1
  have v70 : FVec F S768x128 .f32 := dynamicRotate 1 1#32 none v48 rotates_S768x128_d1
  have v71 : FVec F S768x128 .f32 := select v68 v69 v70
  have v72 : FVec F S768x128 .f32 := mulf v71 v13
  have v73 : FVec F S768x128 .f32 := addf v49 v72
  have v74 : FVec F S768x128 .bf16 := truncf .bf16 v73 bitsLt_bf16_f32
  v74

/-- A value the body reads or stores, of the ones before it. -/
noncomputable def k0_pay14 (v9 : FVec F S768x512 .f32) (v11 : FVec F S768x128 .f32) (v13 : FVec F S768x128 .f32) : FVec F S768x128 .bf16 :=
  have v76 : FVec F S768x128 .f32 := extractStridedSlice S768x128 ![0, 256] v9 slices_S768x512_o0_256_S768x128
  have v77 : FVec F S768x128 .f32 := mulf v76 v11
  have v78 : IVec S768x128 32 := iota .tc S768x128 32 [1] iota_S768x128_d1_w32
  let v79 : BitVec 1 := Scalar.cmpi .eq 2#32 0#32
  let v80 : BitVec 32 := Scalar.select v79 1#32 2#32
  have v81 : IVec S768x128 32 := broadcast S768x128 v80
  have v82 : IVec S768x128 32 := remsi v78 v81
  have v83 : IVec S768x128 32 := broadcast S768x128 0#32
  have v84 : IVec S768x128 1 := cmpi .ne v82 v83
  have v85 : IVec S768x128 32 := broadcast S768x128 0#32
  have v86 : IVec S768x128 1 := cmpi .slt v82 v85
  let v87 : BitVec 1 := Scalar.cmpi .slt v80 0#32
  have v88 : IVec S768x128 1 := broadcast S768x128 v87
  have v89 : IVec S768x128 1 := broadcastTo S768x128 v88 broadcasts_S768x128_S768x128
  have v90 : IVec S768x128 1 := xori v86 v89
  have v91 : IVec S768x128 1 := andi v90 v84
  have v92 : IVec S768x128 32 := broadcast S768x128 v80
  have v93 : IVec S768x128 32 := addi v82 v92
  have v94 : IVec S768x128 32 := select v91 v93 v82
  have v95 : IVec S768x128 32 := broadcast S768x128 0#32
  have v96 : IVec S768x128 1 := cmpi .eq v94 v95
  have v97 : FVec F S768x128 .f32 := dynamicRotate 1 127#32 none v76 rotates_S768x128_d1
  have v98 : FVec F S768x128 .f32 := dynamicRotate 1 1#32 none v76 rotates_S768x128_d1
  have v99 : FVec F S768x128 .f32 := select v96 v97 v98
  have v100 : FVec F S768x128 .f32 := mulf v99 v13
  have v101 : FVec F S768x128 .f32 := addf v77 v100
  have v102 : FVec F S768x128 .bf16 := truncf .bf16 v101 bitsLt_bf16_f32
  v102

/-- A value the body reads or stores, of the ones before it. -/
noncomputable def k0_pay15 (v9 : FVec F S768x512 .f32) (v11 : FVec F S768x128 .f32) (v13 : FVec F S768x128 .f32) (v46 : Elt F .f32) : FVec F S768x128 .fp8e4m3 :=
  have v20 : FVec F S768x128 .f32 := extractStridedSlice S768x128 ![0, 0] v9 slices_S768x512_o0_0_S768x128
  have v21 : FVec F S768x128 .f32 := mulf v20 v11
  have v22 : IVec S768x128 32 := iota .tc S768x128 32 [1] iota_S768x128_d1_w32
  let v23 : BitVec 1 := Scalar.cmpi .eq 2#32 0#32
  let v24 : BitVec 32 := Scalar.select v23 1#32 2#32
  have v25 : IVec S768x128 32 := broadcast S768x128 v24
  have v26 : IVec S768x128 32 := remsi v22 v25
  have v27 : IVec S768x128 32 := broadcast S768x128 0#32
  have v28 : IVec S768x128 1 := cmpi .ne v26 v27
  have v29 : IVec S768x128 32 := broadcast S768x128 0#32
  have v30 : IVec S768x128 1 := cmpi .slt v26 v29
  let v31 : BitVec 1 := Scalar.cmpi .slt v24 0#32
  have v32 : IVec S768x128 1 := broadcast S768x128 v31
  have v33 : IVec S768x128 1 := broadcastTo S768x128 v32 broadcasts_S768x128_S768x128
  have v34 : IVec S768x128 1 := xori v30 v33
  have v35 : IVec S768x128 1 := andi v34 v28
  have v36 : IVec S768x128 32 := broadcast S768x128 v24
  have v37 : IVec S768x128 32 := addi v26 v36
  have v38 : IVec S768x128 32 := select v35 v37 v26
  have v39 : IVec S768x128 32 := broadcast S768x128 0#32
  have v40 : IVec S768x128 1 := cmpi .eq v38 v39
  have v41 : FVec F S768x128 .f32 := dynamicRotate 1 127#32 none v20 rotates_S768x128_d1
  have v42 : FVec F S768x128 .f32 := dynamicRotate 1 1#32 none v20 rotates_S768x128_d1
  have v43 : FVec F S768x128 .f32 := select v40 v41 v42
  have v44 : FVec F S768x128 .f32 := mulf v43 v13
  have v45 : FVec F S768x128 .f32 := addf v21 v44
  have v47 : FVec F S768x128 .f32 := broadcast S768x128 v46
  have v48 : FVec F S768x128 .f32 := divf v45 v47
  have cst_20 : F .f32 := Scalar.ofBits .f32 0xC3E00000#32
  have cst_21 : F .f32 := Scalar.ofBits .f32 0x43E00000#32
  have v49 : FVec F S768x128 .f32 := broadcast S768x128 cst_20
  have v50 : FVec F S768x128 .f32 := maximumf v49 v48
  have v51 : FVec F S768x128 .f32 := broadcast S768x128 cst_21
  have v52 : FVec F S768x128 .f32 := minimumf v51 v50
  have v53 : FVec F S768x128 .fp8e4m3 := truncf .fp8e4m3 v52 bitsLt_fp8e4m3_f32
  v53

/-- A value the body reads or stores, of the ones before it. -/
noncomputable def k0_pay16 (v9 : FVec F S768x512 .f32) (v56 : Elt F .f32) : FVec F S768x128 .f32 :=
  have v55 : FVec F S768x128 .f32 := extractStridedSlice S768x128 ![0, 256] v9 slices_S768x512_o0_256_S768x128
  have v57 : FVec F S768x128 .f32 := broadcast S768x128 v56
  have v58 : FVec F S768x128 .f32 := divf v55 v57
  have cst_25 : F .f32 := Scalar.ofBits .f32 0xC3E00000#32
  have v59 : FVec F S768x128 .f32 := broadcast S768x128 cst_25
  have v60 : FVec F S768x128 .f32 := maximumf v59 v58
  v60

/-- A value the body reads or stores, of the ones before it. -/
noncomputable def k0_pay17 : FVec F S768x128 .f32 :=
  have cst_26 : F .f32 := Scalar.ofBits .f32 0x43E00000#32
  have v61 : FVec F S768x128 .f32 := broadcast S768x128 cst_26
  v61

/-- A value the body reads or stores, of the ones before it. -/
noncomputable def k0_pay18 (v60 : FVec F S768x128 .f32) (v61 : FVec F S768x128 .f32) : FVec F S768x128 .fp8e4m3 :=
  have v62 : FVec F S768x128 .f32 := minimumf v61 v60
  have v63 : FVec F S768x128 .fp8e4m3 := truncf .fp8e4m3 v62 bitsLt_fp8e4m3_f32
  v63

/-- A value the body reads or stores, of the ones before it. -/
noncomputable def k0_pay19 (v9 : FVec F S768x512 .f32) (v11 : FVec F S768x128 .f32) (v13 : FVec F S768x128 .f32) (v91 : Elt F .f32) : FVec F S768x128 .fp8e4m3 :=
  have v65 : FVec F S768x128 .f32 := extractStridedSlice S768x128 ![0, 128] v9 slices_S768x512_o0_128_S768x128
  have v66 : FVec F S768x128 .f32 := mulf v65 v11
  have v67 : IVec S768x128 32 := iota .tc S768x128 32 [1] iota_S768x128_d1_w32
  let v68 : BitVec 1 := Scalar.cmpi .eq 2#32 0#32
  let v69 : BitVec 32 := Scalar.select v68 1#32 2#32
  have v70 : IVec S768x128 32 := broadcast S768x128 v69
  have v71 : IVec S768x128 32 := remsi v67 v70
  have v72 : IVec S768x128 32 := broadcast S768x128 0#32
  have v73 : IVec S768x128 1 := cmpi .ne v71 v72
  have v74 : IVec S768x128 32 := broadcast S768x128 0#32
  have v75 : IVec S768x128 1 := cmpi .slt v71 v74
  let v76 : BitVec 1 := Scalar.cmpi .slt v69 0#32
  have v77 : IVec S768x128 1 := broadcast S768x128 v76
  have v78 : IVec S768x128 1 := broadcastTo S768x128 v77 broadcasts_S768x128_S768x128
  have v79 : IVec S768x128 1 := xori v75 v78
  have v80 : IVec S768x128 1 := andi v79 v73
  have v81 : IVec S768x128 32 := broadcast S768x128 v69
  have v82 : IVec S768x128 32 := addi v71 v81
  have v83 : IVec S768x128 32 := select v80 v82 v71
  have v84 : IVec S768x128 32 := broadcast S768x128 0#32
  have v85 : IVec S768x128 1 := cmpi .eq v83 v84
  have v86 : FVec F S768x128 .f32 := dynamicRotate 1 127#32 none v65 rotates_S768x128_d1
  have v87 : FVec F S768x128 .f32 := dynamicRotate 1 1#32 none v65 rotates_S768x128_d1
  have v88 : FVec F S768x128 .f32 := select v85 v86 v87
  have v89 : FVec F S768x128 .f32 := mulf v88 v13
  have v90 : FVec F S768x128 .f32 := addf v66 v89
  have v92 : FVec F S768x128 .f32 := broadcast S768x128 v91
  have v93 : FVec F S768x128 .f32 := divf v90 v92
  have cst_38 : F .f32 := Scalar.ofBits .f32 0xC3E00000#32
  have cst_39 : F .f32 := Scalar.ofBits .f32 0x43E00000#32
  have v94 : FVec F S768x128 .f32 := broadcast S768x128 cst_38
  have v95 : FVec F S768x128 .f32 := maximumf v94 v93
  have v96 : FVec F S768x128 .f32 := broadcast S768x128 cst_39
  have v97 : FVec F S768x128 .f32 := minimumf v96 v95
  have v98 : FVec F S768x128 .fp8e4m3 := truncf .fp8e4m3 v97 bitsLt_fp8e4m3_f32
  v98

/-- `%100 = vector.extract_strided_slice %9 offsets = [0, 384], sizes = [768, 128], strides = [1, 1]
   : vector<768x512xf32> to vector<768x128xf32>` of `k0_part4`, from the values read before it. Read
   by the loop's rebinding, condition or exit. -/
noncomputable def k0_pay20 (v9 : FVec F S768x512 .f32) : FVec F S768x128 .f32 :=
  have v100 : FVec F S768x128 .f32 := extractStridedSlice S768x128 ![0, 384] v9 slices_S768x512_o0_384_S768x128
  v100

/-- A value the body reads or stores, of the ones before it. -/
noncomputable def k0_pay21 (v101 : Elt F .f32) : FVec F S768x128 .f32 :=
  have v102 : FVec F S768x128 .f32 := broadcast S768x128 v101
  v102

/-- `cc0_qkv_proj` as a skeleton of memory operations over payloads. -/
noncomputable def cc0_qkv_proj_skel (i : grid0.Coords) (arg2 : Memref sig .tc .vmem S768x12288 .fp8e4m3) (harg2 : arg2.IsWhole) (arg3 : Memref sig .tc .vmem S12288x512 .fp8e4m3) (harg3 : arg3.IsWhole) (arg4 : Memref sig .tc .vmem S768x1 .f32) (harg4 : arg4.IsWhole) (arg5 : Memref sig .tc .vmem S1x512 .f32) (harg5 : arg5.IsWhole) (arg6 : Memref sig .tc .vmem S768x128 .f32) (harg6 : arg6.IsWhole) (arg7 : Memref sig .tc .vmem S768x128 .f32) (harg7 : arg7.IsWhole) (arg8 : Memref sig .tc .smem S2 .f32) (harg8 : arg8.IsWhole) (arg9 : Memref sig .tc .smem S2 .f32) (harg9 : arg9.IsWhole) (arg10 : Memref sig .tc .vmem S768x512 .bf16) (harg10 : arg10.IsWhole) (arg11 : Memref sig .tc .vmem S768x256 .fp8e4m3) (harg11 : arg11.IsWhole) (arg12 : Memref sig .tc .vmem S768x256 .fp8e4m3) (harg12 : arg12.IsWhole) :
    Prog (TpuEff nD τ sig (Elt F) Λ₀ .tc) PUnit := do

  let v0 : Vec F S768x12288 .fp8e4m3 ← Prog.lift (.load arg2 (Rect.unit (s := S768x12288) ![0, 0] S768x12288.size inb_S768x12288_S768x12288_0_0).toLoadRect (View.loadsAt_vmem h_S768x12288))
  let v1 : Vec F S12288x512 .fp8e4m3 ← Prog.lift (.load arg3 (Rect.unit (s := S12288x512) ![0, 0] S12288x512.size inb_S12288x512_S12288x512_0_0).toLoadRect (View.loadsAt_vmem h_S12288x512))
  let v3 : Vec F S768x1 .f32 ← Prog.lift (.load arg4 (Rect.unit (s := S768x1) ![0, 0] S768x1.size inb_S768x1_S768x1_0_0).toLoadRect (View.loadsAt_vmem h_S768x1))
  let v6 : Vec F S1x512 .f32 ← Prog.lift (.load arg5 (Rect.unit (s := S1x512) ![0, 0] S1x512.size inb_S1x512_S1x512_0_0).toLoadRect (View.loadsAt_vmem h_S1x512))
  let v10 : Vec F S768x128 .f32 ← Prog.lift (.load arg6 (Rect.unit (s := S768x128) ![0, 0] S768x128.size inb_S768x128_S768x128_0_0).toLoadRect (View.loadsAt_vmem h_S768x128))
  let v12 : Vec F S768x128 .f32 ← Prog.lift (.load arg7 (Rect.unit (s := S768x128) ![0, 0] S768x128.size inb_S768x128_S768x128_0_0).toLoadRect (View.loadsAt_vmem h_S768x128))

  if k0_h1 : k0_cond1 i = 1#1 then do
    let ⟨v48, v49, v52, v54, v56, v58, v61⟩ : Σ' (v48 : FVec F S768x128 .f32) (v49 : FVec F S768x128 .f32) (v52 : BitVec 32) (v54 : IVec S768x128 32) (v56 : IVec S768x128 1) (v58 : IVec S768x128 1), IVec S768x128 1 ← k0_part1 i arg2 harg2 arg3 harg3 arg4 harg4 arg5 harg5 arg6 harg6 arg7 harg7 arg8 harg8 arg9 harg9 arg10 harg10 arg11 harg11 arg12 harg12 (k0_pay1 v0 v1 v3 v6) (k0_pay2 v10) (k0_pay3 v12) -- statements 1–60 of 161: their part
    k0_part2 i arg2 harg2 arg3 harg3 arg4 harg4 arg5 harg5 arg6 harg6 arg7 harg7 arg8 harg8 arg9 harg9 arg10 harg10 arg11 harg11 arg12 harg12 (k0_pay1 v0 v1 v3 v6) (k0_pay2 v10) (k0_pay3 v12) v48 v49 v52 v54 v56 v58 v61 -- statements 61–120 of 161: their part
    let v131 : Vec F S768x128 .bf16 ← Prog.lift (.load arg10 (Rect.unit (s := S768x512) ![0, 384] S768x128.size inb_S768x512_S768x128_0_384).toLoadRect (View.loadsAt_vmem h_S768x128))
    Prog.lift (.store arg10 (Rect.unit (s := S768x512) ![0, 384] S768x128.size inb_S768x512_S768x128_0_384) (k0_pay4 v0 v1 v3 v6 v10 v12) Finset.univ (View.stores_vmem h_S768x128 (harg10.storeExact_slice rfl _ packedbf16_S768x512_S768x128_0_384) (fun _ => rfl)) (.inl rfl))
    pure ⟨⟩
  else do                                                               -- } else {
    pure ⟨⟩

  if k0_h2 : k0_cond2 i = 1#1 then do
    let ⟨v60, v61⟩ : Σ' (v60 : FVec F S768x128 .f32), FVec F S768x128 .f32 ← k0_part3 i arg2 harg2 arg3 harg3 arg4 harg4 arg5 harg5 arg6 harg6 arg7 harg7 arg8 harg8 arg9 harg9 arg10 harg10 arg11 harg11 arg12 harg12 (k0_pay1 v0 v1 v3 v6) (k0_pay2 v10) (k0_pay3 v12) -- statements 1–60 of 133: their part
    let ⟨v100, v102⟩ : Σ' (v100 : FVec F S768x128 .f32), FVec F S768x128 .f32 ← k0_part4 i arg2 harg2 arg3 harg3 arg4 harg4 arg5 harg5 arg6 harg6 arg7 harg7 arg8 harg8 arg9 harg9 arg10 harg10 arg11 harg11 arg12 harg12 (k0_pay1 v0 v1 v3 v6) (k0_pay2 v10) (k0_pay3 v12) v60 v61 -- statements 61–120 of 133: their part
    let v109 : Vec F S768x128 .fp8e4m3 ← Prog.lift (.load arg12 (Rect.unit (s := S768x256) ![0, 128] S768x128.size inb_S768x256_S768x128_0_128).toLoadRect (View.loadsAt_vmem h_S768x128))
    Prog.lift (.store arg12 (Rect.unit (s := S768x256) ![0, 128] S768x128.size inb_S768x256_S768x128_0_128) (k0_pay5 v100 v102) Finset.univ (View.stores_vmem h_S768x128 (harg12.storeExact_slice rfl _ packedfp8e4m3_S768x256_S768x128_0_128) (fun _ => rfl)) (.inl rfl))
    pure ⟨⟩
  else do                                                               -- } else {
    pure ⟨⟩
  pure ⟨⟩                                                               -- func.return

set_option maxRecDepth 65536 in
/-- The printed `cc0_qkv_proj` is its skeleton: by definitional unfolding. -/
theorem cc0_qkv_proj_eq_skeleton : cc0_qkv_proj (F := F) = cc0_qkv_proj_skel (F := F) := rfl

/-- `k0_part1` as a skeleton of memory operations over payloads. -/
noncomputable def k0_part1_skel (i : grid0.Coords) (arg2 : Memref sig .tc .vmem S768x12288 .fp8e4m3) (harg2 : arg2.IsWhole) (arg3 : Memref sig .tc .vmem S12288x512 .fp8e4m3) (harg3 : arg3.IsWhole) (arg4 : Memref sig .tc .vmem S768x1 .f32) (harg4 : arg4.IsWhole) (arg5 : Memref sig .tc .vmem S1x512 .f32) (harg5 : arg5.IsWhole) (arg6 : Memref sig .tc .vmem S768x128 .f32) (harg6 : arg6.IsWhole) (arg7 : Memref sig .tc .vmem S768x128 .f32) (harg7 : arg7.IsWhole) (arg8 : Memref sig .tc .smem S2 .f32) (harg8 : arg8.IsWhole) (arg9 : Memref sig .tc .smem S2 .f32) (harg9 : arg9.IsWhole) (arg10 : Memref sig .tc .vmem S768x512 .bf16) (harg10 : arg10.IsWhole) (arg11 : Memref sig .tc .vmem S768x256 .fp8e4m3) (harg11 : arg11.IsWhole) (arg12 : Memref sig .tc .vmem S768x256 .fp8e4m3) (harg12 : arg12.IsWhole) (v9 : FVec F S768x512 .f32) (v11 : FVec F S768x128 .f32) (v13 : FVec F S768x128 .f32) :
    Prog (TpuEff nD τ sig (Elt F) Λ₀ .tc) (Σ' (v48 : FVec F S768x128 .f32) (v49 : FVec F S768x128 .f32) (v52 : BitVec 32) (v54 : IVec S768x128 32) (v56 : IVec S768x128 1) (v58 : IVec S768x128 1), IVec S768x128 1) := do
  let v47 : Vec F S768x128 .bf16 ← Prog.lift (.load arg10 (Rect.unit (s := S768x512) ![0, 0] S768x128.size inb_S768x512_S768x128_0_0).toLoadRect (View.loadsAt_vmem h_S768x128))
  Prog.lift (.store arg10 (Rect.unit (s := S768x512) ![0, 0] S768x128.size inb_S768x512_S768x128_0_0) (k0_pay6 v9 v11 v13) Finset.univ (View.stores_vmem h_S768x128 (harg10.storeExact_slice rfl _ packedbf16_S768x512_S768x128_0_0) (fun _ => rfl)) (.inl rfl))
  let v51 : BitVec 1 := Scalar.cmpi .eq 2#32 0#32
  let v52 : BitVec 32 := Scalar.select v51 1#32 2#32
  pure ⟨k0_pay7 v9, k0_pay8 v9 v11, v52, k0_pay9, k0_pay10, k0_pay11, k0_pay12⟩

set_option maxRecDepth 65536 in
/-- The printed `k0_part1` is its skeleton: by definitional unfolding. -/
theorem k0_part1_eq_skeleton : k0_part1 (F := F) = k0_part1_skel (F := F) := rfl

/-- `k0_part2` as a skeleton of memory operations over payloads. -/
noncomputable def k0_part2_skel (i : grid0.Coords) (arg2 : Memref sig .tc .vmem S768x12288 .fp8e4m3) (harg2 : arg2.IsWhole) (arg3 : Memref sig .tc .vmem S12288x512 .fp8e4m3) (harg3 : arg3.IsWhole) (arg4 : Memref sig .tc .vmem S768x1 .f32) (harg4 : arg4.IsWhole) (arg5 : Memref sig .tc .vmem S1x512 .f32) (harg5 : arg5.IsWhole) (arg6 : Memref sig .tc .vmem S768x128 .f32) (harg6 : arg6.IsWhole) (arg7 : Memref sig .tc .vmem S768x128 .f32) (harg7 : arg7.IsWhole) (arg8 : Memref sig .tc .smem S2 .f32) (harg8 : arg8.IsWhole) (arg9 : Memref sig .tc .smem S2 .f32) (harg9 : arg9.IsWhole) (arg10 : Memref sig .tc .vmem S768x512 .bf16) (harg10 : arg10.IsWhole) (arg11 : Memref sig .tc .vmem S768x256 .fp8e4m3) (harg11 : arg11.IsWhole) (arg12 : Memref sig .tc .vmem S768x256 .fp8e4m3) (harg12 : arg12.IsWhole) (v9 : FVec F S768x512 .f32) (v11 : FVec F S768x128 .f32) (v13 : FVec F S768x128 .f32) (v48 : FVec F S768x128 .f32) (v49 : FVec F S768x128 .f32) (v52 : BitVec 32) (v54 : IVec S768x128 32) (v56 : IVec S768x128 1) (v58 : IVec S768x128 1) (v61 : IVec S768x128 1) :
    Prog (TpuEff nD τ sig (Elt F) Λ₀ .tc) (PUnit) := do
  let v75 : Vec F S768x128 .bf16 ← Prog.lift (.load arg10 (Rect.unit (s := S768x512) ![0, 128] S768x128.size inb_S768x512_S768x128_0_128).toLoadRect (View.loadsAt_vmem h_S768x128))
  Prog.lift (.store arg10 (Rect.unit (s := S768x512) ![0, 128] S768x128.size inb_S768x512_S768x128_0_128) (k0_pay13 v13 v48 v49 v52 v54 v56 v58 v61) Finset.univ (View.stores_vmem h_S768x128 (harg10.storeExact_slice rfl _ packedbf16_S768x512_S768x128_0_128) (fun _ => rfl)) (.inl rfl))
  let v103 : Vec F S768x128 .bf16 ← Prog.lift (.load arg10 (Rect.unit (s := S768x512) ![0, 256] S768x128.size inb_S768x512_S768x128_0_256).toLoadRect (View.loadsAt_vmem h_S768x128))
  Prog.lift (.store arg10 (Rect.unit (s := S768x512) ![0, 256] S768x128.size inb_S768x512_S768x128_0_256) (k0_pay14 v9 v11 v13) Finset.univ (View.stores_vmem h_S768x128 (harg10.storeExact_slice rfl _ packedbf16_S768x512_S768x128_0_256) (fun _ => rfl)) (.inl rfl))
  pure ⟨⟩

set_option maxRecDepth 65536 in
/-- The printed `k0_part2` is its skeleton: by definitional unfolding. -/
theorem k0_part2_eq_skeleton : k0_part2 (F := F) = k0_part2_skel (F := F) := rfl

/-- `k0_part3` as a skeleton of memory operations over payloads. -/
noncomputable def k0_part3_skel (i : grid0.Coords) (arg2 : Memref sig .tc .vmem S768x12288 .fp8e4m3) (harg2 : arg2.IsWhole) (arg3 : Memref sig .tc .vmem S12288x512 .fp8e4m3) (harg3 : arg3.IsWhole) (arg4 : Memref sig .tc .vmem S768x1 .f32) (harg4 : arg4.IsWhole) (arg5 : Memref sig .tc .vmem S1x512 .f32) (harg5 : arg5.IsWhole) (arg6 : Memref sig .tc .vmem S768x128 .f32) (harg6 : arg6.IsWhole) (arg7 : Memref sig .tc .vmem S768x128 .f32) (harg7 : arg7.IsWhole) (arg8 : Memref sig .tc .smem S2 .f32) (harg8 : arg8.IsWhole) (arg9 : Memref sig .tc .smem S2 .f32) (harg9 : arg9.IsWhole) (arg10 : Memref sig .tc .vmem S768x512 .bf16) (harg10 : arg10.IsWhole) (arg11 : Memref sig .tc .vmem S768x256 .fp8e4m3) (harg11 : arg11.IsWhole) (arg12 : Memref sig .tc .vmem S768x256 .fp8e4m3) (harg12 : arg12.IsWhole) (v9 : FVec F S768x512 .f32) (v11 : FVec F S768x128 .f32) (v13 : FVec F S768x128 .f32) :
    Prog (TpuEff nD τ sig (Elt F) Λ₀ .tc) (Σ' (v60 : FVec F S768x128 .f32), FVec F S768x128 .f32) := do
  let v46 : Elt F .f32 ← smemLoad arg8 (Rect.unit (s := S2) ![0] S1.size inb_S2_S1_0) numel1_S1 rfl
  let v54 : Vec F S768x128 .fp8e4m3 ← Prog.lift (.load arg11 (Rect.unit (s := S768x256) ![0, 0] S768x128.size inb_S768x256_S768x128_0_0).toLoadRect (View.loadsAt_vmem h_S768x128))
  Prog.lift (.store arg11 (Rect.unit (s := S768x256) ![0, 0] S768x128.size inb_S768x256_S768x128_0_0) (k0_pay15 v9 v11 v13 v46) Finset.univ (View.stores_vmem h_S768x128 (harg11.storeExact_slice rfl _ packedfp8e4m3_S768x256_S768x128_0_0) (fun _ => rfl)) (.inl rfl))
  let v56 : Elt F .f32 ← smemLoad arg9 (Rect.unit (s := S2) ![0] S1.size inb_S2_S1_0) numel1_S1 rfl
  pure ⟨k0_pay16 v9 v56, k0_pay17 (F := F)⟩

set_option maxRecDepth 65536 in
/-- The printed `k0_part3` is its skeleton: by definitional unfolding. -/
theorem k0_part3_eq_skeleton : k0_part3 (F := F) = k0_part3_skel (F := F) := rfl

/-- `k0_part4` as a skeleton of memory operations over payloads. -/
noncomputable def k0_part4_skel (i : grid0.Coords) (arg2 : Memref sig .tc .vmem S768x12288 .fp8e4m3) (harg2 : arg2.IsWhole) (arg3 : Memref sig .tc .vmem S12288x512 .fp8e4m3) (harg3 : arg3.IsWhole) (arg4 : Memref sig .tc .vmem S768x1 .f32) (harg4 : arg4.IsWhole) (arg5 : Memref sig .tc .vmem S1x512 .f32) (harg5 : arg5.IsWhole) (arg6 : Memref sig .tc .vmem S768x128 .f32) (harg6 : arg6.IsWhole) (arg7 : Memref sig .tc .vmem S768x128 .f32) (harg7 : arg7.IsWhole) (arg8 : Memref sig .tc .smem S2 .f32) (harg8 : arg8.IsWhole) (arg9 : Memref sig .tc .smem S2 .f32) (harg9 : arg9.IsWhole) (arg10 : Memref sig .tc .vmem S768x512 .bf16) (harg10 : arg10.IsWhole) (arg11 : Memref sig .tc .vmem S768x256 .fp8e4m3) (harg11 : arg11.IsWhole) (arg12 : Memref sig .tc .vmem S768x256 .fp8e4m3) (harg12 : arg12.IsWhole) (v9 : FVec F S768x512 .f32) (v11 : FVec F S768x128 .f32) (v13 : FVec F S768x128 .f32) (v60 : FVec F S768x128 .f32) (v61 : FVec F S768x128 .f32) :
    Prog (TpuEff nD τ sig (Elt F) Λ₀ .tc) (Σ' (v100 : FVec F S768x128 .f32), FVec F S768x128 .f32) := do
  let v64 : Vec F S768x128 .fp8e4m3 ← Prog.lift (.load arg12 (Rect.unit (s := S768x256) ![0, 0] S768x128.size inb_S768x256_S768x128_0_0).toLoadRect (View.loadsAt_vmem h_S768x128))
  Prog.lift (.store arg12 (Rect.unit (s := S768x256) ![0, 0] S768x128.size inb_S768x256_S768x128_0_0) (k0_pay18 v60 v61) Finset.univ (View.stores_vmem h_S768x128 (harg12.storeExact_slice rfl _ packedfp8e4m3_S768x256_S768x128_0_0) (fun _ => rfl)) (.inl rfl))
  let v91 : Elt F .f32 ← smemLoad arg8 (Rect.unit (s := S2) ![1] S1.size inb_S2_S1_1) numel1_S1 rfl
  let v99 : Vec F S768x128 .fp8e4m3 ← Prog.lift (.load arg11 (Rect.unit (s := S768x256) ![0, 128] S768x128.size inb_S768x256_S768x128_0_128).toLoadRect (View.loadsAt_vmem h_S768x128))
  Prog.lift (.store arg11 (Rect.unit (s := S768x256) ![0, 128] S768x128.size inb_S768x256_S768x128_0_128) (k0_pay19 v9 v11 v13 v91) Finset.univ (View.stores_vmem h_S768x128 (harg11.storeExact_slice rfl _ packedfp8e4m3_S768x256_S768x128_0_128) (fun _ => rfl)) (.inl rfl))
  let v101 : Elt F .f32 ← smemLoad arg9 (Rect.unit (s := S2) ![1] S1.size inb_S2_S1_1) numel1_S1 rfl
  pure ⟨k0_pay20 v9, k0_pay21 v101⟩

set_option maxRecDepth 65536 in
/-- The printed `k0_part4` is its skeleton: by definitional unfolding. -/
theorem k0_part4_eq_skeleton : k0_part4 (F := F) = k0_part4_skel (F := F) := rfl

end Cert.QkvIdeal.Hand

end
-- ==== Proof.QkvRun.lean ====
/- The runs of the projecting body in its two cases: what its stores leave. -/
module

public import proofs.«01_k».proof.Proof.QkvSkel

@[expose] public section

set_option maxRecDepth 16384

noncomputable section

namespace Cert.QkvIdeal.Hand

open Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points whose coordinates have i1 ≤ 5 — decided over the grid. -/
theorem hcond0_0 : ∀ t : Fin cfg0.N, cond0_0 (grid0.coords t) ↔ t.val % 7 ≤ 5 :=
  (by decide +kernel : ∀ t : Fin grid0.N, cond0_0 (grid0.coords t) ↔ t.val % 7 ≤ 5)

/-- The condition of the body's `scf.if` 1 (`k0_h2`), from the grid coordinates (the skeleton's scalar
    chain substituted). -/
abbrev cond0_1 (i : grid0.Coords) : Prop := k0_cond2 i = 1#1
/-- It holds at the points ≡ 6 (mod 7) — by arithmetic of the point. -/
theorem hcond0_1 : ∀ t : Fin cfg0.N, cond0_1 (grid0.coords t) ↔ t.val % 7 = 6 :=
  (fun t => by
    have ht : t.val < 98 := Nat.lt_of_lt_of_eq t.isLt N_0
    have e0 : (grid0.coords t 0).val = t.val / 7 % 14 := Pipeline.Grid.coords_val t 0 (by decide) rfl
    have e1 : (grid0.coords t 1).val = t.val / 1 % 7 := Pipeline.Grid.coords_val t 1 (by decide) rfl
    simp only [cond0_1, k0_cond2, e0, e1]
    word_cmp
   : ∀ t : Fin grid0.N, cond0_1 (grid0.coords t) ↔ t.val % 7 = 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S768x12288 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12288x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S2 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S2 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S768x256 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S768x256 .fp8e4m3 := win0_10.stage (cfg0.slots t 10)
abbrev hs0_10 (t : Fin cfg0.N) : (ms0_10 t).IsWhole := hstage0_10 ((cfg0.slots t 10).cast nbuf0_10)

set_option maxHeartbeats 2000000 in
/-- The body's triple at a point of the queries: the pieces its stores leave in window 8's memref, with the proof that
    it runs, the inputs as they were and windows 9 and 10 at some contents. -/
noncomputable def kernelRunA (c : Dev nD) (i : grid0.Coords) (arg2 : Memref sig .tc .vmem S768x12288 .fp8e4m3) (harg2 : arg2.IsWhole) (arg3 : Memref sig .tc .vmem S12288x512 .fp8e4m3) (harg3 : arg3.IsWhole) (arg4 : Memref sig .tc .vmem S768x1 .f32) (harg4 : arg4.IsWhole) (arg5 : Memref sig .tc .vmem S1x512 .f32) (harg5 : arg5.IsWhole) (arg6 : Memref sig .tc .vmem S768x128 .f32) (harg6 : arg6.IsWhole) (arg7 : Memref sig .tc .vmem S768x128 .f32) (harg7 : arg7.IsWhole) (arg8 : Memref sig .tc .smem S2 .f32) (harg8 : arg8.IsWhole) (arg9 : Memref sig .tc .smem S2 .f32) (harg9 : arg9.IsWhole) (arg10 : Memref sig .tc .vmem S768x512 .bf16) (harg10 : arg10.IsWhole) (arg11 : Memref sig .tc .vmem S768x256 .fp8e4m3) (harg11 : arg11.IsWhole) (arg12 : Memref sig .tc .vmem S768x256 .fp8e4m3) (harg12 : arg12.IsWhole) (hc0 : cond0_0 i) (hc1 : ¬cond0_1 i)
    (x0 : Vec F S768x12288 .fp8e4m3) (x1 : Vec F S12288x512 .fp8e4m3) (x2 : Vec F S768x1 .f32) (x3 : Vec F S1x512 .f32) (x4 : Vec F S768x128 .f32) (x5 : Vec F S768x128 .f32) (x6 : Vec F S2 .f32) (x7 : Vec F S2 .f32) :
    { L8 : List (View.Piece (Elt F) S768x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ d, owns (c : Thread nD τ) arg11 fullShare d) ∗ (∃ d, owns (c : Thread nD τ) arg12 fullShare d)) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_qkv_proj_eq_skeleton]; unfold cc0_qkv_proj_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _, _; isplitr; swap; · iexact H9
      ipureintro; rfl
    iexists _, _; isplitr; swap; · iexact H10
    ipureintro; rfl

set_option maxHeartbeats 2000000 in
/-- The body's triple at a point of the keys and values: the pieces its stores leave in the memrefs of windows 9 and 10,
    with the proof that it runs, the inputs and window 8 as they were. -/
noncomputable def kernelRunB (c : Dev nD) (i : grid0.Coords) (arg2 : Memref sig .tc .vmem S768x12288 .fp8e4m3) (harg2 : arg2.IsWhole) (arg3 : Memref sig .tc .vmem S12288x512 .fp8e4m3) (harg3 : arg3.IsWhole) (arg4 : Memref sig .tc .vmem S768x1 .f32) (harg4 : arg4.IsWhole) (arg5 : Memref sig .tc .vmem S1x512 .f32) (harg5 : arg5.IsWhole) (arg6 : Memref sig .tc .vmem S768x128 .f32) (harg6 : arg6.IsWhole) (arg7 : Memref sig .tc .vmem S768x128 .f32) (harg7 : arg7.IsWhole) (arg8 : Memref sig .tc .smem S2 .f32) (harg8 : arg8.IsWhole) (arg9 : Memref sig .tc .smem S2 .f32) (harg9 : arg9.IsWhole) (arg10 : Memref sig .tc .vmem S768x512 .bf16) (harg10 : arg10.IsWhole) (arg11 : Memref sig .tc .vmem S768x256 .fp8e4m3) (harg11 : arg11.IsWhole) (arg12 : Memref sig .tc .vmem S768x256 .fp8e4m3) (harg12 : arg12.IsWhole) (hc0 : ¬cond0_0 i) (hc1 : cond0_1 i)
    (x0 : Vec F S768x12288 .fp8e4m3) (x1 : Vec F S12288x512 .fp8e4m3) (x2 : Vec F S768x1 .f32) (x3 : Vec F S1x512 .f32) (x4 : Vec F S768x128 .f32) (x5 : Vec F S768x128 .f32) (x6 : Vec F S2 .f32) (x7 : Vec F S2 .f32) :
    Σ' (L9 : List (View.Piece (Elt F) S768x256 .fp8e4m3)), { L10 : List (View.Piece (Elt F) S768x256 .fp8e4m3) //
      ∀ (x8 : Vec F S768x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12) K } := by
  refine ⟨?_, ?_, fun x8 E K => ?run⟩
  case run =>
    simp only [cc0_qkv_proj_eq_skeleton]; unfold cc0_qkv_proj_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact hf8
      iexact H8
    isplitl [H9]; · iexists _; iexact H9
    iexists _; iexact H10

end Cert.QkvIdeal.Hand

end
-- ==== Proof.QkvDat.lean ====
/- The queries, keys and values' kernel: what each window holds after each point, and the run of the whole program. -/
module

public import proofs.«01_k».proof.Proof.QkvRun
public import Idealize.ShloMosaic.Lib.Pipeline.DatRel

@[expose] public section

set_option maxRecDepth 16384

noncomputable section

namespace Cert.QkvIdeal.Hand

open Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two cases leave -/

theorem coverQ (c : Dev nD) (i : grid0.Coords) (arg2 : Memref sig .tc .vmem S768x12288 .fp8e4m3) (harg2 : arg2.IsWhole) (arg3 : Memref sig .tc .vmem S12288x512 .fp8e4m3) (harg3 : arg3.IsWhole) (arg4 : Memref sig .tc .vmem S768x1 .f32) (harg4 : arg4.IsWhole) (arg5 : Memref sig .tc .vmem S1x512 .f32) (harg5 : arg5.IsWhole) (arg6 : Memref sig .tc .vmem S768x128 .f32) (harg6 : arg6.IsWhole) (arg7 : Memref sig .tc .vmem S768x128 .f32) (harg7 : arg7.IsWhole) (arg8 : Memref sig .tc .smem S2 .f32) (harg8 : arg8.IsWhole) (arg9 : Memref sig .tc .smem S2 .f32) (harg9 : arg9.IsWhole) (arg10 : Memref sig .tc .vmem S768x512 .bf16) (harg10 : arg10.IsWhole) (arg11 : Memref sig .tc .vmem S768x256 .fp8e4m3) (harg11 : arg11.IsWhole) (arg12 : Memref sig .tc .vmem S768x256 .fp8e4m3) (harg12 : arg12.IsWhole) (hc0 : cond0_0 i) (hc1 : ¬cond0_1 i)
    (x0 : Vec F S768x12288 .fp8e4m3) (x1 : Vec F S12288x512 .fp8e4m3) (x2 : Vec F S768x1 .f32) (x3 : Vec F S1x512 .f32) (x4 : Vec F S768x128 .f32) (x5 : Vec F S768x128 .f32) (x6 : Vec F S2 .f32) (x7 : Vec F S2 .f32) (y : S768x512.Idx) :
    ∃ pc ∈ (kernelRunA c i arg2 harg2 arg3 harg3 arg4 harg4 arg5 harg5 arg6 harg6 arg7 harg7 arg8 harg8 arg9 harg9 arg10 harg10 arg11 harg11 arg12 harg12 hc0 hc1 x0 x1 x2 x3 x4 x5 x6 x7).1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc0 hc1 x0 x1 x2 x3 x4 x5 x6 x7).1 S768x128.size (by sl_kernel_rfl) y

theorem coverK (c : Dev nD) (i : grid0.Coords) (arg2 : Memref sig .tc .vmem S768x12288 .fp8e4m3) (harg2 : arg2.IsWhole) (arg3 : Memref sig .tc .vmem S12288x512 .fp8e4m3) (harg3 : arg3.IsWhole) (arg4 : Memref sig .tc .vmem S768x1 .f32) (harg4 : arg4.IsWhole) (arg5 : Memref sig .tc .vmem S1x512 .f32) (harg5 : arg5.IsWhole) (arg6 : Memref sig .tc .vmem S768x128 .f32) (harg6 : arg6.IsWhole) (arg7 : Memref sig .tc .vmem S768x128 .f32) (harg7 : arg7.IsWhole) (arg8 : Memref sig .tc .smem S2 .f32) (harg8 : arg8.IsWhole) (arg9 : Memref sig .tc .smem S2 .f32) (harg9 : arg9.IsWhole) (arg10 : Memref sig .tc .vmem S768x512 .bf16) (harg10 : arg10.IsWhole) (arg11 : Memref sig .tc .vmem S768x256 .fp8e4m3) (harg11 : arg11.IsWhole) (arg12 : Memref sig .tc .vmem S768x256 .fp8e4m3) (harg12 : arg12.IsWhole) (hc0 : ¬cond0_0 i) (hc1 : cond0_1 i)
    (x0 : Vec F S768x12288 .fp8e4m3) (x1 : Vec F S12288x512 .fp8e4m3) (x2 : Vec F S768x1 .f32) (x3 : Vec F S1x512 .f32) (x4 : Vec F S768x128 .f32) (x5 : Vec F S768x128 .f32) (x6 : Vec F S2 .f32) (x7 : Vec F S2 .f32) (y : S768x256.Idx) :
    ∃ pc ∈ (kernelRunB c i arg2 harg2 arg3 harg3 arg4 harg4 arg5 harg5 arg6 harg6 arg7 harg7 arg8 harg8 arg9 harg9 arg10 harg10 arg11 harg11 arg12 harg12 hc0 hc1 x0 x1 x2 x3 x4 x5 x6 x7).1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc0 hc1 x0 x1 x2 x3 x4 x5 x6 x7).1 S768x128.size (by sl_kernel_rfl) y

theorem coverV (c : Dev nD) (i : grid0.Coords) (arg2 : Memref sig .tc .vmem S768x12288 .fp8e4m3) (harg2 : arg2.IsWhole) (arg3 : Memref sig .tc .vmem S12288x512 .fp8e4m3) (harg3 : arg3.IsWhole) (arg4 : Memref sig .tc .vmem S768x1 .f32) (harg4 : arg4.IsWhole) (arg5 : Memref sig .tc .vmem S1x512 .f32) (harg5 : arg5.IsWhole) (arg6 : Memref sig .tc .vmem S768x128 .f32) (harg6 : arg6.IsWhole) (arg7 : Memref sig .tc .vmem S768x128 .f32) (harg7 : arg7.IsWhole) (arg8 : Memref sig .tc .smem S2 .f32) (harg8 : arg8.IsWhole) (arg9 : Memref sig .tc .smem S2 .f32) (harg9 : arg9.IsWhole) (arg10 : Memref sig .tc .vmem S768x512 .bf16) (harg10 : arg10.IsWhole) (arg11 : Memref sig .tc .vmem S768x256 .fp8e4m3) (harg11 : arg11.IsWhole) (arg12 : Memref sig .tc .vmem S768x256 .fp8e4m3) (harg12 : arg12.IsWhole) (hc0 : ¬cond0_0 i) (hc1 : cond0_1 i)
    (x0 : Vec F S768x12288 .fp8e4m3) (x1 : Vec F S12288x512 .fp8e4m3) (x2 : Vec F S768x1 .f32) (x3 : Vec F S1x512 .f32) (x4 : Vec F S768x128 .f32) (x5 : Vec F S768x128 .f32) (x6 : Vec F S2 .f32) (x7 : Vec F S2 .f32) (y : S768x256.Idx) :
    ∃ pc ∈ (kernelRunB c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1 S768x128.size (by sl_kernel_rfl) y

theorem caseA (t : Fin cfg0.N) (h : t.val % 7 ≤ 5) : ¬cond0_1 (grid0.coords t) := fun h' => by
  have := (hcond0_1 t).mp h'; omega
theorem caseB (t : Fin cfg0.N) (h : t.val % 7 = 6) : ¬cond0_0 (grid0.coords t) := fun h' => by
  have := (hcond0_0 t).mp h'; omega

/-- The block of queries a point leaves in window 8, -/
def outQ (c : Dev nD) (t : Fin cfg0.N) (h : t.val % 7 ≤ 5) : Vec F S768x512 .bf16 :=
  View.canon (kernelRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (caseA t h) (iblk m c 0 t) (iblk m c 1 t) (iblk m c 2 t) (iblk m c 3 t) (iblk m c 4 t) (iblk m c 5 t) (iblk m c 6 t) (iblk m c 7 t)).1
/-- the block of key codes a point leaves in window 9, -/
def outK (c : Dev nD) (t : Fin cfg0.N) (h : t.val % 7 = 6) : Vec F S768x256 .fp8e4m3 :=
  View.canon (kernelRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (caseB t h) ((hcond0_1 t).mpr h) (iblk m c 0 t) (iblk m c 1 t) (iblk m c 2 t) (iblk m c 3 t) (iblk m c 4 t) (iblk m c 5 t) (iblk m c 6 t) (iblk m c 7 t)).1
/-- and the block of value codes in window 10. -/
def outV (c : Dev nD) (t : Fin cfg0.N) (h : t.val % 7 = 6) : Vec F S768x256 .fp8e4m3 :=
  View.canon (kernelRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (caseB t h) ((hcond0_1 t).mpr h) (iblk m c 0 t) (iblk m c 1 t) (iblk m c 2 t) (iblk m c 3 t) (iblk m c 4 t) (iblk m c 5 t) (iblk m c 6 t) (iblk m c 7 t)).2.1

/-- The point before. -/
abbrev prev (t : Fin cfg0.N) : Fin cfg0.N := ⟨t.val - 1, Nat.lt_of_le_of_lt (Nat.sub_le _ _) t.isLt⟩

/-! ## The proof data -/

/-- The windows held to a predicate: the three outputs. -/
def held : Fin 11 → Bool := fun w => w.val == 8 || w.val == 9 || w.val == 10

/-- What the body leaves in them: the queries of the point, or at a point of keys and values those of the point before
    (which it leaves alone); there also the codes of the keys and the values. -/
def leaves (c : Dev nD) (w : Fin cfg0.W) (t : Fin cfg0.N) (X : (cfg0.win w).block.Idx → Elt F (cfg0.win w).elt) : Prop :=
  match w, X with
    | ⟨8, _⟩, X => (∀ h, X = outQ m c t h) ∧ (t.val % 7 = 6 → ∀ h, X = outQ m c (prev t) h)
    | ⟨9, _⟩, X => ∀ h, X = outK m c t h
    | ⟨10, _⟩, X => ∀ h, X = outV m c t h
    | _, _ => True

/-- The proof data of the pipeline: after the body each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The same with the outputs held to `leaves`. -/
abbrev rdat (c : Dev nD) : Pipeline.RDat τ (Elt F) Unit ℕ (UR sig nD τ) ℕ cfg0 c := (dats m 0 c).toRRel held (leaves m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The queries' window is written back at the points but those of the last queries. -/
theorem flush8 : ∀ t : Fin cfg0.N, (cfg0.win 8).flush t = true ↔ t.val % 7 ≠ 5 :=
  (by decide +kernel : ∀ t : Fin grid0.N, win0_8.flush t = true ↔ t.val % 7 ≠ 5)

/-- What a point of keys and values finds in the queries' window: the queries of the point before. -/
theorem finds8 (c : Dev nD) (t : Fin cfg0.N) (h : t.val % 7 = 6) (Y) (hY : (rdat m c).Finds 8 t Y) (h') : Y = outQ m c (prev t) h' := by
  have hf := ((rdat m c).finds_of_pos (w := 8) (t := t) rfl (by omega) Y).mp hY
  rcases hf with hf | hf
  · have := (flush8 (prev t)).mp hf
    exact absurd (show (t.val - 1) % 7 = 5 by omega) this
  · exact ((dats m 0 c).toRRel_leaves (w := 8) rfl hf).1 h'

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜((dats m 0 c).toRRel held (leaves m c)).Finds 8 t Y⌝ ∗ owns (c : Thread nD τ) (ms0_8 t) fullShare Y)
    ∗ (∃ Y, ⌜((dats m 0 c).toRRel held (leaves m c)).Finds 9 t Y⌝ ∗ owns (c : Thread nD τ) (ms0_9 t) fullShare Y)
    ∗ (∃ Y, ⌜((dats m 0 c).toRRel held (leaves m c)).Finds 10 t Y⌝ ∗ owns (c : Thread nD τ) (ms0_10 t) fullShare Y))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ X, ⌜leaves m c 8 t X⌝ ∗ owns (c : Thread nD τ) (ms0_8 t) fullShare X)
    ∗ (∃ X, ⌜leaves m c 9 t X⌝ ∗ owns (c : Thread nD τ) (ms0_9 t) fullShare X)
    ∗ (∃ X, ⌜leaves m c 10 t X⌝ ∗ owns (c : Thread nD τ) (ms0_10 t) fullShare X))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, %hd8, H8⟩, ⟨%d9, -, H9⟩, ⟨%d10, -, H10⟩⟩
  by_cases h0 : t.val % 7 ≤ 5
  · iapply ((kernelRunA c (grid0.coords t) _ _ _ _ _ _ _ _ _ _ _ _ _ _ _ _ _ _ _ _ _ _ ((hcond0_0 t).mpr h0) (caseA t h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists (outQ m c t h0)
      isplitr
      · ipureintro; exact ⟨fun _ => rfl, fun h => absurd h (by omega)⟩
      · unfold owns; iexists _; isplitr
        swap; · iexact H8
        ipureintro
        exact View.read_writes_eq_canon _ _ _ (coverQ c _ _ _ _ _ _ _ _ _ _ _ _ _ _ _ _ _ _ _ _ _ _ _ _ _ _ _ _ _ _ _ _ _)
    isplitl [H9]
    · iexists e9; isplitr
      · ipureintro; exact fun h => absurd h (by omega)
      · iexact H9
    iexists e10; isplitr
    · ipureintro; exact fun h => absurd h (by omega)
    · iexact H10
  · have h1 : t.val % 7 = 6 := by omega
    iapply ((kernelRunB c (grid0.coords t) _ _ _ _ _ _ _ _ _ _ _ _ _ _ _ _ _ _ _ _ _ _ (caseB t h1) ((hcond0_1 t).mpr h1) (iblk m c 0 t) (iblk m c 1 t) (iblk m c 2 t) (iblk m c 3 t) (iblk m c 4 t) (iblk m c 5 t) (iblk m c 6 t) (iblk m c 7 t)).2.2 d8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists d8; isplitr
      · ipureintro; exact ⟨fun h => absurd h h0, fun _ h => finds8 m c t h1 d8 hd8 h⟩
      · iexact H8
    isplitl [H9]
    · iexists (outK m c t h1)
      isplitr
      · ipureintro; exact fun _ => rfl
      · unfold owns; iexists _; isplitr
        swap; · iexact H9
        ipureintro
        exact View.read_writes_eq_canon _ _ _ (coverK c _ _ _ _ _ _ _ _ _ _ _ _ _ _ _ _ _ _ _ _ _ _ _ _ _ _ _ _ _ _ _ _ _)
    iexists (outV m c t h1)
    isplitr
    · ipureintro; exact fun _ => rfl
    · unfold owns; iexists _; isplitr
      swap; · iexact H10
      ipureintro
      exact View.read_writes_eq_canon _ _ _ (coverV c _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ held (leaves m c) := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ)
    (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- Every run of the program ends with the arrays at what the proof data allow. -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (Pipeline.RDat.FramePost.arr_in h.1 c 6 rfl).trans ((A_eq m c 6).trans (V_main_arg6 m c)),
      (Pipeline.RDat.FramePost.arr_in h.1 c 7 rfl).trans ((A_eq m c 7).trans (V_main_arg7 m c))⟩, h.2⟩) (run_main_quiescent m ρ)

end Cert.QkvIdeal.Hand

end
-- ==== Proof.Rotary.lean ====
/- The rotary turn over the extended reals. A row's columns are turned in pairs within heads of 128: with the pair's
   cosine `C` and sine `S`, an even column becomes `f c · C − f (c+1) · S` and the odd one after it
   `f (c−1) · S + f c · C`. Two ways to write it are read here: lanes turned by one place either way and chosen by
   parity, the sines' signs alternating; and the pairs split on an axis of their own and put together again. -/
module

public import proofs.«01_k».proof.Proof.Project
public import Idealize.ShloMosaic.Lib.KernelVsHost

@[expose] public section

noncomputable section

namespace Cert.Proof

open Idealize.ShloMosaic Idealize.ShloMosaic.ValueIdx

/-- A row of columns after the turn. -/
def rotAt (f C S : ℕ → EReal) (c : ℕ) : EReal :=
  if c % 2 = 0 then f c * C (c % 128 / 2) - f (c + 1) * S (c % 128 / 2) else f (c - 1) * S (c % 128 / 2) + f c * C (c % 128 / 2)

/-! ## By lanes -/

theorem spin_apply {M : ℕ} (mask : IVec ⟨2, ![M, 128]⟩ 1)
    (hm : ∀ (r : Fin M) (j : Fin 128), mask (ix2 r j) = if j.val % 2 = 0 then 1#1 else 0#1)
    (f cs sn : FVec Ideal ⟨2, ![M, 128]⟩ .f32) (h : (⟨2, ![M, 128]⟩ : Shape).Rotates 1 none) (r : Fin M) (g C S : ℕ → EReal) (o : ℕ)
    (ho : o % 128 = 0) (hf : ∀ j : Fin 128, f (ix2 r j) = g (o + j.val)) (hc : ∀ j : Fin 128, cs (ix2 r j) = C (j.val / 2))
    (hs : ∀ j : Fin 128, sn (ix2 r j) = if j.val % 2 = 0 then -S (j.val / 2) else S (j.val / 2)) (j : Fin 128) :
    addf (mulf f cs) (mulf (select mask (dynamicRotate 1 127#32 none f h) (dynamicRotate 1 1#32 none f h)) sn) (ix2 r j)
      = rotAt g C S (o + j.val) := by
  have hj := j.isLt
  show f (ix2 r j) * cs (ix2 r j)
    + Scalar.select (mask (ix2 r j)) (dynamicRotate 1 127#32 none f h (ix2 r j)) (dynamicRotate 1 1#32 none f h (ix2 r j)) * sn (ix2 r j) = _
  rw [hm, hf, hc, hs]
  unfold rotAt
  rw [show (o + j.val) % 128 / 2 = j.val / 2 by omega]
  by_cases e : j.val % 2 = 0
  · rw [if_pos e, if_pos e, if_pos (show (o + j.val) % 2 = 0 by omega)]
    have k : dynamicRotate 1 127#32 none f h (ix2 r j) = f (ix2 r ⟨j.val + 1, by omega⟩) :=
      dynamicRotate_apply (1 : Fin 2) 127#32 f h (ix2 r j) (ix2 r ⟨j.val + 1, by omega⟩) fun b => by
        match b with
        | ⟨0, _⟩ => rfl
        | ⟨1, _⟩ => show j.val + 1 = (j.val + 128 - 127 % 128) % 128; omega
    show _ + Scalar.select 1#1 _ _ * _ = _
    rw [k, hf]
    show _ + g (o + (j.val + 1)) * _ = _
    rw [← add_assoc, sub_eq_add_neg, mul_neg]
  · rw [if_neg e, if_neg e, if_neg (show ¬(o + j.val) % 2 = 0 by omega)]
    have k : dynamicRotate 1 1#32 none f h (ix2 r j) = f (ix2 r ⟨j.val - 1, by omega⟩) :=
      dynamicRotate_apply (1 : Fin 2) 1#32 f h (ix2 r j) (ix2 r ⟨j.val - 1, by omega⟩) fun b => by
        match b with
        | ⟨0, _⟩ => rfl
        | ⟨1, _⟩ => show j.val - 1 = (j.val + 128 - 1 % 128) % 128; omega
    show _ + Scalar.select 0#1 _ _ * _ = _
    rw [k, hf]
    show _ + g (o + (j.val - 1)) * _ = _
    rw [show o + (j.val - 1) = o + j.val - 1 by omega, add_comm]

/-! ## By pairs -/

section
variable {M H : ℕ}

/-- One side of the pairs. -/
theorem side_apply (v : FVec Ideal ⟨3, ![M, H, 128]⟩ .f32) (e : ℕ) (he : e < 2)
    (h₁ : (⟨3, ![M, H, 128]⟩ : Shape).ShapeCasts ⟨4, ![M, H, 64, 2]⟩) (h₂ : (⟨4, ![M, H, 64, 2]⟩ : Shape).Slices ![0, 0, 0, e] ⟨4, ![M, H, 64, 1]⟩)
    (h₃ : (⟨4, ![M, H, 64, 1]⟩ : Shape).ShapeCasts ⟨3, ![M, H, 64]⟩) (r : Fin M) (h : Fin H) (p : Fin 64) :
    shapeCast ⟨3, ![M, H, 64]⟩ (extractStridedSlice ⟨4, ![M, H, 64, 1]⟩ ![0, 0, 0, e] (shapeCast ⟨4, ![M, H, 64, 2]⟩ v h₁) h₂) h₃ (ix3 r h p)
      = v (ix3 r h ⟨2 * p.val + e, by omega⟩) := by
  refine (shapeCast_apply _ h₃ (ix3 r h p) (ix4 r h p 0) ?_).trans
    ((extractStridedSlice_apply _ _ h₂ (ix4 r h p 0) (ix4 r h p ⟨e, he⟩) fun a => ?_).trans (shapeCast_apply v h₁ _ (ix3 r h ⟨2 * p.val + e, by omega⟩) ?_))
  · rw [Shape.rowMajor_val_three, Shape.rowMajor_val_four]
    show ((r.val * H + h.val) * 64 + p.val) * 1 + 0 = (r.val * H + h.val) * 64 + p.val
    omega
  · match a with
    | ⟨0, _⟩ => show r.val = 0 + r.val; omega
    | ⟨1, _⟩ => show h.val = 0 + h.val; omega
    | ⟨2, _⟩ => show p.val = 0 + p.val; omega
    | ⟨3, _⟩ => show e = e + 0; omega
  · rw [Shape.rowMajor_val_three, Shape.rowMajor_val_four]
    show (r.val * H + h.val) * 128 + (2 * p.val + e) = ((r.val * H + h.val) * 64 + p.val) * 2 + e
    generalize r.val * H + h.val = w
    omega

/-- A row of cosines or sines beside every head. -/
theorem beside_apply (x : FVec Ideal ⟨2, ![M, 64]⟩ .f32) (h₅ : (⟨2, ![M, 64]⟩ : Shape).ShapeCasts ⟨3, ![M, 1, 64]⟩)
    (h₆ : (⟨3, ![M, 1, 64]⟩ : Shape).Broadcasts ⟨3, ![M, H, 64]⟩) (r : Fin M) (h : Fin H) (p : Fin 64) :
    broadcastTo ⟨3, ![M, H, 64]⟩ (shapeCast ⟨3, ![M, 1, 64]⟩ x h₅) h₆ (ix3 r h p) = x (ix2 r p) := by
  refine (broadcastTo_apply _ h₆ (ix3 r h p) (ix3 r 0 p) fun a => ?_).trans (shapeCast_apply x h₅ _ (ix2 r p) ?_)
  · match a with
    | ⟨0, _⟩ =>
      show r.val = if M = 1 then 0 else r.val
      split
      · have := r.isLt; omega
      · rfl
    | ⟨1, _⟩ => rfl
    | ⟨2, _⟩ => rfl
  · rw [Shape.rowMajor_val_two, Shape.rowMajor_val_three]
    show r.val * 64 + p.val = (r.val * 1 + 0) * 64 + p.val
    omega

/-- The two sides put together again. -/
theorem pairs_apply (x y : FVec Ideal ⟨3, ![M, H, 64]⟩ .f32) (h₇ : (⟨3, ![M, H, 64]⟩ : Shape).ShapeCasts ⟨4, ![M, H, 64, 1]⟩)
    (h₈ : Shape.Concatenates [⟨4, ![M, H, 64, 1]⟩, ⟨4, ![M, H, 64, 1]⟩] ⟨4, ![M, H, 64, 2]⟩ 3)
    (h₉ : (⟨4, ![M, H, 64, 2]⟩ : Shape).ShapeCasts ⟨3, ![M, H, 128]⟩) (r : Fin M) (h : Fin H) (j : Fin 128) :
    shapeCast ⟨3, ![M, H, 128]⟩ (concatenate ⟨4, ![M, H, 64, 2]⟩ 3
        [⟨⟨4, ![M, H, 64, 1]⟩, shapeCast ⟨4, ![M, H, 64, 1]⟩ x h₇⟩, ⟨⟨4, ![M, H, 64, 1]⟩, shapeCast ⟨4, ![M, H, 64, 1]⟩ y h₇⟩] h₈) h₉ (ix3 r h j)
      = if j.val % 2 = 0 then x (ix3 r h ⟨j.val / 2, by omega⟩) else y (ix3 r h ⟨j.val / 2, by omega⟩) := by
  have hj := j.isLt
  have cast : ∀ (z : FVec Ideal ⟨3, ![M, H, 64]⟩ .f32) (p : Fin 64), shapeCast ⟨4, ![M, H, 64, 1]⟩ z h₇ (ix4 r h p 0) = z (ix3 r h p) := fun z p =>
    shapeCast_apply z h₇ _ (ix3 r h p) (by
      rw [Shape.rowMajor_val_three, Shape.rowMajor_val_four]
      show (r.val * H + h.val) * 64 + p.val = ((r.val * H + h.val) * 64 + p.val) * 1 + 0
      omega)
  refine (shapeCast_apply _ h₉ (ix3 r h j) (ix4 r h ⟨j.val / 2, by omega⟩ ⟨j.val % 2, by omega⟩) ?_).trans ?_
  · rw [Shape.rowMajor_val_three, Shape.rowMajor_val_four]
    show ((r.val * H + h.val) * 64 + j.val / 2) * 2 + j.val % 2 = (r.val * H + h.val) * 128 + j.val
    generalize r.val * H + h.val = w
    omega
  · by_cases e : j.val % 2 = 0
    · rw [if_pos e]
      refine (concatenate_pair_apply_left _ _ _ h₈ _ rfl (ix4 r h ⟨j.val / 2, by omega⟩ 0) fun b => ?_).trans (cast x _)
      match b with
      | ⟨0, _⟩ => rfl
      | ⟨1, _⟩ => rfl
      | ⟨2, _⟩ => rfl
      | ⟨3, _⟩ => show 0 = j.val % 2; omega
    · rw [if_neg e]
      refine (concatenate_pair_apply_right _ _ _ h₈ _ rfl rfl (ix4 r h ⟨j.val / 2, by omega⟩ 0) (fun b hb => ?_) ?_).trans (cast y _)
      · match b, hb with
        | ⟨0, _⟩, _ => rfl
        | ⟨1, _⟩, _ => rfl
        | ⟨2, _⟩, _ => rfl
        | ⟨3, _⟩, hb => exact absurd rfl hb
      · show 0 + 1 = j.val % 2; omega

/-- The pairs' two sides, turned and put together. -/
theorem turn_apply (v : FVec Ideal ⟨3, ![M, H, 128]⟩ .f32) (cs sn : FVec Ideal ⟨2, ![M, 64]⟩ .f32)
    (h₁ : (⟨3, ![M, H, 128]⟩ : Shape).ShapeCasts ⟨4, ![M, H, 64, 2]⟩) (h₂ : (⟨4, ![M, H, 64, 2]⟩ : Shape).Slices ![0, 0, 0, 0] ⟨4, ![M, H, 64, 1]⟩)
    (h₂' : (⟨4, ![M, H, 64, 2]⟩ : Shape).Slices ![0, 0, 0, 1] ⟨4, ![M, H, 64, 1]⟩)
    (h₃ : (⟨4, ![M, H, 64, 1]⟩ : Shape).ShapeCasts ⟨3, ![M, H, 64]⟩) (h₅ : (⟨2, ![M, 64]⟩ : Shape).ShapeCasts ⟨3, ![M, 1, 64]⟩)
    (h₆ : (⟨3, ![M, 1, 64]⟩ : Shape).Broadcasts ⟨3, ![M, H, 64]⟩) (h₇ : (⟨3, ![M, H, 64]⟩ : Shape).ShapeCasts ⟨4, ![M, H, 64, 1]⟩)
    (h₈ : Shape.Concatenates [⟨4, ![M, H, 64, 1]⟩, ⟨4, ![M, H, 64, 1]⟩] ⟨4, ![M, H, 64, 2]⟩ 3)
    (h₉ : (⟨4, ![M, H, 64, 2]⟩ : Shape).ShapeCasts ⟨3, ![M, H, 128]⟩) (r : Fin M) (h : Fin H) (g C S : ℕ → EReal) (o : ℕ) (ho : o % 128 = 0)
    (hf : ∀ j : Fin 128, v (ix3 r h j) = g (o + j.val)) (hc : ∀ p : Fin 64, cs (ix2 r p) = C p.val) (hs : ∀ p : Fin 64, sn (ix2 r p) = S p.val)
    (j : Fin 128) :
    let a := shapeCast ⟨3, ![M, H, 64]⟩ (extractStridedSlice ⟨4, ![M, H, 64, 1]⟩ ![0, 0, 0, 0] (shapeCast ⟨4, ![M, H, 64, 2]⟩ v h₁) h₂) h₃
    let b := shapeCast ⟨3, ![M, H, 64]⟩ (extractStridedSlice ⟨4, ![M, H, 64, 1]⟩ ![0, 0, 0, 1] (shapeCast ⟨4, ![M, H, 64, 2]⟩ v h₁) h₂') h₃
    let c := broadcastTo ⟨3, ![M, H, 64]⟩ (shapeCast ⟨3, ![M, 1, 64]⟩ cs h₅) h₆
    let s := broadcastTo ⟨3, ![M, H, 64]⟩ (shapeCast ⟨3, ![M, 1, 64]⟩ sn h₅) h₆
    shapeCast ⟨3, ![M, H, 128]⟩ (concatenate ⟨4, ![M, H, 64, 2]⟩ 3
        [⟨⟨4, ![M, H, 64, 1]⟩, shapeCast ⟨4, ![M, H, 64, 1]⟩ (subf (mulf a c) (mulf b s)) h₇⟩,
          ⟨⟨4, ![M, H, 64, 1]⟩, shapeCast ⟨4, ![M, H, 64, 1]⟩ (addf (mulf a s) (mulf b c)) h₇⟩] h₈) h₉ (ix3 r h j)
      = rotAt g C S (o + j.val) := by
  intro a b c s
  have hj := j.isLt
  have ea : ∀ p : Fin 64, a (ix3 r h p) = g (o + 2 * p.val) := fun p => (side_apply v 0 (by omega) h₁ h₂ h₃ r h p).trans (hf _)
  have eb : ∀ p : Fin 64, b (ix3 r h p) = g (o + (2 * p.val + 1)) := fun p => (side_apply v 1 (by omega) h₁ h₂' h₃ r h p).trans (hf _)
  have ec : ∀ p : Fin 64, c (ix3 r h p) = C p.val := fun p => (beside_apply cs h₅ h₆ r h p).trans (hc p)
  have es : ∀ p : Fin 64, s (ix3 r h p) = S p.val := fun p => (beside_apply sn h₅ h₆ r h p).trans (hs p)
  rw [pairs_apply]
  unfold rotAt
  rw [show (o + j.val) % 128 / 2 = j.val / 2 by omega]
  by_cases e : j.val % 2 = 0
  · rw [if_pos e, if_pos (show (o + j.val) % 2 = 0 by omega)]
    show a (ix3 r h _) * c (ix3 r h _) - b (ix3 r h _) * s (ix3 r h _) = _
    rw [ea, eb, ec, es]
    show g (o + 2 * (j.val / 2)) * C (j.val / 2) - g (o + (2 * (j.val / 2) + 1)) * S (j.val / 2) = _
    rw [show 2 * (j.val / 2) = j.val by omega, ← add_assoc]
  · rw [if_neg e, if_neg (show ¬(o + j.val) % 2 = 0 by omega)]
    show a (ix3 r h _) * s (ix3 r h _) + b (ix3 r h _) * c (ix3 r h _) = _
    rw [ea, eb, ec, es]
    show g (o + 2 * (j.val / 2)) * S (j.val / 2) + g (o + (2 * (j.val / 2) + 1)) * C (j.val / 2) = _
    rw [show 2 * (j.val / 2) + 1 = j.val by omega, show o + 2 * (j.val / 2) = o + j.val - 1 by omega]

end

end Cert.Proof

end
-- ==== Proof.QkvSpec.lean ====
/- The queries, the key codes and the value codes as functions of whole arrays: a row of the fused projection, its columns
   turned, and for keys and values a quotient by the head's scale, clipped. -/
module

public import proofs.«01_k».proof.Proof.Rotary
public import proofs.«01_k».proof.Proof.LnRows

@[expose] public section

noncomputable section

namespace Cert.Proof

open Idealize.ShloMosaic Idealize.ShloMosaic.ValueIdx

/-- A row of a projection by its columns' numbers. -/
def projRow {M K N : ℕ} (X : (⟨2, ![M, K]⟩ : Shape).Idx → EReal) (W : (⟨2, ![K, N]⟩ : Shape).Idx → EReal)
    (rs : (⟨2, ![M, 1]⟩ : Shape).Idx → EReal) (cs : (⟨2, ![1, N]⟩ : Shape).Idx → EReal) (r : Fin M) (c : ℕ) : EReal :=
  if h : c < N then proj X W rs cs r ⟨c, h⟩ else 0

/-- The entries of a vector by their number. -/
def ent₁ {N : ℕ} (x : (⟨1, ![N]⟩ : Shape).Idx → EReal) (c : ℕ) : EReal := if h : c < N then x (ix1 ⟨c, h⟩) else 0

/-- A turned row depends on the pair of columns and its angle only. -/
theorem rotAt_congr {f g C C' S S' : ℕ → EReal} {c c' : ℕ} (hc : c % 128 = c' % 128) (h : ∀ j, j < 128 → f (c / 128 * 128 + j) = g (c' / 128 * 128 + j))
    (hC : ∀ p, p < 64 → C p = C' p) (hS : ∀ p, p < 64 → S p = S' p) : rotAt f C S c = rotAt g C' S' c' := by
  unfold rotAt
  have a := h (c % 128) (by omega)
  have b := h (c % 128 + 1)
  have d := h (c % 128 - 1) (by omega)
  rw [hC _ (show c % 128 / 2 < 64 by omega), hS _ (show c % 128 / 2 < 64 by omega), hc]
  rw [show c / 128 * 128 + c % 128 = c by omega, show c' / 128 * 128 + c % 128 = c' by omega] at a
  rw [a]
  by_cases e : c % 2 = 0
  · rw [if_pos e, if_pos (show c' % 2 = 0 by omega)]
    have b := b (by omega)
    rw [show c / 128 * 128 + (c % 128 + 1) = c + 1 by omega, show c' / 128 * 128 + (c % 128 + 1) = c' + 1 by omega] at b
    rw [b]
  · rw [if_neg e, if_neg (show ¬c' % 2 = 0 by omega)]
    rw [show c / 128 * 128 + (c % 128 - 1) = c - 1 by omega, show c' / 128 * 128 + (c % 128 - 1) = c' - 1 by omega] at d
    rw [d]

section
variable (X : (⟨2, ![10752, 12288]⟩ : Shape).Idx → EReal) (W : (⟨2, ![12288, 20480]⟩ : Shape).Idx → EReal)
  (rs : (⟨2, ![10752, 1]⟩ : Shape).Idx → EReal) (cs : (⟨1, ![20480]⟩ : Shape).Idx → EReal)
  (C S : (⟨2, ![10752, 64]⟩ : Shape).Idx → EReal) (sc : (⟨1, ![2]⟩ : Shape).Idx → EReal)

/-- The fused projection's row. -/
def fused (r : Fin 10752) : ℕ → EReal := projRow X W rs (shapeCast ⟨2, ![1, 20480]⟩ cs (by decide)) r

/-- The queries: the first 3072 columns, turned. -/
def qOf : (⟨2, ![10752, 3072]⟩ : Shape).Idx → EReal := fun i =>
  rotAt (fused X W rs cs (i 0)) (ent C (i 0).val) (ent S (i 0).val) (i 1).val

/-- The key codes: the next 256, turned, over the head's scale. -/
def kOf : (⟨2, ![10752, 256]⟩ : Shape).Idx → EReal := fun i =>
  clip (Ideal.div (rotAt (fused X W rs cs (i 0)) (ent C (i 0).val) (ent S (i 0).val) (3072 + (i 1).val)) (ent₁ sc ((i 1).val / 128)))

/-- The value codes: the next 256, over the head's scale. -/
def vOf : (⟨2, ![10752, 256]⟩ : Shape).Idx → EReal := fun i =>
  clip (Ideal.div (fused X W rs cs (i 0) (3328 + (i 1).val)) (ent₁ sc ((i 1).val / 128)))

end

end Cert.Proof

end
-- ==== Proof.QkvPieces.lean ====
/- What the projecting body leaves in its three blocks, over the extended reals. -/
module

public import proofs.«01_k».proof.Proof.QkvDat
public import proofs.«01_k».proof.Proof.QkvSpec

@[expose] public section

set_option maxRecDepth 16384

noncomputable section

namespace Cert.QkvIdeal.Hand

open Cert.QkvIdeal.Gen Idealize.ShloMosaic Idealize.ShloMosaic.TcCoe Idealize.SL.Sem
open Idealize.ShloMosaic.ValueIdx Cert.Proof

/-! ## The turn -/

/-- The lanes' numbers modulo two, with the sign set right, -/
def parity : IVec S768x128 32 :=
  let two : BitVec 32 := Scalar.select (Scalar.cmpi .eq 2#32 0#32) 1#32 2#32
  let rem : IVec S768x128 32 := remsi (iota .tc S768x128 32 [1] iota_S768x128_d1_w32) (broadcast S768x128 two)
  select (andi (xori (cmpi .slt rem (broadcast S768x128 0#32)) (broadcastTo S768x128 (broadcast S768x128 (Scalar.cmpi .slt two 0#32)) broadcasts_S768x128_S768x128))
    (cmpi .ne rem (broadcast S768x128 0#32))) (addi rem (broadcast S768x128 two)) rem

/-- and where it is zero. -/
def even : IVec S768x128 1 := cmpi .eq parity (broadcast S768x128 0#32)

theorem even_apply (r : Fin 768) (j : Fin 128) : even (ix2 r j) = if j.val % 2 = 0 then 1#1 else 0#1 := by
  have h : ∀ j : Fin 128,
      (let two : BitVec 32 := Scalar.select (Scalar.cmpi .eq 2#32 0#32) 1#32 2#32
       let rem : BitVec 32 := Scalar.remsi (BitVec.ofNat 32 (0 * 128 + j.val)) two
       Scalar.cmpi .eq (Scalar.select (Scalar.andi (Scalar.xori (Scalar.cmpi .slt rem 0#32) (Scalar.cmpi .slt two 0#32)) (Scalar.cmpi .ne rem 0#32)) (Scalar.addi rem two) rem) 0#32)
        = if j.val % 2 = 0 then 1#1 else 0#1 := by decide +kernel
  exact h j

/-- A head's 128 columns turned. -/
def spin (f cs sn : FVec Ideal S768x128 .f32) : FVec Ideal S768x128 .f32 :=
  addf (mulf f cs) (mulf (select even (dynamicRotate 1 127#32 none f rotates_S768x128_d1) (dynamicRotate 1 1#32 none f rotates_S768x128_d1)) sn)

/-- A quotient by a scale, clipped, as codes. -/
def coded (f : FVec Ideal S768x128 .f32) (s : Elt Ideal .f32) : FVec Ideal S768x128 .fp8e4m3 :=
  truncf .fp8e4m3 (minimumf (broadcast S768x128 (Scalar.ofBits .f32 0x43E00000#32)) (maximumf (broadcast S768x128 (Scalar.ofBits .f32 0xC3E00000#32))
    (divf f (broadcast S768x128 s)))) bitsLt_fp8e4m3_f32

theorem coded_apply (f : FVec Ideal S768x128 .f32) (s : Elt Ideal .f32) (i : S768x128.Idx) : coded f s i = clip (Ideal.div (f i) s) := by
  show min (Ideal.ofBits .f32 0x43E00000#32) (max (Ideal.ofBits .f32 0xC3E00000#32) (Ideal.div (f i) s)) = _
  rw [ofBits_448]
  rfl

theorem pay6_eq (v9 : FVec Ideal S768x512 .f32) (v11 v13 : FVec Ideal S768x128 .f32) : k0_pay6 v9 v11 v13
    = truncf .bf16 (spin (extractStridedSlice S768x128 ![0, 0] v9 slices_S768x512_o0_0_S768x128) v11 v13) bitsLt_bf16_f32 := rfl
theorem pay13_eq (v9 : FVec Ideal S768x512 .f32) (v11 v13 : FVec Ideal S768x128 .f32) :
    k0_pay13 v13 (k0_pay7 v9) (k0_pay8 v9 v11) (Scalar.select (Scalar.cmpi .eq 2#32 0#32) 1#32 2#32) k0_pay9 k0_pay10 k0_pay11 k0_pay12
    = truncf .bf16 (spin (extractStridedSlice S768x128 ![0, 128] v9 slices_S768x512_o0_128_S768x128) v11 v13) bitsLt_bf16_f32 := rfl
theorem pay14_eq (v9 : FVec Ideal S768x512 .f32) (v11 v13 : FVec Ideal S768x128 .f32) : k0_pay14 v9 v11 v13
    = truncf .bf16 (spin (extractStridedSlice S768x128 ![0, 256] v9 slices_S768x512_o0_256_S768x128) v11 v13) bitsLt_bf16_f32 := rfl
theorem pay4_eq (v0 : Vec Ideal S768x12288 .fp8e4m3) (v1 : Vec Ideal S12288x512 .fp8e4m3) (v3 : Vec Ideal S768x1 .f32) (v6 : Vec Ideal S1x512 .f32)
    (v10 v12 : Vec Ideal S768x128 .f32) : k0_pay4 v0 v1 v3 v6 v10 v12
    = truncf .bf16 (spin (extractStridedSlice S768x128 ![0, 384] (k0_pay1 v0 v1 v3 v6) slices_S768x512_o0_384_S768x128) (k0_pay2 v10) (k0_pay3 v12))
        bitsLt_bf16_f32 := rfl
theorem pay15_eq (v9 : FVec Ideal S768x512 .f32) (v11 v13 : FVec Ideal S768x128 .f32) (s : Elt Ideal .f32) : k0_pay15 v9 v11 v13 s
    = coded (spin (extractStridedSlice S768x128 ![0, 0] v9 slices_S768x512_o0_0_S768x128) v11 v13) s := rfl
theorem pay19_eq (v9 : FVec Ideal S768x512 .f32) (v11 v13 : FVec Ideal S768x128 .f32) (s : Elt Ideal .f32) : k0_pay19 v9 v11 v13 s
    = coded (spin (extractStridedSlice S768x128 ![0, 128] v9 slices_S768x512_o0_128_S768x128) v11 v13) s := rfl
theorem pay18_eq (v9 : FVec Ideal S768x512 .f32) (s : Elt Ideal .f32) : k0_pay18 (k0_pay16 v9 s) k0_pay17
    = coded (extractStridedSlice S768x128 ![0, 256] v9 slices_S768x512_o0_256_S768x128) s := rfl
theorem pay5_eq (v9 : FVec Ideal S768x512 .f32) (s : Elt Ideal .f32) : k0_pay5 (k0_pay20 v9) (k0_pay21 s)
    = coded (extractStridedSlice S768x128 ![0, 384] v9 slices_S768x512_o0_384_S768x128) s := rfl

/-! ## The blocks -/

section
variable (x0 : Vec Ideal S768x12288 .fp8e4m3) (x1 : Vec Ideal S12288x512 .fp8e4m3) (x2 : Vec Ideal S768x1 .f32) (x3 : Vec Ideal S1x512 .f32)
  (x4 x5 : Vec Ideal S768x128 .f32) (x6 x7 : Vec Ideal S2 .f32) (C S : Fin 768 → ℕ → EReal)

theorem pay1_apply (p : Fin 768) (q : Fin 512) : k0_pay1 x0 x1 x2 x3 (ix2 p q) = projRow x0 x1 x2 x3 p q.val := by
  unfold k0_pay1
  simp only [shapeCast_self]
  refine (proj_apply (φ₁ := .fp8e4m3) (φ₂ := .fp8e4m3) dot_S768x12288_S12288x512_S768x512_1_0_0_1_n_n rfl x0 x1 x2 x3
    broadcasts_S768x1_S768x512 broadcasts_S1x512_S768x512 p q).trans ?_
  unfold projRow
  rw [dif_pos q.isLt]

/-- A block's columns from `o` on. -/
theorem cols_apply (o : ℕ) (ho : o + 128 ≤ 512) (h : S768x512.Slices ![0, o] S768x128) (p : Fin 768) (j : Fin 128) :
    extractStridedSlice S768x128 ![0, o] (k0_pay1 x0 x1 x2 x3) h (ix2 p j) = projRow x0 x1 x2 x3 p (o + j.val) := by
  refine Eq.trans ?_ (pay1_apply x0 x1 x2 x3 p ⟨o + j.val, by omega⟩)
  refine congrArg (k0_pay1 x0 x1 x2 x3) (Shape.idx_ext₂ ?_ rfl)
  show 0 + p.val = p.val
  omega

/-- The block of queries, -/
def qG : S768x512.Idx → EReal := fun y => rotAt (projRow x0 x1 x2 x3 (y 0)) (C (y 0)) (S (y 0)) (y 1).val
/-- of key codes, -/
def kG : S768x256.Idx → EReal := fun y =>
  clip (Ideal.div (rotAt (projRow x0 x1 x2 x3 (y 0)) (C (y 0)) (S (y 0)) (y 1).val) (ent₁ x6 ((y 1).val / 128)))
/-- and of value codes. -/
def vG : S768x256.Idx → EReal := fun y => clip (Ideal.div (projRow x0 x1 x2 x3 (y 0) (256 + (y 1).val)) (ent₁ x7 ((y 1).val / 128)))

variable (hC : ∀ p (j : Fin 128), x4 (ix2 p j) = C p (j.val / 2))
  (hS : ∀ p (j : Fin 128), x5 (ix2 p j) = if j.val % 2 = 0 then -S p (j.val / 2) else S p (j.val / 2))

include hC hS in
theorem spin_cols (o : ℕ) (ho : o + 128 ≤ 512) (ho' : o % 128 = 0) (h : S768x512.Slices ![0, o] S768x128) (p : Fin 768) (j : Fin 128) :
    spin (extractStridedSlice S768x128 ![0, o] (k0_pay1 x0 x1 x2 x3) h) (k0_pay2 x4) (k0_pay3 x5) (ix2 p j)
      = rotAt (projRow x0 x1 x2 x3 p) (C p) (S p) (o + j.val) := by
  unfold k0_pay2 k0_pay3
  simp only [shapeCast_self]
  exact spin_apply even even_apply _ x4 x5 rotates_S768x128_d1 p _ (C p) (S p) o ho' (cols_apply x0 x1 x2 x3 o ho h p) (hC p) (hS p) j

include hC hS in
/-- A store of queries. -/
theorem q_piece (o : ℕ) (ho : o + 128 ≤ 512) (ho' : o % 128 = 0) (h : S768x512.Slices ![0, o] S768x128) (inb : ∀ a, (![0, o] : Fin 2 → ℕ) a + S768x128.size a ≤ S768x512.size a)
    (x : S768x128.Idx) :
    truncf .bf16 (spin (extractStridedSlice S768x128 ![0, o] (k0_pay1 x0 x1 x2 x3) h) (k0_pay2 x4) (k0_pay3 x5)) bitsLt_bf16_f32 x
      = qG x0 x1 x2 x3 C S ((Rect.unit (s := S768x512) ![0, o] S768x128.size inb).emb x) := by
  obtain ⟨p, j, rfl⟩ : ∃ (p : Fin 768) (j : Fin 128), x = ix2 p j := ⟨_, _, eq_ix2 x⟩
  rw [show (Rect.unit (s := S768x512) ![0, o] S768x128.size inb).emb (ix2 p j) = ix2 p (⟨o + j.val, by omega⟩ : Fin 512) from
    Shape.idx_ext₂ (by show 0 + 1 * p.val = p.val; omega) (by show o + 1 * j.val = o + j.val; omega)]
  exact spin_cols x0 x1 x2 x3 x4 x5 C S hC hS o ho ho' h p j

include hC hS in
/-- A store of key codes. -/
theorem k_piece (n : Fin 2) (o : ℕ) (ho : o = n.val * 128) (h : S768x512.Slices ![0, o] S768x128) (inb : ∀ a, (![0, o] : Fin 2 → ℕ) a + S768x128.size a ≤ S768x256.size a)
    (s : EReal) (hs : s = x6 (ix1 n)) (x : S768x128.Idx) :
    coded (spin (extractStridedSlice S768x128 ![0, o] (k0_pay1 x0 x1 x2 x3) h) (k0_pay2 x4) (k0_pay3 x5)) s x
      = kG x0 x1 x2 x3 x6 C S ((Rect.unit (s := S768x256) ![0, o] S768x128.size inb).emb x) := by
  have hn := n.isLt
  obtain ⟨p, j, rfl⟩ : ∃ (p : Fin 768) (j : Fin 128), x = ix2 p j := ⟨_, _, eq_ix2 x⟩
  have hj := j.isLt
  rw [show (Rect.unit (s := S768x256) ![0, o] S768x128.size inb).emb (ix2 p j) = ix2 p (⟨o + j.val, by omega⟩ : Fin 256) from
    Shape.idx_ext₂ (by show 0 + 1 * p.val = p.val; omega) (by show o + 1 * j.val = o + j.val; omega)]
  rw [coded_apply, spin_cols x0 x1 x2 x3 x4 x5 C S hC hS o (by omega) (by omega) h p j, hs]
  show _ = clip (Ideal.div (rotAt (projRow x0 x1 x2 x3 p) (C p) (S p) (o + j.val)) (ent₁ x6 ((o + j.val) / 128)))
  rw [show (o + j.val) / 128 = n.val by omega]
  unfold ent₁
  rw [dif_pos hn]

/-- A store of value codes. -/
theorem v_piece (n : Fin 2) (o : ℕ) (ho : o = n.val * 128) (o' : ℕ) (ho' : o' = 256 + o) (h : S768x512.Slices ![0, o'] S768x128)
    (inb : ∀ a, (![0, o] : Fin 2 → ℕ) a + S768x128.size a ≤ S768x256.size a) (s : EReal) (hs : s = x7 (ix1 n)) (x : S768x128.Idx) :
    coded (extractStridedSlice S768x128 ![0, o'] (k0_pay1 x0 x1 x2 x3) h) s x
      = vG x0 x1 x2 x3 x7 ((Rect.unit (s := S768x256) ![0, o] S768x128.size inb).emb x) := by
  have hn := n.isLt
  obtain ⟨p, j, rfl⟩ : ∃ (p : Fin 768) (j : Fin 128), x = ix2 p j := ⟨_, _, eq_ix2 x⟩
  have hj := j.isLt
  rw [show (Rect.unit (s := S768x256) ![0, o] S768x128.size inb).emb (ix2 p j) = ix2 p (⟨o + j.val, by omega⟩ : Fin 256) from
    Shape.idx_ext₂ (by show 0 + 1 * p.val = p.val; omega) (by show o + 1 * j.val = o + j.val; omega)]
  rw [coded_apply, cols_apply x0 x1 x2 x3 o' (by omega) h p j, hs]
  show _ = clip (Ideal.div (projRow x0 x1 x2 x3 p (256 + (o + j.val))) (ent₁ x7 ((o + j.val) / 128)))
  rw [show (o + j.val) / 128 = n.val by omega, show o' + j.val = 256 + (o + j.val) by omega]
  unfold ent₁
  rw [dif_pos hn]

end

end Cert.QkvIdeal.Hand

end
-- ==== Proof.QkvBlocks.lean ====
/- What the runs of the projecting body leave, block by block. -/
module

public import proofs.«01_k».proof.Proof.QkvPieces

@[expose] public section

set_option maxRecDepth 16384

noncomputable section

namespace Cert.QkvIdeal.Hand

open Cert.QkvIdeal Cert.QkvIdeal.Gen Idealize.ShloMosaic Idealize.ShloMosaic.TcCoe Idealize.SL.Sem
open Idealize.ShloMosaic.ValueIdx Cert.Proof

/-- A load of a whole block. -/
theorem whole_read {M N : ℕ} {e : EltTy} (a : Memref sig .tc .vmem ⟨2, ![M, N]⟩ e) (h : a.IsWhole)
    (inb : ∀ x, (![0, 0] : Fin 2 → ℕ) x + (⟨2, ![M, N]⟩ : Shape).size x ≤ (⟨2, ![M, N]⟩ : Shape).size x) (x : Vec Ideal ⟨2, ![M, N]⟩ e) :
    View.readAt (Elt Ideal) a.view (Rect.unit (s := ⟨2, ![M, N]⟩) ![0, 0] (⟨2, ![M, N]⟩ : Shape).size inb).toLoadRect (h.unread x) = x := by
  refine (View.readAt_eq_ld a.view _ _).trans ?_
  rw [Memref.IsWhole.read_unread]
  exact View.ld_unit_zero (S := ⟨2, ![M, N]⟩) (funext fun a => by fin_cases a <;> rfl) inb x

/-- A load of one scale. -/
theorem scale_read (a : Memref sig .tc .smem S2 .f32) (h : a.IsWhole) (n : Fin 2) (off : Fin 1 → ℕ) (ho : off = ![n.val])
    (inb : ∀ x, off x + S1.size x ≤ S2.size x) (h1 : 0 < S1.numel) (x : Vec Ideal S2 .f32) :
    View.readAt (Elt Ideal) a.view (Rect.unit (s := S2) off S1.size inb).toLoadRect (h.unread x) (Shape.Idx.first h1) = x (ix1 n) := by
  subst ho
  have e : View.readAt (Elt Ideal) a.view (Rect.unit (s := S2) ![n.val] S1.size inb).toLoadRect (h.unread x)
      = View.ld x (Rect.unit (s := S2) ![n.val] S1.size inb) := by
    refine (View.readAt_eq_ld a.view _ _).trans ?_
    rw [Memref.IsWhole.read_unread]
  rw [e]
  refine congrArg x (funext fun b => Fin.ext ?_)
  match b with
  | ⟨0, _⟩ =>
    have h0 : (Shape.Idx.first h1 0).val < 1 := (Shape.Idx.first h1 0).isLt
    show n.val + 1 * (Shape.Idx.first h1 0).val = n.val
    omega

/-- The queries. -/
theorem runQ (c : Dev nD) (i : grid0.Coords) (arg2 : Memref sig .tc .vmem S768x12288 .fp8e4m3) (harg2 : arg2.IsWhole) (arg3 : Memref sig .tc .vmem S12288x512 .fp8e4m3) (harg3 : arg3.IsWhole) (arg4 : Memref sig .tc .vmem S768x1 .f32) (harg4 : arg4.IsWhole) (arg5 : Memref sig .tc .vmem S1x512 .f32) (harg5 : arg5.IsWhole) (arg6 : Memref sig .tc .vmem S768x128 .f32) (harg6 : arg6.IsWhole) (arg7 : Memref sig .tc .vmem S768x128 .f32) (harg7 : arg7.IsWhole) (arg8 : Memref sig .tc .smem S2 .f32) (harg8 : arg8.IsWhole) (arg9 : Memref sig .tc .smem S2 .f32) (harg9 : arg9.IsWhole) (arg10 : Memref sig .tc .vmem S768x512 .bf16) (harg10 : arg10.IsWhole) (arg11 : Memref sig .tc .vmem S768x256 .fp8e4m3) (harg11 : arg11.IsWhole) (arg12 : Memref sig .tc .vmem S768x256 .fp8e4m3) (harg12 : arg12.IsWhole) (hc0 : cond0_0 i) (hc1 : ¬cond0_1 i)
    (x0 : Vec Ideal S768x12288 .fp8e4m3) (x1 : Vec Ideal S12288x512 .fp8e4m3) (x2 : Vec Ideal S768x1 .f32) (x3 : Vec Ideal S1x512 .f32) (x4 : Vec Ideal S768x128 .f32) (x5 : Vec Ideal S768x128 .f32) (x6 : Vec Ideal S2 .f32) (x7 : Vec Ideal S2 .f32) (C S : Fin 768 → ℕ → EReal) (hC : ∀ p (j : Fin 128), x4 (ix2 p j) = C p (j.val / 2))
    (hS : ∀ p (j : Fin 128), x5 (ix2 p j) = if j.val % 2 = 0 then -S p (j.val / 2) else S p (j.val / 2)) :
    View.canon (kernelRunA (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7).1 = qG x0 x1 x2 x3 C S := by
  have key : ∀ (z0 : Vec Ideal S768x12288 .fp8e4m3) (z1 : Vec Ideal S12288x512 .fp8e4m3) (z2 : Vec Ideal S768x1 .f32) (z3 : Vec Ideal S1x512 .f32) (z4 z5 : Vec Ideal S768x128 .f32), x0 = z0 → x1 = z1 → x2 = z2 → x3 = z3 → x4 = z4 → x5 = z5 →
      ∀ pc ∈ ([⟨Rect.unit (s := S768x512) ![0, 384] S768x128.size inb_S768x512_S768x128_0_384, k0_pay4 z0 z1 z2 z3 z4 z5⟩,
        ⟨Rect.unit (s := S768x512) ![0, 256] S768x128.size inb_S768x512_S768x128_0_256, k0_pay14 (k0_pay1 z0 z1 z2 z3) (k0_pay2 z4) (k0_pay3 z5)⟩,
        ⟨Rect.unit (s := S768x512) ![0, 128] S768x128.size inb_S768x512_S768x128_0_128, k0_pay13 (k0_pay3 z5) (k0_pay7 (k0_pay1 z0 z1 z2 z3)) (k0_pay8 (k0_pay1 z0 z1 z2 z3) (k0_pay2 z4)) (Scalar.select (Scalar.cmpi .eq 2#32 0#32) 1#32 2#32) k0_pay9 k0_pay10 k0_pay11 k0_pay12⟩,
        ⟨Rect.unit (s := S768x512) ![0, 0] S768x128.size inb_S768x512_S768x128_0_0, k0_pay6 (k0_pay1 z0 z1 z2 z3) (k0_pay2 z4) (k0_pay3 z5)⟩] : List (View.Piece (Elt Ideal) S768x512 .bf16)),
        ∀ x : pc.1.shape.Idx, pc.2 x = qG x0 x1 x2 x3 C S (pc.1.emb x) := by
    intro _ _ _ _ _ _ rfl rfl rfl rfl rfl rfl
    refine List.forall_mem_cons.2 ⟨fun x => (congrFun (pay4_eq _ _ _ _ _ _) x).trans (q_piece x0 x1 x2 x3 x4 x5 C S hC hS 384 (by norm_num) (by norm_num) _ inb_S768x512_S768x128_0_384 x), ?_⟩
    refine List.forall_mem_cons.2 ⟨fun x => (congrFun (pay14_eq _ _ _) x).trans (q_piece x0 x1 x2 x3 x4 x5 C S hC hS 256 (by norm_num) (by norm_num) _ inb_S768x512_S768x128_0_256 x), ?_⟩
    refine List.forall_mem_cons.2 ⟨fun x => (congrFun (pay13_eq _ _ _) x).trans (q_piece x0 x1 x2 x3 x4 x5 C S hC hS 128 (by norm_num) (by norm_num) _ inb_S768x512_S768x128_0_128 x), ?_⟩
    refine List.forall_mem_cons.2 ⟨fun x => (congrFun (pay6_eq _ _ _) x).trans (q_piece x0 x1 x2 x3 x4 x5 C S hC hS 0 (by norm_num) (by norm_num) _ inb_S768x512_S768x128_0_0 x), ?_⟩
    exact fun _ h => absurd h List.not_mem_nil
  have e0 : View.readAt (Elt Ideal) arg2.view (Rect.unit (s := S768x12288) ![0, 0] S768x12288.size inb_S768x12288_S768x12288_0_0).toLoadRect (harg2.unread x0) = x0 := whole_read (M := 768) (N := 12288) arg2 harg2 _ x0
  have e1 : View.readAt (Elt Ideal) arg3.view (Rect.unit (s := S12288x512) ![0, 0] S12288x512.size inb_S12288x512_S12288x512_0_0).toLoadRect (harg3.unread x1) = x1 := whole_read (M := 12288) (N := 512) arg3 harg3 _ x1
  have e2 : View.readAt (Elt Ideal) arg4.view (Rect.unit (s := S768x1) ![0, 0] S768x1.size inb_S768x1_S768x1_0_0).toLoadRect (harg4.unread x2) = x2 := whole_read (M := 768) (N := 1) arg4 harg4 _ x2
  have e3 : View.readAt (Elt Ideal) arg5.view (Rect.unit (s := S1x512) ![0, 0] S1x512.size inb_S1x512_S1x512_0_0).toLoadRect (harg5.unread x3) = x3 := whole_read (M := 1) (N := 512) arg5 harg5 _ x3
  have e4 : View.readAt (Elt Ideal) arg6.view (Rect.unit (s := S768x128) ![0, 0] S768x128.size inb_S768x128_S768x128_0_0).toLoadRect (harg6.unread x4) = x4 := whole_read (M := 768) (N := 128) arg6 harg6 _ x4
  have e5 : View.readAt (Elt Ideal) arg7.view (Rect.unit (s := S768x128) ![0, 0] S768x128.size inb_S768x128_S768x128_0_0).toLoadRect (harg7.unread x5) = x5 := whole_read (M := 768) (N := 128) arg7 harg7 _ x5
  funext y
  refine View.canon_apply_of_pieces (qG x0 x1 x2 x3 C S) _ ?_ y (coverQ (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 y)
  exact key _ _ _ _ _ _ e0.symm e1.symm e2.symm e3.symm e4.symm e5.symm

/-- The key codes. -/
theorem runK (c : Dev nD) (i : grid0.Coords) (arg2 : Memref sig .tc .vmem S768x12288 .fp8e4m3) (harg2 : arg2.IsWhole) (arg3 : Memref sig .tc .vmem S12288x512 .fp8e4m3) (harg3 : arg3.IsWhole) (arg4 : Memref sig .tc .vmem S768x1 .f32) (harg4 : arg4.IsWhole) (arg5 : Memref sig .tc .vmem S1x512 .f32) (harg5 : arg5.IsWhole) (arg6 : Memref sig .tc .vmem S768x128 .f32) (harg6 : arg6.IsWhole) (arg7 : Memref sig .tc .vmem S768x128 .f32) (harg7 : arg7.IsWhole) (arg8 : Memref sig .tc .smem S2 .f32) (harg8 : arg8.IsWhole) (arg9 : Memref sig .tc .smem S2 .f32) (harg9 : arg9.IsWhole) (arg10 : Memref sig .tc .vmem S768x512 .bf16) (harg10 : arg10.IsWhole) (arg11 : Memref sig .tc .vmem S768x256 .fp8e4m3) (harg11 : arg11.IsWhole) (arg12 : Memref sig .tc .vmem S768x256 .fp8e4m3) (harg12 : arg12.IsWhole) (hc0 : ¬cond0_0 i) (hc1 : cond0_1 i)
    (x0 : Vec Ideal S768x12288 .fp8e4m3) (x1 : Vec Ideal S12288x512 .fp8e4m3) (x2 : Vec Ideal S768x1 .f32) (x3 : Vec Ideal S1x512 .f32) (x4 : Vec Ideal S768x128 .f32) (x5 : Vec Ideal S768x128 .f32) (x6 : Vec Ideal S2 .f32) (x7 : Vec Ideal S2 .f32) (C S : Fin 768 → ℕ → EReal) (hC : ∀ p (j : Fin 128), x4 (ix2 p j) = C p (j.val / 2))
    (hS : ∀ p (j : Fin 128), x5 (ix2 p j) = if j.val % 2 = 0 then -S p (j.val / 2) else S p (j.val / 2)) :
    View.canon (kernelRunB (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7).1 = kG x0 x1 x2 x3 x6 C S := by
  have key : ∀ (z0 : Vec Ideal S768x12288 .fp8e4m3) (z1 : Vec Ideal S12288x512 .fp8e4m3) (z2 : Vec Ideal S768x1 .f32) (z3 : Vec Ideal S1x512 .f32) (z4 z5 : Vec Ideal S768x128 .f32) (s0 s1 : Elt Ideal .f32), x0 = z0 → x1 = z1 → x2 = z2 → x3 = z3 → x4 = z4 → x5 = z5 → x6 (ix1 0) = s0 → x6 (ix1 1) = s1 →
      ∀ pc ∈ ([⟨Rect.unit (s := S768x256) ![0, 128] S768x128.size inb_S768x256_S768x128_0_128, k0_pay19 (k0_pay1 z0 z1 z2 z3) (k0_pay2 z4) (k0_pay3 z5) s1⟩,
        ⟨Rect.unit (s := S768x256) ![0, 0] S768x128.size inb_S768x256_S768x128_0_0, k0_pay15 (k0_pay1 z0 z1 z2 z3) (k0_pay2 z4) (k0_pay3 z5) s0⟩] : List (View.Piece (Elt Ideal) S768x256 .fp8e4m3)),
        ∀ x : pc.1.shape.Idx, pc.2 x = kG x0 x1 x2 x3 x6 C S (pc.1.emb x) := by
    intro _ _ _ _ _ _ _ _ rfl rfl rfl rfl rfl rfl rfl rfl
    refine List.forall_mem_cons.2 ⟨fun x => (congrFun (pay19_eq _ _ _ _) x).trans (k_piece x0 x1 x2 x3 x4 x5 x6 C S hC hS 1 128 rfl _ inb_S768x256_S768x128_0_128 _ rfl x), ?_⟩
    refine List.forall_mem_cons.2 ⟨fun x => (congrFun (pay15_eq _ _ _ _) x).trans (k_piece x0 x1 x2 x3 x4 x5 x6 C S hC hS 0 0 rfl _ inb_S768x256_S768x128_0_0 _ rfl x), ?_⟩
    exact fun _ h => absurd h List.not_mem_nil
  have e0 : View.readAt (Elt Ideal) arg2.view (Rect.unit (s := S768x12288) ![0, 0] S768x12288.size inb_S768x12288_S768x12288_0_0).toLoadRect (harg2.unread x0) = x0 := whole_read (M := 768) (N := 12288) arg2 harg2 _ x0
  have e1 : View.readAt (Elt Ideal) arg3.view (Rect.unit (s := S12288x512) ![0, 0] S12288x512.size inb_S12288x512_S12288x512_0_0).toLoadRect (harg3.unread x1) = x1 := whole_read (M := 12288) (N := 512) arg3 harg3 _ x1
  have e2 : View.readAt (Elt Ideal) arg4.view (Rect.unit (s := S768x1) ![0, 0] S768x1.size inb_S768x1_S768x1_0_0).toLoadRect (harg4.unread x2) = x2 := whole_read (M := 768) (N := 1) arg4 harg4 _ x2
  have e3 : View.readAt (Elt Ideal) arg5.view (Rect.unit (s := S1x512) ![0, 0] S1x512.size inb_S1x512_S1x512_0_0).toLoadRect (harg5.unread x3) = x3 := whole_read (M := 1) (N := 512) arg5 harg5 _ x3
  have e4 : View.readAt (Elt Ideal) arg6.view (Rect.unit (s := S768x128) ![0, 0] S768x128.size inb_S768x128_S768x128_0_0).toLoadRect (harg6.unread x4) = x4 := whole_read (M := 768) (N := 128) arg6 harg6 _ x4
  have e5 : View.readAt (Elt Ideal) arg7.view (Rect.unit (s := S768x128) ![0, 0] S768x128.size inb_S768x128_S768x128_0_0).toLoadRect (harg7.unread x5) = x5 := whole_read (M := 768) (N := 128) arg7 harg7 _ x5
  have f0 := scale_read arg8 harg8 0 ![0] rfl inb_S2_S1_0 (by rw [numel1_S1]; exact Nat.one_pos) x6
  have f1 := scale_read arg8 harg8 1 ![1] rfl inb_S2_S1_1 (by rw [numel1_S1]; exact Nat.one_pos) x6
  funext y
  refine View.canon_apply_of_pieces (kG x0 x1 x2 x3 x6 C S) _ ?_ y (coverK (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 y)
  exact key _ _ _ _ _ _ _ _ e0.symm e1.symm e2.symm e3.symm e4.symm e5.symm f0.symm f1.symm

/-- The value codes. -/
theorem runV (c : Dev nD) (i : grid0.Coords) (arg2 : Memref sig .tc .vmem S768x12288 .fp8e4m3) (harg2 : arg2.IsWhole) (arg3 : Memref sig .tc .vmem S12288x512 .fp8e4m3) (harg3 : arg3.IsWhole) (arg4 : Memref sig .tc .vmem S768x1 .f32) (harg4 : arg4.IsWhole) (arg5 : Memref sig .tc .vmem S1x512 .f32) (harg5 : arg5.IsWhole) (arg6 : Memref sig .tc .vmem S768x128 .f32) (harg6 : arg6.IsWhole) (arg7 : Memref sig .tc .vmem S768x128 .f32) (harg7 : arg7.IsWhole) (arg8 : Memref sig .tc .smem S2 .f32) (harg8 : arg8.IsWhole) (arg9 : Memref sig .tc .smem S2 .f32) (harg9 : arg9.IsWhole) (arg10 : Memref sig .tc .vmem S768x512 .bf16) (harg10 : arg10.IsWhole) (arg11 : Memref sig .tc .vmem S768x256 .fp8e4m3) (harg11 : arg11.IsWhole) (arg12 : Memref sig .tc .vmem S768x256 .fp8e4m3) (harg12 : arg12.IsWhole) (hc0 : ¬cond0_0 i) (hc1 : cond0_1 i)
    (x0 : Vec Ideal S768x12288 .fp8e4m3) (x1 : Vec Ideal S12288x512 .fp8e4m3) (x2 : Vec Ideal S768x1 .f32) (x3 : Vec Ideal S1x512 .f32) (x4 : Vec Ideal S768x128 .f32) (x5 : Vec Ideal S768x128 .f32) (x6 : Vec Ideal S2 .f32) (x7 : Vec Ideal S2 .f32) (C S : Fin 768 → ℕ → EReal) (hC : ∀ p (j : Fin 128), x4 (ix2 p j) = C p (j.val / 2))
    (hS : ∀ p (j : Fin 128), x5 (ix2 p j) = if j.val % 2 = 0 then -S p (j.val / 2) else S p (j.val / 2)) :
    View.canon (kernelRunB (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1 = vG x0 x1 x2 x3 x7 := by
  have key : ∀ (z0 : Vec Ideal S768x12288 .fp8e4m3) (z1 : Vec Ideal S12288x512 .fp8e4m3) (z2 : Vec Ideal S768x1 .f32) (z3 : Vec Ideal S1x512 .f32) (z4 z5 : Vec Ideal S768x128 .f32) (s0 s1 : Elt Ideal .f32), x0 = z0 → x1 = z1 → x2 = z2 → x3 = z3 → x4 = z4 → x5 = z5 → x7 (ix1 0) = s0 → x7 (ix1 1) = s1 →
      ∀ pc ∈ ([⟨Rect.unit (s := S768x256) ![0, 128] S768x128.size inb_S768x256_S768x128_0_128, k0_pay5 (k0_pay20 (k0_pay1 z0 z1 z2 z3)) (k0_pay21 s1)⟩,
        ⟨Rect.unit (s := S768x256) ![0, 0] S768x128.size inb_S768x256_S768x128_0_0, k0_pay18 (k0_pay16 (k0_pay1 z0 z1 z2 z3) s0) k0_pay17⟩] : List (View.Piece (Elt Ideal) S768x256 .fp8e4m3)),
        ∀ x : pc.1.shape.Idx, pc.2 x = vG x0 x1 x2 x3 x7 (pc.1.emb x) := by
    intro _ _ _ _ _ _ _ _ rfl rfl rfl rfl rfl rfl rfl rfl
    refine List.forall_mem_cons.2 ⟨fun x => (congrFun (pay5_eq _ _) x).trans (v_piece x0 x1 x2 x3 x7 1 128 rfl 384 rfl _ inb_S768x256_S768x128_0_128 _ rfl x), ?_⟩
    refine List.forall_mem_cons.2 ⟨fun x => (congrFun (pay18_eq _ _) x).trans (v_piece x0 x1 x2 x3 x7 0 0 rfl 256 rfl _ inb_S768x256_S768x128_0_0 _ rfl x), ?_⟩
    exact fun _ h => absurd h List.not_mem_nil
  have e0 : View.readAt (Elt Ideal) arg2.view (Rect.unit (s := S768x12288) ![0, 0] S768x12288.size inb_S768x12288_S768x12288_0_0).toLoadRect (harg2.unread x0) = x0 := whole_read (M := 768) (N := 12288) arg2 harg2 _ x0
  have e1 : View.readAt (Elt Ideal) arg3.view (Rect.unit (s := S12288x512) ![0, 0] S12288x512.size inb_S12288x512_S12288x512_0_0).toLoadRect (harg3.unread x1) = x1 := whole_read (M := 12288) (N := 512) arg3 harg3 _ x1
  have e2 : View.readAt (Elt Ideal) arg4.view (Rect.unit (s := S768x1) ![0, 0] S768x1.size inb_S768x1_S768x1_0_0).toLoadRect (harg4.unread x2) = x2 := whole_read (M := 768) (N := 1) arg4 harg4 _ x2
  have e3 : View.readAt (Elt Ideal) arg5.view (Rect.unit (s := S1x512) ![0, 0] S1x512.size inb_S1x512_S1x512_0_0).toLoadRect (harg5.unread x3) = x3 := whole_read (M := 1) (N := 512) arg5 harg5 _ x3
  have e4 : View.readAt (Elt Ideal) arg6.view (Rect.unit (s := S768x128) ![0, 0] S768x128.size inb_S768x128_S768x128_0_0).toLoadRect (harg6.unread x4) = x4 := whole_read (M := 768) (N := 128) arg6 harg6 _ x4
  have e5 : View.readAt (Elt Ideal) arg7.view (Rect.unit (s := S768x128) ![0, 0] S768x128.size inb_S768x128_S768x128_0_0).toLoadRect (harg7.unread x5) = x5 := whole_read (M := 768) (N := 128) arg7 harg7 _ x5
  have f0 := scale_read arg9 harg9 0 ![0] rfl inb_S2_S1_0 (by rw [numel1_S1]; exact Nat.one_pos) x7
  have f1 := scale_read arg9 harg9 1 ![1] rfl inb_S2_S1_1 (by rw [numel1_S1]; exact Nat.one_pos) x7
  funext y
  refine View.canon_apply_of_pieces (vG x0 x1 x2 x3 x7) _ ?_ y (coverV (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 y)
  exact key _ _ _ _ _ _ _ _ e0.symm e1.symm e2.symm e3.symm e4.symm e5.symm f0.symm f1.symm

end Cert.QkvIdeal.Hand

end
-- ==== Proof.QkvHost.lean ====
/- The cosines and sines as the projecting kernel reads them: each repeated over its pair of columns, the sines' signs
   alternating; and the column scales laid out as one row. -/
module

public import proofs.«01_k».proof.Proof.QkvSpec
public import proofs.«01_k».proof.Proof.Gen.QkvIdeal.Frame

@[expose] public section

set_option maxRecDepth 16384

noncomputable section

namespace Cert.Proof

open Idealize.ShloMosaic Idealize.ShloMosaic.ValueIdx

section
variable {M : ℕ}

theorem flat_apply {α : Type} (x : (⟨3, ![M, 64, 2]⟩ : Shape).Idx → α) (h : (⟨3, ![M, 64, 2]⟩ : Shape).ShapeCasts ⟨2, ![M, 128]⟩) (r : Fin M) (j : Fin 128) :
    shapeCast ⟨2, ![M, 128]⟩ x h (ix2 r j) = x (ix3 r ⟨j.val / 2, by omega⟩ ⟨j.val % 2, by omega⟩) :=
  shapeCast_apply x h (ix2 r j) _ (by
    rw [Shape.rowMajor_val_two, Shape.rowMajor_val_three]
    show (r.val * 64 + j.val / 2) * 2 + j.val % 2 = r.val * 128 + j.val
    omega)

theorem spread_apply {α : Type} {n : ℕ} (x : (⟨2, ![M, 64]⟩ : Shape).Idx → α) (h : (⟨2, ![M, 64]⟩ : Shape).BroadcastsInDim ⟨3, ![M, 64, n]⟩ ![0, 1])
    (r : Fin M) (p : Fin 64) (e : Fin n) : broadcastInDim ⟨3, ![M, 64, n]⟩ ![0, 1] h x (ix3 r p e) = x (ix2 r p) :=
  broadcastInDim_apply _ h x _ (ix2 r p) fun a => by
    match a with
    | ⟨0, _⟩ =>
      show r.val = if M = 1 then 0 else r.val
      split
      · have := r.isLt; omega
      · rfl
    | ⟨1, _⟩ => rfl

/-- Each value repeated over its pair of columns. -/
theorem twice_apply {α : Type} (x : (⟨2, ![M, 64]⟩ : Shape).Idx → α) (h : (⟨2, ![M, 64]⟩ : Shape).BroadcastsInDim ⟨3, ![M, 64, 2]⟩ ![0, 1])
    (h' : (⟨3, ![M, 64, 2]⟩ : Shape).ShapeCasts ⟨2, ![M, 128]⟩) (r : Fin M) (j : Fin 128) :
    shapeCast ⟨2, ![M, 128]⟩ (broadcastInDim ⟨3, ![M, 64, 2]⟩ ![0, 1] h x) h' (ix2 r j) = x (ix2 r ⟨j.val / 2, by omega⟩) :=
  (flat_apply _ h' r j).trans (spread_apply x h r _ _)

/-- Two values side by side over the pair. -/
theorem sides_apply {α : Type} (x y : (⟨2, ![M, 64]⟩ : Shape).Idx → α) (h : (⟨2, ![M, 64]⟩ : Shape).BroadcastsInDim ⟨3, ![M, 64, 1]⟩ ![0, 1])
    (h' : (⟨3, ![M, 64, 2]⟩ : Shape).ShapeCasts ⟨2, ![M, 128]⟩)
    (h'' : Shape.Concatenates [⟨3, ![M, 64, 1]⟩, ⟨3, ![M, 64, 1]⟩] ⟨3, ![M, 64, 2]⟩ 2) (r : Fin M) (j : Fin 128) :
    shapeCast ⟨2, ![M, 128]⟩ (concatenate ⟨3, ![M, 64, 2]⟩ 2
        [⟨⟨3, ![M, 64, 1]⟩, broadcastInDim ⟨3, ![M, 64, 1]⟩ ![0, 1] h x⟩, ⟨⟨3, ![M, 64, 1]⟩, broadcastInDim ⟨3, ![M, 64, 1]⟩ ![0, 1] h y⟩] h'') h' (ix2 r j)
      = if j.val % 2 = 0 then x (ix2 r ⟨j.val / 2, by omega⟩) else y (ix2 r ⟨j.val / 2, by omega⟩) := by
  rw [flat_apply]
  by_cases e : j.val % 2 = 0
  · rw [if_pos e]
    refine (concatenate_pair_apply_left _ _ _ h'' _ rfl (ix3 r ⟨j.val / 2, by omega⟩ 0) fun b => ?_).trans (spread_apply x h r _ _)
    match b with
    | ⟨0, _⟩ => rfl
    | ⟨1, _⟩ => rfl
    | ⟨2, _⟩ => show 0 = j.val % 2; omega
  · rw [if_neg e]
    refine (concatenate_pair_apply_right _ _ _ h'' _ rfl rfl (ix3 r ⟨j.val / 2, by omega⟩ 0) (fun b hb => ?_) ?_).trans (spread_apply y h r _ _)
    · match b, hb with
      | ⟨0, _⟩, _ => rfl
      | ⟨1, _⟩, _ => rfl
      | ⟨2, _⟩, hb => exact absurd rfl hb
    · show 0 + 1 = j.val % 2; omega

end

end Cert.Proof

namespace Cert.QkvIdeal.Hand

open Cert.QkvIdeal Cert.QkvIdeal.Gen Idealize.ShloMosaic Idealize.ShloMosaic.TcCoe Idealize.SL.Sem
open Idealize.ShloMosaic.ValueIdx Cert.Proof

variable (m : (ℓ : Loc nD τ sig) → Buf (Elt Ideal) ℓ)

/-- The host operations, run to one of the arrays they make. -/
theorem V_v7 (c : Dev nD) : V m c main_v7 = shapeCast S1x20480 (m ((c : Thread nD τ).loc main_arg3)) shapeCasts_S20480_S1x20480 := by
  show StableHlo.after hostOps0 _ _ = _
  unfold hostOps0
  simp (discharger := decide) only [List.flatten_cons, List.flatten_nil, List.append_nil, List.cons_append, List.nil_append,
    StableHlo.after_cons, StableHlo.after_nil, StableHlo.unary_result', StableHlo.binary_result', StableHlo.reshape_result',
    StableHlo.unary_result_ne', StableHlo.binary_result_ne', StableHlo.reshape_result_ne']
  rfl

theorem V_v1 (c : Dev nD) : V m c main_v1 = shapeCast S10752x128 (broadcastInDim S10752x64x2 ![0, 1] bcast_S10752x64_S10752x64x2_0_1
    (m ((c : Thread nD τ).loc main_arg4))) shapeCasts_S10752x64x2_S10752x128 := by
  show StableHlo.after hostOps0 _ _ = _
  unfold hostOps0
  simp (discharger := decide) only [List.flatten_cons, List.flatten_nil, List.append_nil, List.cons_append, List.nil_append,
    StableHlo.after_cons, StableHlo.after_nil, StableHlo.unary_result', StableHlo.binary_result', StableHlo.reshape_result',
    StableHlo.unary_result_ne', StableHlo.binary_result_ne', StableHlo.reshape_result_ne']
  rfl

theorem V_v6 (c : Dev nD) : V m c main_v6 = shapeCast S10752x128 (concatenate S10752x64x2 2
    [⟨S10752x64x1, broadcastInDim S10752x64x1 ![0, 1] bcast_S10752x64_S10752x64x1_0_1 (Host.negf (F := Ideal) (φ := .f32) (s := S10752x64) (m ((c : Thread nD τ).loc main_arg5)))⟩,
      ⟨S10752x64x1, broadcastInDim S10752x64x1 ![0, 1] bcast_S10752x64_S10752x64x1_0_1 (m ((c : Thread nD τ).loc main_arg5))⟩]
    concatenates_S10752x64x1_S10752x64x1_S10752x64x2_d2 : FVec Ideal S10752x64x2 .f32) shapeCasts_S10752x64x2_S10752x128 := by
  show StableHlo.after hostOps0 _ _ = _
  unfold hostOps0
  simp (discharger := decide) only [List.flatten_cons, List.flatten_nil, List.append_nil, List.cons_append, List.nil_append,
    StableHlo.after_cons, StableHlo.after_nil, StableHlo.unary_result', StableHlo.binary_result', StableHlo.reshape_result',
    StableHlo.unary_result_ne', StableHlo.binary_result_ne', StableHlo.reshape_result_ne']
  rfl

/-- The cosines' and the sines' arrays, read at a row and a column. -/
theorem cos_at (c : Dev nD) (r : Fin 10752) (j : Fin 128) :
    V m c main_v1 (ix2 r j) = ent (M := 10752) (N := 64) (m ((c : Thread nD τ).loc main_arg4)) r.val (j.val / 2) := by
  rw [V_v1]
  refine (twice_apply (M := 10752) _ bcast_S10752x64_S10752x64x2_0_1 shapeCasts_S10752x64x2_S10752x128 r j).trans ?_
  unfold ent
  rw [dif_pos r.isLt, dif_pos (show j.val / 2 < 64 by omega)]

theorem sin_at (c : Dev nD) (r : Fin 10752) (j : Fin 128) :
    V m c main_v6 (ix2 r j) = if j.val % 2 = 0 then -ent (M := 10752) (N := 64) (m ((c : Thread nD τ).loc main_arg5)) r.val (j.val / 2)
      else ent (M := 10752) (N := 64) (m ((c : Thread nD τ).loc main_arg5)) r.val (j.val / 2) := by
  rw [V_v6]
  refine (sides_apply (M := 10752) _ _ bcast_S10752x64_S10752x64x1_0_1 shapeCasts_S10752x64x2_S10752x128
    concatenates_S10752x64x1_S10752x64x1_S10752x64x2_d2 r j).trans ?_
  unfold ent
  rw [dif_pos r.isLt, dif_pos (show j.val / 2 < 64 by omega)]
  rfl

end Cert.QkvIdeal.Hand

end
-- ==== Proof.QkvValue.lean ====
/- What the projecting kernel leaves in its three result arrays: the queries, the key codes and the value codes of its
   arguments. -/
module

public import proofs.«01_k».proof.Proof.QkvBlocks
public import proofs.«01_k».proof.Proof.QkvHost
public import Idealize.ShloMosaic.Lib.Pipeline.ArrRel

@[expose] public section

set_option maxRecDepth 16384

noncomputable section

namespace Cert.QkvIdeal.Hand

open Cert.QkvIdeal Cert.QkvIdeal.Gen Idealize.ShloMosaic Idealize.ShloMosaic.TcCoe Idealize.SL.Sem
open Idealize.ShloMosaic.ValueIdx Cert.Proof
open Idealize.ShloMosaic.Pipeline (Dat)

variable (m : (ℓ : Loc nD τ sig) → Buf (Elt Ideal) ℓ) (ρ : Dev nD → PrngReg)

/-! ## The blocks at a point -/

/-- Each window's block index at each point of the grid. -/
theorem idx_facts : ∀ t : Fin cfg0.N,
    win0_0.index t (0 : Fin 2) = t.val / 7 ∧ win0_0.index t (1 : Fin 2) = 0
    ∧ win0_1.index t (0 : Fin 2) = 0 ∧ win0_1.index t (1 : Fin 2) = t.val % 7
    ∧ win0_2.index t (0 : Fin 2) = t.val / 7 ∧ win0_2.index t (1 : Fin 2) = 0
    ∧ win0_3.index t (0 : Fin 2) = 0 ∧ win0_3.index t (1 : Fin 2) = t.val % 7
    ∧ win0_4.index t (0 : Fin 2) = t.val / 7 ∧ win0_4.index t (1 : Fin 2) = 0
    ∧ win0_5.index t (0 : Fin 2) = t.val / 7 ∧ win0_5.index t (1 : Fin 2) = 0
    ∧ win0_6.index t (0 : Fin 1) = 0 ∧ win0_7.index t (0 : Fin 1) = 0
    ∧ win0_8.index t (0 : Fin 2) = t.val / 7 ∧ win0_8.index t (1 : Fin 2) = min (t.val % 7) 5
    ∧ win0_9.index t (0 : Fin 2) = t.val / 7 ∧ win0_9.index t (1 : Fin 2) = 0
    ∧ win0_10.index t (0 : Fin 2) = t.val / 7 ∧ win0_10.index t (1 : Fin 2) = 0 :=
  (by decide +kernel : ∀ t : Fin grid0.N, _)

theorem pts (t : Fin cfg0.N) : t.val < 98 := t.isLt

/-- A row of a point's block, in the array. -/
def row (t : Fin cfg0.N) (p : Fin 768) : Fin 10752 := ⟨t.val / 7 * 768 + p.val, by have := pts t; omega⟩

/-- A column of the block's projection is that of the fused projection. -/
theorem cols_at (c : Dev nD) (t : Fin cfg0.N) (p : Fin 768) (q : ℕ) (hq : q < 512) :
    projRow (iblk m c 0 t) (iblk m c 1 t) (iblk m c 2 t) (iblk m c 3 t) p q
      = fused (m ((c : Thread nD τ).loc main_arg0)) (m ((c : Thread nD τ).loc main_arg1)) (m ((c : Thread nD τ).loc main_arg2)) (m ((c : Thread nD τ).loc main_arg3)) (row t p) (t.val % 7 * 512 + q) := by
  obtain ⟨e0a, e0b, e1a, e1b, e2a, e2b, e3a, e3b, e4a, e4b, e5a, e5b, e6a, e7a, e8a, e8b, e9a, e9b, e10a, e10b⟩ := idx_facts t
  have ht := pts t
  have hc : t.val % 7 * 512 + q < 20480 := by omega
  have h0 : ∀ k : Fin 12288, iblk m c 0 t (ix2 p k) = (m ((c : Thread nD τ).loc main_arg0)) (ix2 (row t p) k) := fun k => by
    refine (congrArg (V m c main_arg0) (Shape.idx_ext₂ ?_ ?_)).trans (congrFun (V_main_arg0 m c) _)
    · show win0_0.index t (0 : Fin 2) * 768 + 1 * p.val = t.val / 7 * 768 + p.val
      omega
    · show win0_0.index t (1 : Fin 2) * 12288 + 1 * k.val = k.val
      omega
  have h1 : ∀ k : Fin 12288, iblk m c 1 t (ix2 k (⟨q, hq⟩ : Fin 512)) = (m ((c : Thread nD τ).loc main_arg1)) (ix2 k (⟨t.val % 7 * 512 + q, hc⟩ : Fin 20480)) := fun k => by
    refine (congrArg (V m c main_arg1) (Shape.idx_ext₂ ?_ ?_)).trans (congrFun (V_main_arg1 m c) _)
    · show win0_1.index t (0 : Fin 2) * 12288 + 1 * k.val = k.val
      omega
    · show win0_1.index t (1 : Fin 2) * 512 + 1 * q = t.val % 7 * 512 + q
      omega
  have h2 : iblk m c 2 t (ix2 p 0) = (m ((c : Thread nD τ).loc main_arg2)) (ix2 (row t p) 0) := by
    refine (congrArg (V m c main_arg2) (Shape.idx_ext₂ ?_ ?_)).trans (congrFun (V_main_arg2 m c) _)
    · show win0_2.index t (0 : Fin 2) * 768 + 1 * p.val = t.val / 7 * 768 + p.val
      omega
    · show win0_2.index t (1 : Fin 2) * 1 + 1 * 0 = 0
      omega
  have h3 : iblk m c 3 t (ix2 0 (⟨q, hq⟩ : Fin 512)) = shapeCast S1x20480 (m ((c : Thread nD τ).loc main_arg3)) shapeCasts_S20480_S1x20480 (ix2 0 (⟨t.val % 7 * 512 + q, hc⟩ : Fin 20480)) := by
    refine (congrArg (V m c main_v7) (Shape.idx_ext₂ ?_ ?_)).trans (congrFun (V_v7 m c) _)
    · show win0_3.index t (0 : Fin 2) * 1 + 1 * 0 = 0
      omega
    · show win0_3.index t (1 : Fin 2) * 512 + 1 * q = t.val % 7 * 512 + q
      omega
  unfold fused projRow
  rw [dif_pos hq, dif_pos hc]
  exact proj_congr h0 h1 h2 h3

/-- The block of cosines, -/
theorem cos_blk (c : Dev nD) (t : Fin cfg0.N) (p : Fin 768) (j : Fin 128) :
    iblk m c 4 t (ix2 p j) = ent (M := 10752) (N := 64) (m ((c : Thread nD τ).loc main_arg4)) (row t p).val (j.val / 2) := by
  obtain ⟨e0a, e0b, e1a, e1b, e2a, e2b, e3a, e3b, e4a, e4b, e5a, e5b, e6a, e7a, e8a, e8b, e9a, e9b, e10a, e10b⟩ := idx_facts t
  refine (congrArg (V m c main_v1) (Shape.idx_ext₂ ?_ ?_)).trans (cos_at m c (row t p) j)
  · show win0_4.index t (0 : Fin 2) * 768 + 1 * p.val = t.val / 7 * 768 + p.val
    omega
  · show win0_4.index t (1 : Fin 2) * 128 + 1 * j.val = j.val
    omega

/-- and of sines. -/
theorem sin_blk (c : Dev nD) (t : Fin cfg0.N) (p : Fin 768) (j : Fin 128) :
    iblk m c 5 t (ix2 p j) = if j.val % 2 = 0 then -ent (M := 10752) (N := 64) (m ((c : Thread nD τ).loc main_arg5)) (row t p).val (j.val / 2)
      else ent (M := 10752) (N := 64) (m ((c : Thread nD τ).loc main_arg5)) (row t p).val (j.val / 2) := by
  obtain ⟨e0a, e0b, e1a, e1b, e2a, e2b, e3a, e3b, e4a, e4b, e5a, e5b, e6a, e7a, e8a, e8b, e9a, e9b, e10a, e10b⟩ := idx_facts t
  refine (congrArg (V m c main_v6) (Shape.idx_ext₂ ?_ ?_)).trans (sin_at m c (row t p) j)
  · show win0_5.index t (0 : Fin 2) * 768 + 1 * p.val = t.val / 7 * 768 + p.val
    omega
  · show win0_5.index t (1 : Fin 2) * 128 + 1 * j.val = j.val
    omega

/-- The key scales -/
theorem scale6 (c : Dev nD) (t : Fin cfg0.N) : iblk m c 6 t = (m ((c : Thread nD τ).loc main_arg6)) := by
  obtain ⟨e0a, e0b, e1a, e1b, e2a, e2b, e3a, e3b, e4a, e4b, e5a, e5b, e6a, e7a, e8a, e8b, e9a, e9b, e10a, e10b⟩ := idx_facts t
  refine Eq.trans (funext fun i => congrArg (V m c main_arg6) (funext fun b => Fin.ext ?_)) (V_main_arg6 m c)
  match b with
  | ⟨0, _⟩ => show win0_6.index t (0 : Fin 1) * 2 + 1 * (i 0).val = (i 0).val; omega
/-- and the value scales. -/
theorem scale7 (c : Dev nD) (t : Fin cfg0.N) : iblk m c 7 t = (m ((c : Thread nD τ).loc main_arg7)) := by
  obtain ⟨e0a, e0b, e1a, e1b, e2a, e2b, e3a, e3b, e4a, e4b, e5a, e5b, e6a, e7a, e8a, e8b, e9a, e9b, e10a, e10b⟩ := idx_facts t
  refine Eq.trans (funext fun i => congrArg (V m c main_arg7) (funext fun b => Fin.ext ?_)) (V_main_arg7 m c)
  match b with
  | ⟨0, _⟩ => show win0_7.index t (0 : Fin 1) * 2 + 1 * (i 0).val = (i 0).val; omega

/-! ## The results -/

/-- The queries, -/
def q (c : Dev nD) : S10752x3072.Idx → EReal := qOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- the key codes -/
def k (c : Dev nD) : S10752x256.Idx → EReal := kOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- and the value codes. -/
def v (c : Dev nD) : S10752x256.Idx → EReal := vOf (m ((c : Thread nD τ).loc main_arg0)) (m ((c : Thread nD τ).loc main_arg1)) (m ((c : Thread nD τ).loc main_arg2)) (m ((c : Thread nD τ).loc main_arg3)) (m ((c : Thread nD τ).loc main_arg7))

theorem outQ_at (c : Dev nD) (t : Fin cfg0.N) (h : t.val % 7 ≤ 5) (p : Fin 768) (j : Fin 512) :
    outQ m c t h (ix2 p j) = q m c (ix2 (row t p) (⟨t.val % 7 * 512 + j.val, by omega⟩ : Fin 3072)) := by
  unfold outQ
  refine (congrFun (runQ (C := fun p k => ent (M := 10752) (N := 64) (m ((c : Thread nD τ).loc main_arg4)) (row t p).val k) (S := fun p k => ent (M := 10752) (N := 64) (m ((c : Thread nD τ).loc main_arg5)) (row t p).val k) (hC := cos_blk m c t) (hS := sin_blk m c t) ..) (ix2 p j)).trans ?_
  show rotAt (projRow (iblk m c 0 t) (iblk m c 1 t) (iblk m c 2 t) (iblk m c 3 t) p) (ent (M := 10752) (N := 64) (m ((c : Thread nD τ).loc main_arg4)) (row t p).val) (ent (M := 10752) (N := 64) (m ((c : Thread nD τ).loc main_arg5)) (row t p).val) j.val = rotAt (fused (m ((c : Thread nD τ).loc main_arg0)) (m ((c : Thread nD τ).loc main_arg1)) (m ((c : Thread nD τ).loc main_arg2)) (m ((c : Thread nD τ).loc main_arg3)) (row t p)) (ent (M := 10752) (N := 64) (m ((c : Thread nD τ).loc main_arg4)) (row t p).val) (ent (M := 10752) (N := 64) (m ((c : Thread nD τ).loc main_arg5)) (row t p).val) (t.val % 7 * 512 + j.val)
  exact rotAt_congr (by omega) (fun i hi => (cols_at m c t p _ (by omega)).trans (congrArg (fused (m ((c : Thread nD τ).loc main_arg0)) (m ((c : Thread nD τ).loc main_arg1)) (m ((c : Thread nD τ).loc main_arg2)) (m ((c : Thread nD τ).loc main_arg3)) (row t p)) (by omega))) (fun _ _ => rfl) (fun _ _ => rfl)

theorem outK_at (c : Dev nD) (t : Fin cfg0.N) (h : t.val % 7 = 6) (p : Fin 768) (j : Fin 256) :
    outK m c t h (ix2 p j) = k m c (ix2 (row t p) j) := by
  unfold outK
  refine (congrFun (runK (C := fun p k => ent (M := 10752) (N := 64) (m ((c : Thread nD τ).loc main_arg4)) (row t p).val k) (S := fun p k => ent (M := 10752) (N := 64) (m ((c : Thread nD τ).loc main_arg5)) (row t p).val k) (hC := cos_blk m c t) (hS := sin_blk m c t) ..) (ix2 p j)).trans ?_
  rw [scale6]
  show clip (Ideal.div (rotAt (projRow (iblk m c 0 t) (iblk m c 1 t) (iblk m c 2 t) (iblk m c 3 t) p) (ent (M := 10752) (N := 64) (m ((c : Thread nD τ).loc main_arg4)) (row t p).val) (ent (M := 10752) (N := 64) (m ((c : Thread nD τ).loc main_arg5)) (row t p).val) j.val) (ent₁ (m ((c : Thread nD τ).loc main_arg6)) (j.val / 128)))
    = clip (Ideal.div (rotAt (fused (m ((c : Thread nD τ).loc main_arg0)) (m ((c : Thread nD τ).loc main_arg1)) (m ((c : Thread nD τ).loc main_arg2)) (m ((c : Thread nD τ).loc main_arg3)) (row t p)) (ent (M := 10752) (N := 64) (m ((c : Thread nD τ).loc main_arg4)) (row t p).val) (ent (M := 10752) (N := 64) (m ((c : Thread nD τ).loc main_arg5)) (row t p).val) (3072 + j.val)) (ent₁ (m ((c : Thread nD τ).loc main_arg6)) (j.val / 128)))
  refine congrArg (fun z => clip (Ideal.div z _)) ?_
  exact rotAt_congr (by omega) (fun i hi => (cols_at m c t p _ (by omega)).trans (congrArg (fused (m ((c : Thread nD τ).loc main_arg0)) (m ((c : Thread nD τ).loc main_arg1)) (m ((c : Thread nD τ).loc main_arg2)) (m ((c : Thread nD τ).loc main_arg3)) (row t p)) (by omega))) (fun _ _ => rfl) (fun _ _ => rfl)

theorem outV_at (c : Dev nD) (t : Fin cfg0.N) (h : t.val % 7 = 6) (p : Fin 768) (j : Fin 256) :
    outV m c t h (ix2 p j) = v m c (ix2 (row t p) j) := by
  unfold outV
  refine (congrFun (runV (C := fun p k => ent (M := 10752) (N := 64) (m ((c : Thread nD τ).loc main_arg4)) (row t p).val k) (S := fun p k => ent (M := 10752) (N := 64) (m ((c : Thread nD τ).loc main_arg5)) (row t p).val k) (hC := cos_blk m c t) (hS := sin_blk m c t) ..) (ix2 p j)).trans ?_
  rw [scale7]
  show clip (Ideal.div ((projRow (iblk m c 0 t) (iblk m c 1 t) (iblk m c 2 t) (iblk m c 3 t) p) (256 + j.val)) (ent₁ (m ((c : Thread nD τ).loc main_arg7)) (j.val / 128)))
    = clip (Ideal.div (fused (m ((c : Thread nD τ).loc main_arg0)) (m ((c : Thread nD τ).loc main_arg1)) (m ((c : Thread nD τ).loc main_arg2)) (m ((c : Thread nD τ).loc main_arg3)) (row t p) (3328 + j.val)) (ent₁ (m ((c : Thread nD τ).loc main_arg7)) (j.val / 128)))
  refine congrArg (fun z => clip (Ideal.div z _)) ?_
  exact (cols_at m c t p _ (by omega)).trans (congrArg (fused (m ((c : Thread nD τ).loc main_arg0)) (m ((c : Thread nD τ).loc main_arg1)) (m ((c : Thread nD τ).loc main_arg2)) (m ((c : Thread nD τ).loc main_arg3)) (row t p)) (by omega))

/-! ## The arrays -/

/-- An index is in a point's block iff each coordinate is in the block's range on its axis. -/
theorem mem8 (t : Fin cfg0.N) (i : S10752x3072.Idx) :
    i ∈ ((cfg0.win 8).blk t).view.set ↔ ∀ a : Fin 2, win0_8.index t a * S768x512.size a ≤ (i a).val ∧ (i a).val < win0_8.index t a * S768x512.size a + S768x512.size a := by
  show i ∈ ((View.whole main_v8_0).slice (win0_8.rect t)).set ↔ _
  rw [View.set_slice_whole, Rect.mem_set_unit]
  exact Iff.rfl
theorem mem9 (t : Fin cfg0.N) (i : S10752x256.Idx) :
    i ∈ ((cfg0.win 9).blk t).view.set ↔ ∀ a : Fin 2, win0_9.index t a * S768x256.size a ≤ (i a).val ∧ (i a).val < win0_9.index t a * S768x256.size a + S768x256.size a := by
  show i ∈ ((View.whole main_v8_1).slice (win0_9.rect t)).set ↔ _
  rw [View.set_slice_whole, Rect.mem_set_unit]
  exact Iff.rfl
theorem mem10 (t : Fin cfg0.N) (i : S10752x256.Idx) :
    i ∈ ((cfg0.win 10).blk t).view.set ↔ ∀ a : Fin 2, win0_10.index t a * S768x256.size a ≤ (i a).val ∧ (i a).val < win0_10.index t a * S768x256.size a + S768x256.size a := by
  show i ∈ ((View.whole main_v8_2).slice (win0_10.rect t)).set ↔ _
  rw [View.set_slice_whole, Rect.mem_set_unit]
  exact Iff.rfl

section
variable (c : Dev nD) (after : (w : Fin cfg0.W) → Fin cfg0.N → (cfg0.win w).block.Idx → Elt Ideal (cfg0.win w).elt)

/-- The queries' array: the last block of columns is written back a point after it was made. -/
theorem final8 (hL : ∀ t, (cfg0.win 8).flush t = true → leaves m c 8 t (after 8 t)) :
    ((rdat m c).withAfter after).arrAt 8 cfg0.N = q m c := by
  refine ((rdat m c).withAfter after).arrAt_eq_of_cover 8 _ (fun t hf => ?_) (fun i => ?_)
  · show (cfg0.win 8).cut (grid0.coords t) (((rdat m c).withAfter after).after 8 t) = _
    rw [Pipeline.RDat.withAfter_after]
    obtain ⟨hA, hB⟩ := hL t hf
    have h5 := (flush8 t).mp hf
    have ht := pts t
    obtain ⟨e0a, e0b, e1a, e1b, e2a, e2b, e3a, e3b, e4a, e4b, e5a, e5b, e6a, e7a, e8a, e8b, e9a, e9b, e10a, e10b⟩ := idx_facts t
    funext y
    obtain ⟨p, j, rfl⟩ : ∃ (p : Fin 768) (j : Fin 512), y = ix2 p j := ⟨_, _, eq_ix2 y⟩
    show after 8 t (ix2 p j) = q m c (((cfg0.win 8).blk t).view.emb (ix2 p j))
    have hj := j.isLt
    by_cases h6 : t.val % 7 = 6
    · have hp : (prev t).val % 7 ≤ 5 := by show (t.val - 1) % 7 ≤ 5; omega
      rw [hB h6 hp, outQ_at]
      refine congrArg (q m c) (Shape.idx_ext₂ ?_ ?_)
      · show (t.val - 1) / 7 * 768 + p.val = win0_8.index t (0 : Fin 2) * 768 + 1 * p.val
        omega
      · show (t.val - 1) % 7 * 512 + j.val = win0_8.index t (1 : Fin 2) * 512 + 1 * j.val
        omega
    · rw [hA (by omega), outQ_at]
      refine congrArg (q m c) (Shape.idx_ext₂ ?_ ?_)
      · show t.val / 7 * 768 + p.val = win0_8.index t (0 : Fin 2) * 768 + 1 * p.val
        omega
      · show t.val % 7 * 512 + j.val = win0_8.index t (1 : Fin 2) * 512 + 1 * j.val
        omega
  · have hi0 : (i 0).val < 10752 := (i 0).isLt
    have hi1 : (i 1).val < 3072 := (i 1).isLt
    obtain ⟨n, hn⟩ : ∃ n : ℕ, n ≤ 6 ∧ n ≠ 5 ∧ min n 5 = (i 1).val / 512 := by
      by_cases e : (i 1).val / 512 = 5
      · exact ⟨6, by omega, by omega, by omega⟩
      · exact ⟨(i 1).val / 512, by omega, e, by omega⟩
    let t : Fin cfg0.N := ⟨(i 0).val / 768 * 7 + n, by show _ < 98; omega⟩
    have htv : t.val = (i 0).val / 768 * 7 + n := rfl
    obtain ⟨e0a, e0b, e1a, e1b, e2a, e2b, e3a, e3b, e4a, e4b, e5a, e5b, e6a, e7a, e8a, e8b, e9a, e9b, e10a, e10b⟩ := idx_facts t
    refine ⟨t, (flush8 t).mpr (by omega), (mem8 t i).mpr fun a => ?_⟩
    match a with
    | ⟨0, _⟩ => show win0_8.index t (0 : Fin 2) * 768 ≤ (i 0).val ∧ (i 0).val < win0_8.index t (0 : Fin 2) * 768 + 768; omega
    | ⟨1, _⟩ => show win0_8.index t (1 : Fin 2) * 512 ≤ (i 1).val ∧ (i 1).val < win0_8.index t (1 : Fin 2) * 512 + 512; omega

/-- The key codes' array. -/
theorem final9 (hL : ∀ t, (cfg0.win 9).flush t = true → leaves m c 9 t (after 9 t)) :
    ((rdat m c).withAfter after).arrAt 9 cfg0.N = k m c := by
  refine ((rdat m c).withAfter after).arrAt_eq_of_cover 9 _ (fun t hf => ?_) (fun i => ?_)
  · show (cfg0.win 9).cut (grid0.coords t) (((rdat m c).withAfter after).after 9 t) = _
    rw [Pipeline.RDat.withAfter_after]
    have hA : ∀ h, after 9 t = outK m c t h := hL t hf
    have h6 := (flush0_9 t).mp hf
    obtain ⟨e0a, e0b, e1a, e1b, e2a, e2b, e3a, e3b, e4a, e4b, e5a, e5b, e6a, e7a, e8a, e8b, e9a, e9b, e10a, e10b⟩ := idx_facts t
    funext y
    obtain ⟨p, j, rfl⟩ : ∃ (p : Fin 768) (j : Fin 256), y = ix2 p j := ⟨_, _, eq_ix2 y⟩
    show after 9 t (ix2 p j) = k m c (((cfg0.win 9).blk t).view.emb (ix2 p j))
    rw [hA h6, outK_at]
    refine congrArg (k m c) (Shape.idx_ext₂ ?_ ?_)
    · show t.val / 7 * 768 + p.val = win0_9.index t (0 : Fin 2) * 768 + 1 * p.val
      omega
    · show j.val = win0_9.index t (1 : Fin 2) * 256 + 1 * j.val
      omega
  · have hi0 : (i 0).val < 10752 := (i 0).isLt
    have hi1 : (i 1).val < 256 := (i 1).isLt
    let t : Fin cfg0.N := ⟨(i 0).val / 768 * 7 + 6, by show _ < 98; omega⟩
    have htv : t.val = (i 0).val / 768 * 7 + 6 := rfl
    obtain ⟨e0a, e0b, e1a, e1b, e2a, e2b, e3a, e3b, e4a, e4b, e5a, e5b, e6a, e7a, e8a, e8b, e9a, e9b, e10a, e10b⟩ := idx_facts t
    refine ⟨t, (flush0_9 t).mpr (by omega), (mem9 t i).mpr fun a => ?_⟩
    match a with
    | ⟨0, _⟩ => show win0_9.index t (0 : Fin 2) * 768 ≤ (i 0).val ∧ (i 0).val < win0_9.index t (0 : Fin 2) * 768 + 768; omega
    | ⟨1, _⟩ => show win0_9.index t (1 : Fin 2) * 256 ≤ (i 1).val ∧ (i 1).val < win0_9.index t (1 : Fin 2) * 256 + 256; omega

/-- The value codes' array. -/
theorem final10 (hL : ∀ t, (cfg0.win 10).flush t = true → leaves m c 10 t (after 10 t)) :
    ((rdat m c).withAfter after).arrAt 10 cfg0.N = v m c := by
  refine ((rdat m c).withAfter after).arrAt_eq_of_cover 10 _ (fun t hf => ?_) (fun i => ?_)
  · show (cfg0.win 10).cut (grid0.coords t) (((rdat m c).withAfter after).after 10 t) = _
    rw [Pipeline.RDat.withAfter_after]
    have hA : ∀ h, after 10 t = outV m c t h := hL t hf
    have h6 := (flush0_10 t).mp hf
    obtain ⟨e0a, e0b, e1a, e1b, e2a, e2b, e3a, e3b, e4a, e4b, e5a, e5b, e6a, e7a, e8a, e8b, e9a, e9b, e10a, e10b⟩ := idx_facts t
    funext y
    obtain ⟨p, j, rfl⟩ : ∃ (p : Fin 768) (j : Fin 256), y = ix2 p j := ⟨_, _, eq_ix2 y⟩
    show after 10 t (ix2 p j) = v m c (((cfg0.win 10).blk t).view.emb (ix2 p j))
    rw [hA h6, outV_at]
    refine congrArg (v m c) (Shape.idx_ext₂ ?_ ?_)
    · show t.val / 7 * 768 + p.val = win0_10.index t (0 : Fin 2) * 768 + 1 * p.val
      omega
    · show j.val = win0_10.index t (1 : Fin 2) * 256 + 1 * j.val
      omega
  · have hi0 : (i 0).val < 10752 := (i 0).isLt
    have hi1 : (i 1).val < 256 := (i 1).isLt
    let t : Fin cfg0.N := ⟨(i 0).val / 768 * 7 + 6, by show _ < 98; omega⟩
    have htv : t.val = (i 0).val / 768 * 7 + 6 := rfl
    obtain ⟨e0a, e0b, e1a, e1b, e2a, e2b, e3a, e3b, e4a, e4b, e5a, e5b, e6a, e7a, e8a, e8b, e9a, e9b, e10a, e10b⟩ := idx_facts t
    refine ⟨t, (flush0_10 t).mpr (by omega), (mem10 t i).mpr fun a => ?_⟩
    match a with
    | ⟨0, _⟩ => show win0_10.index t (0 : Fin 2) * 768 ≤ (i 0).val ∧ (i 0).val < win0_10.index t (0 : Fin 2) * 768 + 768; omega
    | ⟨1, _⟩ => show win0_10.index t (1 : Fin 2) * 256 ≤ (i 1).val ∧ (i 1).val < win0_10.index t (1 : Fin 2) * 256 + 256; omega

end

/-- Every run ends with the three results in their arrays and the arguments unchanged. -/
theorem run : θ_run defs (onTc (τ := τ) (main (F := Ideal))) ⟨m, fun _ => 0, ρ⟩ (fun r => ∀ c : Dev nD,
      r.2.mem ((c.tc : Thread nD τ).loc main_v8_0) = q m c
      ∧ r.2.mem ((c.tc : Thread nD τ).loc main_v8_1) = k m c
      ∧ r.2.mem ((c.tc : Thread nD τ).loc main_v8_2) = v m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    obtain ⟨after, hL, hA⟩ := Pipeline.RDat.FramePost.exists_exact h c
    exact ⟨(hA 8).trans (final8 m c after fun t hf => (dats m 0 c).toRRel_leaves (w := 8) rfl (hL 8 t hf)),
      (hA 9).trans (final9 m c after fun t hf => (dats m 0 c).toRRel_leaves (w := 9) rfl (hL 9 t hf)),
      (hA 10).trans (final10 m c after fun t hf => (dats m 0 c).toRRel_leaves (w := 10) rfl (hL 10 t hf)),
      (Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 6 rfl).trans ((A_eq m c 6).trans (V_main_arg6 m c)),
      (Pipeline.RDat.FramePost.arr_in h c 7 rfl).trans ((A_eq m c 7).trans (V_main_arg7 m c))⟩) (run_main m ρ)

end Cert.QkvIdeal.Hand

end
-- ==== Proof.QkvHeads.lean ====
/- The queries, key codes and value codes written by heads, read at a row and a column; at any sizes. -/
module

public import proofs.«01_k».proof.Proof.QkvSpec

@[expose] public section

noncomputable section

namespace Cert.Proof

open Idealize.ShloMosaic Idealize.ShloMosaic.ValueIdx

section
variable {M H N W : ℕ}

/-- Columns from `o` on. -/
theorem from_apply {α : Type} (x : (⟨2, ![M, N]⟩ : Shape).Idx → α) (o : ℕ) (h : (⟨2, ![M, N]⟩ : Shape).Slices ![0, o] ⟨2, ![M, W]⟩) (r : Fin M) (c : Fin W)
    (hc : o + c.val < N) : extractStridedSlice ⟨2, ![M, W]⟩ ![0, o] x h (ix2 r c) = x (ix2 r ⟨o + c.val, hc⟩) :=
  extractStridedSlice_apply _ x h _ _ fun a => by
    match a with
    | ⟨0, _⟩ => show r.val = 0 + r.val; omega
    | ⟨1, _⟩ => rfl

/-- Columns split into heads, -/
theorem heads_apply {α : Type} (hW : W = H * 128) (x : (⟨2, ![M, W]⟩ : Shape).Idx → α) (h : (⟨2, ![M, W]⟩ : Shape).ShapeCasts ⟨3, ![M, H, 128]⟩)
    (r : Fin M) (e : Fin H) (j : Fin 128) (hc : e.val * 128 + j.val < W) :
    shapeCast ⟨3, ![M, H, 128]⟩ x h (ix3 r e j) = x (ix2 r ⟨e.val * 128 + j.val, hc⟩) :=
  shapeCast_apply x h (ix3 r e j) _ (by
    rw [Shape.rowMajor_val_two, Shape.rowMajor_val_three]
    show r.val * W + (e.val * 128 + j.val) = (r.val * H + e.val) * 128 + j.val
    rw [hW]; ring)

/-- and put together again. -/
theorem flat_heads_apply {α : Type} (hW : W = H * 128) (x : (⟨3, ![M, H, 128]⟩ : Shape).Idx → α) (h : (⟨3, ![M, H, 128]⟩ : Shape).ShapeCasts ⟨2, ![M, W]⟩)
    (r : Fin M) (c : Fin W) (he : c.val / 128 < H) :
    shapeCast ⟨2, ![M, W]⟩ x h (ix2 r c) = x (ix3 r ⟨c.val / 128, he⟩ ⟨c.val % 128, by omega⟩) :=
  shapeCast_apply x h (ix2 r c) _ (by
    rw [Shape.rowMajor_val_two, Shape.rowMajor_val_three]
    show (r.val * H + c.val / 128) * 128 + c.val % 128 = r.val * W + c.val
    have e : r.val * W = r.val * H * 128 := by rw [hW, mul_assoc]
    rw [e, add_mul, add_assoc, Nat.div_add_mod'])

/-- A scale for each head. -/
theorem by_head_apply {α : Type} (x : (⟨1, ![H]⟩ : Shape).Idx → α) (h : (⟨1, ![H]⟩ : Shape).ShapeCasts ⟨3, ![1, H, 1]⟩)
    (h' : (⟨3, ![1, H, 1]⟩ : Shape).Broadcasts ⟨3, ![M, H, 128]⟩) (r : Fin M) (e : Fin H) (j : Fin 128) :
    broadcastTo ⟨3, ![M, H, 128]⟩ (shapeCast ⟨3, ![1, H, 1]⟩ x h) h' (ix3 r e j) = x (ix1 e) := by
  refine (broadcastTo_apply _ h' (ix3 r e j) (ix3 0 e 0) fun a => by
    match a with
    | ⟨0, _⟩ => rfl
    | ⟨1, _⟩ =>
      show e.val = if H = 1 then 0 else e.val
      split
      · have := e.isLt; omega
      · rfl
    | ⟨2, _⟩ => rfl).trans ?_
  refine shapeCast_apply x h _ (ix1 e) ?_
  rw [Shape.rowMajor_val_one, Shape.rowMajor_val_three]
  show e.val = (0 * H + e.val) * 1 + 0
  omega

theorem head_code_apply {s : Shape} (f g : FVec Ideal s .f32) (h : FTy.bits .fp8e4m3 < FTy.bits .f32) (i : s.Idx) :
    truncf .fp8e4m3 (minimumf (broadcast s (Scalar.ofBits .f32 0x43E00000#32)) (maximumf (broadcast s (Scalar.ofBits .f32 0xC3E00000#32)) (divf f g))) h i
      = clip (Ideal.div (f i) (g i)) := by
  show min (Ideal.ofBits .f32 0x43E00000#32) (max (Ideal.ofBits .f32 0xC3E00000#32) (Ideal.div (f i) (g i))) = _
  rw [ofBits_448]
  rfl

/-- Heads over their scales, as codes. -/
theorem heads_coded (hW : W = H * 128) (f : FVec Ideal ⟨3, ![M, H, 128]⟩ .f32) (sc : FVec Ideal ⟨1, ![H]⟩ .f32) (h : (⟨1, ![H]⟩ : Shape).ShapeCasts ⟨3, ![1, H, 1]⟩)
    (h' : (⟨3, ![1, H, 1]⟩ : Shape).Broadcasts ⟨3, ![M, H, 128]⟩) (hb : FTy.bits .fp8e4m3 < FTy.bits .f32)
    (h'' : (⟨3, ![M, H, 128]⟩ : Shape).ShapeCasts ⟨2, ![M, W]⟩) (g : ℕ → EReal) (o : ℕ) (r : Fin M)
    (hf : ∀ (e : Fin H) (j : Fin 128), f (ix3 r e j) = g (o + (e.val * 128 + j.val))) (c : Fin W) :
    shapeCast ⟨2, ![M, W]⟩ (truncf .fp8e4m3 (minimumf (broadcast ⟨3, ![M, H, 128]⟩ (Scalar.ofBits .f32 0x43E00000#32))
        (maximumf (broadcast ⟨3, ![M, H, 128]⟩ (Scalar.ofBits .f32 0xC3E00000#32))
          (divf f (broadcastTo ⟨3, ![M, H, 128]⟩ (shapeCast ⟨3, ![1, H, 1]⟩ sc h) h')))) hb) h'' (ix2 r c)
      = clip (Ideal.div (g (o + c.val)) (ent₁ sc (c.val / 128))) := by
  have hc := c.isLt
  have he : c.val / 128 < H := by omega
  rw [flat_heads_apply hW _ h'' r c he, head_code_apply, by_head_apply, hf]
  show clip (Ideal.div (g (o + (c.val / 128 * 128 + c.val % 128))) _) = _
  rw [Nat.div_add_mod']
  unfold ent₁
  rw [dif_pos he]

/-- The turn of every head, -/
def turned (v : FVec Ideal ⟨3, ![M, H, 128]⟩ .f32) (cs sn : FVec Ideal ⟨2, ![M, 64]⟩ .f32)
    (h₁ : (⟨3, ![M, H, 128]⟩ : Shape).ShapeCasts ⟨4, ![M, H, 64, 2]⟩) (h₂ : (⟨4, ![M, H, 64, 2]⟩ : Shape).Slices ![0, 0, 0, 0] ⟨4, ![M, H, 64, 1]⟩)
    (h₂' : (⟨4, ![M, H, 64, 2]⟩ : Shape).Slices ![0, 0, 0, 1] ⟨4, ![M, H, 64, 1]⟩)
    (h₃ : (⟨4, ![M, H, 64, 1]⟩ : Shape).ShapeCasts ⟨3, ![M, H, 64]⟩) (h₅ : (⟨2, ![M, 64]⟩ : Shape).ShapeCasts ⟨3, ![M, 1, 64]⟩)
    (h₆ : (⟨3, ![M, 1, 64]⟩ : Shape).Broadcasts ⟨3, ![M, H, 64]⟩) (h₇ : (⟨3, ![M, H, 64]⟩ : Shape).ShapeCasts ⟨4, ![M, H, 64, 1]⟩)
    (h₈ : Shape.Concatenates [⟨4, ![M, H, 64, 1]⟩, ⟨4, ![M, H, 64, 1]⟩] ⟨4, ![M, H, 64, 2]⟩ 3)
    (h₉ : (⟨4, ![M, H, 64, 2]⟩ : Shape).ShapeCasts ⟨3, ![M, H, 128]⟩) : FVec Ideal ⟨3, ![M, H, 128]⟩ .f32 :=
  let a := shapeCast ⟨3, ![M, H, 64]⟩ (extractStridedSlice ⟨4, ![M, H, 64, 1]⟩ ![0, 0, 0, 0] (shapeCast ⟨4, ![M, H, 64, 2]⟩ v h₁) h₂) h₃
  let b := shapeCast ⟨3, ![M, H, 64]⟩ (extractStridedSlice ⟨4, ![M, H, 64, 1]⟩ ![0, 0, 0, 1] (shapeCast ⟨4, ![M, H, 64, 2]⟩ v h₁) h₂') h₃
  let c := broadcastTo ⟨3, ![M, H, 64]⟩ (shapeCast ⟨3, ![M, 1, 64]⟩ cs h₅) h₆
  let s := broadcastTo ⟨3, ![M, H, 64]⟩ (shapeCast ⟨3, ![M, 1, 64]⟩ sn h₅) h₆
  shapeCast ⟨3, ![M, H, 128]⟩ (concatenate ⟨4, ![M, H, 64, 2]⟩ 3
      [⟨⟨4, ![M, H, 64, 1]⟩, shapeCast ⟨4, ![M, H, 64, 1]⟩ (subf (mulf a c) (mulf b s)) h₇⟩,
        ⟨⟨4, ![M, H, 64, 1]⟩, shapeCast ⟨4, ![M, H, 64, 1]⟩ (addf (mulf a s) (mulf b c)) h₇⟩] h₈) h₉

/-- of columns from `o` on of a projection. -/
theorem turned_apply (hW : W = H * 128) (P : (⟨2, ![M, N]⟩ : Shape).Idx → EReal) (o : ℕ) (ho : o % 128 = 0) (hN : o + W ≤ N)
    (hs : (⟨2, ![M, N]⟩ : Shape).Slices ![0, o] ⟨2, ![M, W]⟩) (hh : (⟨2, ![M, W]⟩ : Shape).ShapeCasts ⟨3, ![M, H, 128]⟩)
    (cs sn : FVec Ideal ⟨2, ![M, 64]⟩ .f32) (h₁ h₂ h₂' h₃ h₅ h₆ h₇ h₈ h₉) (r : Fin M) (g : ℕ → EReal) (hg : ∀ c : Fin N, P (ix2 r c) = g c.val)
    (e : Fin H) (j : Fin 128) :
    turned (shapeCast ⟨3, ![M, H, 128]⟩ (extractStridedSlice ⟨2, ![M, W]⟩ ![0, o] P hs) hh) cs sn h₁ h₂ h₂' h₃ h₅ h₆ h₇ h₈ h₉ (ix3 r e j)
      = rotAt g (ent cs r.val) (ent sn r.val) (o + (e.val * 128 + j.val)) := by
  have hE := e.isLt
  have hent : ∀ (x : FVec Ideal ⟨2, ![M, 64]⟩ .f32) (p : Fin 64), x (ix2 r p) = ent x r.val p.val := fun x p => by
    unfold ent
    rw [dif_pos r.isLt, dif_pos p.isLt]
  have h := turn_apply (shapeCast ⟨3, ![M, H, 128]⟩ (extractStridedSlice ⟨2, ![M, W]⟩ ![0, o] P hs) hh) cs sn h₁ h₂ h₂' h₃ h₅ h₆ h₇ h₈ h₉ r e g
    (ent cs r.val) (ent sn r.val) (o + e.val * 128) (by omega) (fun i => by
      have hi := i.isLt
      have hw : e.val * 128 + i.val < W := by rw [hW]; omega
      rw [heads_apply hW _ hh r e i hw, from_apply P o hs r _ (by show o + (e.val * 128 + i.val) < N; omega), hg]
      exact congrArg g (by show o + (e.val * 128 + i.val) = _; omega)) (hent cs) (hent sn) j
  exact h.trans (congrArg _ (by omega))

end

end Cert.Proof

end
-- ==== Proof.QkvRef.lean ====
/- What the reference of the projecting call leaves in its three result arrays: the same functions of the same arguments. -/
module

public import proofs.«01_k».proof.Proof.QkvHeads
public import proofs.«01_k».proof.Proof.Gen.QkvRefIdeal.Value

@[expose] public section

set_option maxRecDepth 16384

noncomputable section

namespace Cert.Proof.QkvR

open Cert.QkvRefIdeal Cert.QkvRefIdeal.Gen Idealize.ShloMosaic Idealize.ShloMosaic.TcCoe Idealize.SL.Sem
open Idealize.ShloMosaic.ValueIdx Cert.Proof
open Idealize.ShloMosaic.Pipeline (Dat)

variable (m : (ℓ : Loc nD τ sig) → Buf (Elt Ideal) ℓ) (ρ : Dev nD → PrngReg)

/-! ## The payloads -/

theorem pay1_apply (v0 : Vec Ideal S10752x12288 .fp8e4m3) (v1 : Vec Ideal S10752x1 .f32) (v2 : Vec Ideal S12288x20480 .fp8e4m3) (cs : (⟨1, ![20480]⟩ : Shape).Idx → EReal) (r : Fin 10752) (c : Fin 20480) :
    k0_pay1 v0 v1 v2 (shapeCast S1x20480 cs shapeCasts_S20480_S1x20480) (ix2 r c) = fused v0 v2 v1 cs r c.val := by
  unfold k0_pay1
  simp only [shapeCast_self]
  refine (proj_apply (φ₁ := .fp8e4m3) (φ₂ := .fp8e4m3) dot_S10752x12288_S12288x20480_S10752x20480_1_0_0_1_n_n rfl v0 v2 v1 (shapeCast S1x20480 cs shapeCasts_S20480_S1x20480)
    broadcasts_S10752x1_S10752x20480 broadcasts_S1x20480_S10752x20480 r c).trans ?_
  unfold fused projRow
  rw [dif_pos c.isLt]

/-- The queries, -/
theorem pay3_eq (v0 : Vec Ideal S10752x12288 .fp8e4m3) (v1 : Vec Ideal S10752x1 .f32) (v2 : Vec Ideal S12288x20480 .fp8e4m3) (cs : (⟨1, ![20480]⟩ : Shape).Idx → EReal) (v14 v15 : Vec Ideal S10752x64 .f32) :
    k0_pay3 v0 v1 v2 (shapeCast S1x20480 cs shapeCasts_S20480_S1x20480) v14 v15 = qOf v0 v2 v1 cs v14 v15 := by
  funext i
  obtain ⟨r, c, rfl⟩ : ∃ (r : Fin 10752) (c : Fin 3072), i = ix2 r c := ⟨_, _, eq_ix2 i⟩
  have hg := pay1_apply v0 v1 v2 cs r
  unfold k0_pay3
  generalize k0_pay1 v0 v1 v2 (shapeCast S1x20480 cs shapeCasts_S20480_S1x20480) = P at hg
  have hc := c.isLt
  have he : c.val / 128 < 24 := by omega
  refine (flat_heads_apply (H := 24) (W := 3072) rfl _ shapeCasts_S10752x24x128_S10752x3072 r c he).trans ?_
  refine (turned_apply (M := 10752) (H := 24) (N := 20480) (W := 3072) rfl P 0 rfl (by norm_num) slices_S10752x20480_o0_0_S10752x3072
    shapeCasts_S10752x3072_S10752x24x128 v14 v15 _ _ _ _ _ _ _ _ _ r (fused v0 v2 v1 cs r) hg ⟨c.val / 128, he⟩ ⟨c.val % 128, by omega⟩).trans ?_
  show rotAt _ _ _ (0 + (c.val / 128 * 128 + c.val % 128)) = rotAt _ _ _ c.val
  rw [Nat.div_add_mod', zero_add]

/-- the key codes -/
theorem pay5_eq (v0 : Vec Ideal S10752x12288 .fp8e4m3) (v1 : Vec Ideal S10752x1 .f32) (v2 : Vec Ideal S12288x20480 .fp8e4m3) (cs : (⟨1, ![20480]⟩ : Shape).Idx → EReal) (v14 v15 : Vec Ideal S10752x64 .f32) (v64 : Vec Ideal S2 .f32) :
    k0_pay5 (k0_pay4 v0 v1 v2 (shapeCast S1x20480 cs shapeCasts_S20480_S1x20480)) v14 v15 v64 = kOf v0 v2 v1 cs v14 v15 v64 := by
  funext i
  obtain ⟨r, c, rfl⟩ : ∃ (r : Fin 10752) (c : Fin 256), i = ix2 r c := ⟨_, _, eq_ix2 i⟩
  have hg := pay1_apply v0 v1 v2 cs r
  unfold k0_pay5 k0_pay4
  generalize k0_pay1 v0 v1 v2 (shapeCast S1x20480 cs shapeCasts_S20480_S1x20480) = P at hg
  exact heads_coded (M := 10752) (H := 2) (W := 256) rfl _ v64 shapeCasts_S2_S1x2x1 broadcasts_S1x2x1_S10752x2x128 bitsLt_fp8e4m3_f32
    shapeCasts_S10752x2x128_S10752x256 (rotAt (fused v0 v2 v1 cs r) (ent v14 r.val) (ent v15 r.val)) 3072 r (fun e j =>
      turned_apply (M := 10752) (H := 2) (N := 20480) (W := 256) rfl P 3072 rfl (by norm_num) slices_S10752x20480_o0_3072_S10752x256
        shapeCasts_S10752x256_S10752x2x128 v14 v15 _ _ _ _ _ _ _ _ _ r (fused v0 v2 v1 cs r) hg e j) c

/-- and the value codes. -/
theorem pay6_eq (v0 : Vec Ideal S10752x12288 .fp8e4m3) (v1 : Vec Ideal S10752x1 .f32) (v2 : Vec Ideal S12288x20480 .fp8e4m3) (cs : (⟨1, ![20480]⟩ : Shape).Idx → EReal) (v76 : Vec Ideal S2 .f32) :
    k0_pay6 (k0_pay2 v0 v1 v2 (shapeCast S1x20480 cs shapeCasts_S20480_S1x20480)) v76 = vOf v0 v2 v1 cs v76 := by
  funext i
  obtain ⟨r, c, rfl⟩ : ∃ (r : Fin 10752) (c : Fin 256), i = ix2 r c := ⟨_, _, eq_ix2 i⟩
  have hg := pay1_apply v0 v1 v2 cs r
  unfold k0_pay6 k0_pay2
  generalize k0_pay1 v0 v1 v2 (shapeCast S1x20480 cs shapeCasts_S20480_S1x20480) = P at hg
  exact heads_coded (M := 10752) (H := 2) (W := 256) rfl _ v76 shapeCasts_S2_S1x2x1 broadcasts_S1x2x1_S10752x2x128 bitsLt_fp8e4m3_f32
    shapeCasts_S10752x2x128_S10752x256 (fused v0 v2 v1 cs r) 3328 r (fun e j => by
      have he := e.isLt
      have hw : e.val * 128 + j.val < 256 := by omega
      refine (heads_apply (M := 10752) (H := 2) (W := 256) rfl _ shapeCasts_S10752x256_S10752x2x128 r e j hw).trans ?_
      exact (from_apply (M := 10752) (N := 20480) (W := 256) P 3328 slices_S10752x20480_o0_3328_S10752x256 r ⟨_, hw⟩ (by show 3328 + (e.val * 128 + j.val) < 20480; omega)).trans (hg _)) c

/-! ## The arrays -/

theorem hz : (![0, 0] : Fin 2 → Nat) = fun _ => 0 := funext fun a => by fin_cases a <;> rfl
theorem hz₁ : (![0] : Fin 1 → Nat) = fun _ => 0 := funext fun a => by fin_cases a; rfl

theorem out8_eq (x0 : Vec Ideal S10752x12288 .fp8e4m3) (x1 : Vec Ideal S12288x20480 .fp8e4m3) (x2 : Vec Ideal S10752x1 .f32) (x3 : Vec Ideal S1x20480 .f32) (x4 x5 : Vec Ideal S10752x64 .f32) (x6 x7 : Vec Ideal S2 .f32) : out0_8 x0 x1 x2 x3 x4 x5 x6 x7 = k0_pay3 x0 x2 x1 x3 x4 x5 := by
  unfold out0_8
  rw [View.canon_unit_zero hz, View.ld_unit_zero (S := S10752x12288) hz, View.ld_unit_zero (S := S10752x1) hz, View.ld_unit_zero (S := S12288x20480) hz, View.ld_unit_zero (S := S1x20480) hz, View.ld_unit_zero (S := S10752x64) hz, View.ld_unit_zero (S := S10752x64) hz]

theorem out9_eq (x0 : Vec Ideal S10752x12288 .fp8e4m3) (x1 : Vec Ideal S12288x20480 .fp8e4m3) (x2 : Vec Ideal S10752x1 .f32) (x3 : Vec Ideal S1x20480 .f32) (x4 x5 : Vec Ideal S10752x64 .f32) (x6 x7 : Vec Ideal S2 .f32) : out0_9 x0 x1 x2 x3 x4 x5 x6 x7 = k0_pay5 (k0_pay4 x0 x2 x1 x3) x4 x5 x6 := by
  unfold out0_9
  rw [View.canon_unit_zero hz, View.ld_unit_zero (S := S10752x12288) hz, View.ld_unit_zero (S := S10752x1) hz, View.ld_unit_zero (S := S12288x20480) hz, View.ld_unit_zero (S := S1x20480) hz, View.ld_unit_zero (S := S10752x64) hz, View.ld_unit_zero (S := S10752x64) hz, View.ld_unit_zero (S := S2) hz₁]

theorem out10_eq (x0 : Vec Ideal S10752x12288 .fp8e4m3) (x1 : Vec Ideal S12288x20480 .fp8e4m3) (x2 : Vec Ideal S10752x1 .f32) (x3 : Vec Ideal S1x20480 .f32) (x4 x5 : Vec Ideal S10752x64 .f32) (x6 x7 : Vec Ideal S2 .f32) : out0_10 x0 x1 x2 x3 x4 x5 x6 x7 = k0_pay6 (k0_pay2 x0 x2 x1 x3) x7 := by
  unfold out0_10
  rw [View.canon_unit_zero hz, View.ld_unit_zero (S := S10752x12288) hz, View.ld_unit_zero (S := S10752x1) hz, View.ld_unit_zero (S := S12288x20480) hz, View.ld_unit_zero (S := S1x20480) hz, View.ld_unit_zero (S := S2) hz₁]

theorem V_v0 (c : Dev nD) : V m c main_v0 = shapeCast S1x20480 (m ((c : Thread nD τ).loc main_arg3)) shapeCasts_S20480_S1x20480 := by
  show StableHlo.after hostOps0 _ _ = _
  rw [StableHlo.after_cons, StableHlo.after_nil, StableHlo.reshape_result]
  rfl

/-- Each window is its whole array. -/
theorem idx_facts : ∀ (t : Fin cfg0.N) (a : Fin 2),
    win0_0.index t a = 0 ∧ win0_1.index t a = 0 ∧ win0_2.index t a = 0 ∧ win0_3.index t a = 0 ∧ win0_4.index t a = 0
    ∧ win0_5.index t a = 0 ∧ win0_8.index t a = 0 ∧ win0_9.index t a = 0 ∧ win0_10.index t a = 0 :=
  (by decide +kernel : ∀ (t : Fin grid0.N) (a : Fin 2), _)
theorem idx_facts₁ : ∀ (t : Fin cfg0.N) (a : Fin 1), win0_6.index t a = 0 ∧ win0_7.index t a = 0 :=
  (by decide +kernel : ∀ (t : Fin grid0.N) (a : Fin 1), _)

theorem iblk0 (c : Dev nD) (t : Fin cfg0.N) : iblk m c 0 t = V m c main_arg0 := by
  obtain ⟨a0, a1, a2, a3, a4, a5, a8, a9, a10⟩ := idx_facts t 0
  obtain ⟨b0, b1, b2, b3, b4, b5, b8, b9, b10⟩ := idx_facts t 1
  funext j
  refine congrArg (V m c main_arg0) (Shape.idx_ext₂ ?_ ?_)
  · show win0_0.index t (0 : Fin 2) * 10752 + 1 * (j 0).val = (j 0).val; omega
  · show win0_0.index t (1 : Fin 2) * 12288 + 1 * (j 1).val = (j 1).val; omega

theorem iblk1 (c : Dev nD) (t : Fin cfg0.N) : iblk m c 1 t = V m c main_arg1 := by
  obtain ⟨a0, a1, a2, a3, a4, a5, a8, a9, a10⟩ := idx_facts t 0
  obtain ⟨b0, b1, b2, b3, b4, b5, b8, b9, b10⟩ := idx_facts t 1
  funext j
  refine congrArg (V m c main_arg1) (Shape.idx_ext₂ ?_ ?_)
  · show win0_1.index t (0 : Fin 2) * 12288 + 1 * (j 0).val = (j 0).val; omega
  · show win0_1.index t (1 : Fin 2) * 20480 + 1 * (j 1).val = (j 1).val; omega

theorem iblk2 (c : Dev nD) (t : Fin cfg0.N) : iblk m c 2 t = V m c main_arg2 := by
  obtain ⟨a0, a1, a2, a3, a4, a5, a8, a9, a10⟩ := idx_facts t 0
  obtain ⟨b0, b1, b2, b3, b4, b5, b8, b9, b10⟩ := idx_facts t 1
  funext j
  refine congrArg (V m c main_arg2) (Shape.idx_ext₂ ?_ ?_)
  · show win0_2.index t (0 : Fin 2) * 10752 + 1 * (j 0).val = (j 0).val; omega
  · show win0_2.index t (1 : Fin 2) * 1 + 1 * (j 1).val = (j 1).val; omega

theorem iblk3 (c : Dev nD) (t : Fin cfg0.N) : iblk m c 3 t = V m c main_v0 := by
  obtain ⟨a0, a1, a2, a3, a4, a5, a8, a9, a10⟩ := idx_facts t 0
  obtain ⟨b0, b1, b2, b3, b4, b5, b8, b9, b10⟩ := idx_facts t 1
  funext j
  refine congrArg (V m c main_v0) (Shape.idx_ext₂ ?_ ?_)
  · show win0_3.index t (0 : Fin 2) * 1 + 1 * (j 0).val = (j 0).val; omega
  · show win0_3.index t (1 : Fin 2) * 20480 + 1 * (j 1).val = (j 1).val; omega

theorem iblk4 (c : Dev nD) (t : Fin cfg0.N) : iblk m c 4 t = V m c main_arg4 := by
  obtain ⟨a0, a1, a2, a3, a4, a5, a8, a9, a10⟩ := idx_facts t 0
  obtain ⟨b0, b1, b2, b3, b4, b5, b8, b9, b10⟩ := idx_facts t 1
  funext j
  refine congrArg (V m c main_arg4) (Shape.idx_ext₂ ?_ ?_)
  · show win0_4.index t (0 : Fin 2) * 10752 + 1 * (j 0).val = (j 0).val; omega
  · show win0_4.index t (1 : Fin 2) * 64 + 1 * (j 1).val = (j 1).val; omega

theorem iblk5 (c : Dev nD) (t : Fin cfg0.N) : iblk m c 5 t = V m c main_arg5 := by
  obtain ⟨a0, a1, a2, a3, a4, a5, a8, a9, a10⟩ := idx_facts t 0
  obtain ⟨b0, b1, b2, b3, b4, b5, b8, b9, b10⟩ := idx_facts t 1
  funext j
  refine congrArg (V m c main_arg5) (Shape.idx_ext₂ ?_ ?_)
  · show win0_5.index t (0 : Fin 2) * 10752 + 1 * (j 0).val = (j 0).val; omega
  · show win0_5.index t (1 : Fin 2) * 64 + 1 * (j 1).val = (j 1).val; omega

theorem iblk6 (c : Dev nD) (t : Fin cfg0.N) : iblk m c 6 t = V m c main_arg6 := by
  obtain ⟨a6, a7⟩ := idx_facts₁ t 0
  refine funext fun j => congrArg (V m c main_arg6) (funext fun b => Fin.ext ?_)
  match b with
  | ⟨0, _⟩ => show win0_6.index t (0 : Fin 1) * 2 + 1 * (j 0).val = (j 0).val; omega

theorem iblk7 (c : Dev nD) (t : Fin cfg0.N) : iblk m c 7 t = V m c main_arg7 := by
  obtain ⟨a6, a7⟩ := idx_facts₁ t 0
  refine funext fun j => congrArg (V m c main_arg7) (funext fun b => Fin.ext ?_)
  match b with
  | ⟨0, _⟩ => show win0_7.index t (0 : Fin 1) * 2 + 1 * (j 0).val = (j 0).val; omega

theorem emb8 (t : Fin cfg0.N) (j : S10752x3072.Idx) : ((cfg0.win 8).blk t).view.emb j = j := by
  obtain ⟨a0, a1, a2, a3, a4, a5, a8, a9, a10⟩ := idx_facts t 0
  obtain ⟨b0, b1, b2, b3, b4, b5, b8, b9, b10⟩ := idx_facts t 1
  refine Shape.idx_ext₂ ?_ ?_
  · show win0_8.index t (0 : Fin 2) * 10752 + 1 * (j 0).val = (j 0).val; omega
  · show win0_8.index t (1 : Fin 2) * 3072 + 1 * (j 1).val = (j 1).val; omega

theorem emb9 (t : Fin cfg0.N) (j : S10752x256.Idx) : ((cfg0.win 9).blk t).view.emb j = j := by
  obtain ⟨a0, a1, a2, a3, a4, a5, a8, a9, a10⟩ := idx_facts t 0
  obtain ⟨b0, b1, b2, b3, b4, b5, b8, b9, b10⟩ := idx_facts t 1
  refine Shape.idx_ext₂ ?_ ?_
  · show win0_9.index t (0 : Fin 2) * 10752 + 1 * (j 0).val = (j 0).val; omega
  · show win0_9.index t (1 : Fin 2) * 256 + 1 * (j 1).val = (j 1).val; omega

theorem emb10 (t : Fin cfg0.N) (j : S10752x256.Idx) : ((cfg0.win 10).blk t).view.emb j = j := by
  obtain ⟨a0, a1, a2, a3, a4, a5, a8, a9, a10⟩ := idx_facts t 0
  obtain ⟨b0, b1, b2, b3, b4, b5, b8, b9, b10⟩ := idx_facts t 1
  refine Shape.idx_ext₂ ?_ ?_
  · show win0_10.index t (0 : Fin 2) * 10752 + 1 * (j 0).val = (j 0).val; omega
  · show win0_10.index t (1 : Fin 2) * 256 + 1 * (j 1).val = (j 1).val; omega

/-! ## The three results after the run, of the arguments as launched -/

theorem final8 (c : Dev nD) : (dats m 0 c).arrAt 8 cfg0.N = qOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 8 _ (fun t _ => ?_) fun i =>
    ⟨⟨0, by decide⟩, flush0_8 _, by
      have h := ((cfg0.win 8).blk ⟨0, by decide⟩).view.emb_mem_set i; rwa [emb8] at h⟩
  rw [Value.flushed8, out8_eq, iblk0, iblk1, iblk2, iblk3, iblk4, iblk5, V_v0, pay3_eq, V_main_arg0, V_main_arg1, V_main_arg2, V_main_arg4, V_main_arg5]
  funext j
  show _ = qOf _ _ _ _ _ _ (((cfg0.win 8).blk t).view.emb j)
  rw [emb8]

theorem final9 (c : Dev nD) : (dats m 0 c).arrAt 9 cfg0.N = kOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_cover 9 _ (fun t _ => ?_) fun i =>
    ⟨⟨0, by decide⟩, flush0_9 _, by
      have h := ((cfg0.win 9).blk ⟨0, by decide⟩).view.emb_mem_set i; rwa [emb9] at h⟩
  rw [Value.flushed9, out9_eq, iblk0, iblk1, iblk2, iblk3, iblk4, iblk5, iblk6, V_v0, pay5_eq, V_main_arg0, V_main_arg1, V_main_arg2, V_main_arg4, V_main_arg5, V_main_arg6]
  funext j
  show _ = kOf _ _ _ _ _ _ _ (((cfg0.win 9).blk t).view.emb j)
  rw [emb9]

theorem final10 (c : Dev nD) : (dats m 0 c).arrAt 10 cfg0.N = vOf (m ((c : Thread nD τ).loc main_arg0)) (m ((c : Thread nD τ).loc main_arg1)) (m ((c : Thread nD τ).loc main_arg2)) (m ((c : Thread nD τ).loc main_arg3)) (m ((c : Thread nD τ).loc main_arg7)) := by
  refine (dats m 0 c).arrAt_eq_of_cover 10 _ (fun t _ => ?_) fun i =>
    ⟨⟨0, by decide⟩, flush0_10 _, by
      have h := ((cfg0.win 10).blk ⟨0, by decide⟩).view.emb_mem_set i; rwa [emb10] at h⟩
  rw [Value.flushed10, out10_eq, iblk0, iblk1, iblk2, iblk3, iblk7, V_v0, pay6_eq, V_main_arg0, V_main_arg1, V_main_arg2, V_main_arg7]
  funext j
  show _ = vOf _ _ _ _ _ (((cfg0.win 10).blk t).view.emb j)
  rw [emb10]

end Cert.Proof.QkvR

end
-- ==== Proof.QkvClaim.lean ====
/- The projection of queries, keys and values and its reference leave equal results. -/
module

public import proofs.«01_k».proof.Proof.QkvValue
public import proofs.«01_k».proof.Proof.QkvRef
public import proofs.«01_k».proof.Defs

@[expose] public section

noncomputable section

namespace Cert.Proof

open Idealize.ShloMosaic Idealize.ShloMosaic.TcCoe Idealize.SL.Sem
open Cert.QkvIdeal.Hand (q k v)

/-- Equal arguments give equal results. -/
theorem qkv_algebraic :
    algebraic_QkvIdeal_QkvRefIdeal (hQkvIdeal := Cert.QkvIdeal.Gen.facts) (hQkvRefIdeal := Cert.QkvRefIdeal.Gen.facts) := by
  intro m g m' g' _ hm
  refine ⟨fun c => q m c, fun c => k m c, fun c => v m c, Cert.QkvIdeal.Hand.run m g, ?_⟩
  refine (θ_run _ _ _).mono (fun r h c => ?_) (Cert.QkvRefIdeal.Value.run_blocks m' g')
  obtain ⟨h0, h1, h2, h⟩ := h c
  obtain ⟨a0, a1, a2, a3, a4, a5, a6, a7⟩ := hm c
  refine ⟨h0.trans ((QkvR.final8 m' c).trans ?_), h1.trans ((QkvR.final9 m' c).trans ?_), h2.trans ((QkvR.final10 m' c).trans ?_), h⟩
  · exact congr (congr (congr (congr (congr (congrArg qOf a0) a1) a2) a3) a4) a5
  · exact congr (congr (congr (congr (congr (congr (congrArg kOf a0) a1) a2) a3) a4) a5) a6
  · exact congr (congr (congr (congr (congrArg vOf a0) a1) a2) a3) a7

end Cert.Proof

end
-- ==== Proof.QkvFrame.lean ====
/- The printed program and the one read over the reals are one program, so the frame of the second is the first's. -/
module

public import proofs.«01_k».proof.Proof.QkvDat
public import proofs.«01_k».proof.Proof.Gen.Qkv.Frame

@[expose] public section

set_option maxRecDepth 65536

noncomputable section

namespace Cert.Qkv.Hand

open Cert.Qkv Idealize.ShloMosaic Idealize.ShloMosaic.TcCoe Idealize.SL.Sem

variable {F : FTy → Type} [FloatOps F]

theorem body_eq : @Cert.Qkv.cc0_qkv_proj F _ _ = @Cert.QkvIdeal.cc0_qkv_proj F _ _ := rfl

theorem defs₀_eq : @Cert.Qkv.defs₀ F _ _ = @Cert.QkvIdeal.defs₀ F _ _ := by
  unfold Cert.Qkv.defs₀ Cert.QkvIdeal.defs₀
  congr 1
  funext a b
  match a, b with
  | 0, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _

theorem defs_eq : @Cert.Qkv.defs F _ _ = @Cert.QkvIdeal.defs F _ _ := by
  unfold Cert.Qkv.defs Cert.QkvIdeal.defs
  exact congrArg (Idealize.ShloMosaic.Pipeline.defs Cert.QkvIdeal.pcfgs) defs₀_eq

set_option maxHeartbeats 4000000 in
theorem main_eq (c : Dev nD) : @Cert.Qkv.main F _ _ c = @Cert.QkvIdeal.main F _ _ c := rfl

/-- A run of equal programs. -/
theorem run_congr {Λ : Labels} {d d' : Defs nD τ sig (Elt F) Λ} {p p' : (c : Thread nD τ) → Prog (TpuEff nD τ sig (Elt F) Λ c.2) PUnit} (hd : d = d') (hp : p = p')
    {σ} {Φ} (h : θ_run d' p' σ Φ) : θ_run d p σ Φ := by
  subst hd hp; exact h

/-- The argument arrays end unchanged, and every counter at zero. -/
theorem frame (m : (ℓ : Loc nD τ sig) → Buf (Elt F) ℓ) (ρ : Dev nD → PrngReg) :
    θ_run (Cert.Qkv.defs (F := F)) (onTc (τ := τ) (Cert.Qkv.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  exact run_congr (defs_eq (F := F)) (congrArg (onTc (τ := τ)) (funext (main_eq (F := F)))) (Cert.QkvIdeal.Hand.frame (F := F) m ρ)

end Cert.Qkv.Hand

end
-- ==== Proof.lean ====
module

public import proofs.«01_k».proof.Defs
public import proofs.«01_k».proof.Proof.Gen.Mlp.Frame
public import proofs.«01_k».proof.Proof.Gen.MlpIdeal.Frame
public import proofs.«01_k».proof.Proof.Gen.MlpRefIdeal.Frame
public import proofs.«01_k».proof.Proof.MlpClaim
public import proofs.«01_k».proof.Proof.BackClaim
public import proofs.«01_k».proof.Proof.LnClaim
public import proofs.«01_k».proof.Proof.QkvClaim
public import proofs.«01_k».proof.Proof.QkvFrame
public import proofs.«01_k».proof.Proof.Gen.Qkv.Frame
public import proofs.«01_k».proof.Proof.Gen.QkvIdeal.Frame
public import proofs.«01_k».proof.Proof.Gen.QkvRefIdeal.Value
public import proofs.«01_k».proof.Proof.Gen.Ln.Frame
public import proofs.«01_k».proof.Proof.Gen.LnIdeal.Value
public import proofs.«01_k».proof.Proof.Gen.LnRefIdeal.Value
public import proofs.«01_k».proof.Proof.Gen.Back.Frame
public import proofs.«01_k».proof.Proof.Gen.BackIdeal.Frame
public import proofs.«01_k».proof.Proof.Gen.BackRefIdeal.Value

@[expose] public section

noncomputable section

namespace Cert.Proof

open Idealize.ShloMosaic Idealize.SL.Sem

theorem claim : Cert.Claim :=
  ⟨Cert.Back.Gen.facts, Cert.BackIdeal.Gen.facts, Cert.BackRefIdeal.Gen.facts,
    Cert.Mlp.Gen.facts, Cert.MlpIdeal.Gen.facts, Cert.MlpRefIdeal.Gen.facts,
    Cert.Ln.Gen.facts, Cert.LnIdeal.Gen.facts, Cert.LnRefIdeal.Gen.facts,
    Cert.Qkv.Gen.facts, Cert.QkvIdeal.Gen.facts, Cert.QkvRefIdeal.Gen.facts,
    fun m g _ => Cert.Back.Gen.frame m g, fun m g _ => Cert.BackIdeal.Gen.frame m g, fun m g _ => Cert.BackRefIdeal.Gen.frame m g,
    fun m g _ => Cert.Mlp.Gen.frame m g, fun m g _ => Cert.MlpIdeal.Gen.frame m g, fun m g _ => Cert.MlpRefIdeal.Gen.frame m g,
    fun m g _ => Cert.Ln.Gen.frame m g, fun m g _ => Cert.LnIdeal.Gen.frame m g, fun m g _ => Cert.LnRefIdeal.Gen.frame m g,
    fun m g _ => Cert.Qkv.Hand.frame m g, fun m g _ => Cert.QkvIdeal.Hand.frame m g, fun m g _ => Cert.QkvRefIdeal.Gen.frame m g,
    trivial, back_algebraic, trivial, mlp_algebraic,
    IdealRules.named_const.statement _ _ _ _ _ rfl, ln_algebraic,
    trivial, qkv_algebraic⟩

end Cert.Proof

end
